-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def Pre_KernelE [hPre_routed : Cert.Pre_routed.Facts] (m : (ℓ : Loc Cert.KernelE.nD Cert.KernelE.τ Cert.KernelE.sig) → Buf (Elt Bits) ℓ) : Prop :=
  ∀ c : Dev Cert.KernelE.nD,
    (Cert.Pre_routed.fn (F := Bits) (m ((c.tc : Thread Cert.KernelE.nD Cert.KernelE.τ).loc Cert.KernelE.main_arg0)) (m ((c.tc : Thread Cert.KernelE.nD Cert.KernelE.τ).loc Cert.KernelE.main_arg1)) (m ((c.tc : Thread Cert.KernelE.nD Cert.KernelE.τ).loc Cert.KernelE.main_arg2)) (m ((c.tc : Thread Cert.KernelE.nD Cert.KernelE.τ).loc Cert.KernelE.main_arg3)) (m ((c.tc : Thread Cert.KernelE.nD Cert.KernelE.τ).loc Cert.KernelE.main_arg4)) (m ((c.tc : Thread Cert.KernelE.nD Cert.KernelE.τ).loc Cert.KernelE.main_arg5))) = (fun _ => 1#1)

def Pre_KernelEIdeal [hPre_routed : Cert.Pre_routed.Facts] (m : (ℓ : Loc Cert.KernelEIdeal.nD Cert.KernelEIdeal.τ Cert.KernelEIdeal.sig) → Buf (Elt Ideal) ℓ) : Prop :=
  ∀ c : Dev Cert.KernelEIdeal.nD,
    (Cert.Pre_routed.fn (F := Ideal) (m ((c.tc : Thread Cert.KernelEIdeal.nD Cert.KernelEIdeal.τ).loc Cert.KernelEIdeal.main_arg0)) (m ((c.tc : Thread Cert.KernelEIdeal.nD Cert.KernelEIdeal.τ).loc Cert.KernelEIdeal.main_arg1)) (m ((c.tc : Thread Cert.KernelEIdeal.nD Cert.KernelEIdeal.τ).loc Cert.KernelEIdeal.main_arg2)) (m ((c.tc : Thread Cert.KernelEIdeal.nD Cert.KernelEIdeal.τ).loc Cert.KernelEIdeal.main_arg3)) (m ((c.tc : Thread Cert.KernelEIdeal.nD Cert.KernelEIdeal.τ).loc Cert.KernelEIdeal.main_arg4)) (m ((c.tc : Thread Cert.KernelEIdeal.nD Cert.KernelEIdeal.τ).loc Cert.KernelEIdeal.main_arg5))) = (fun _ => 1#1)

def Pre_ReferenceEIdeal (m : (ℓ : Loc Cert.ReferenceEIdeal.nD Cert.ReferenceEIdeal.τ Cert.ReferenceEIdeal.sig) → Buf (Elt Ideal) ℓ) : Prop :=
  True

def Pre_ReferenceEIdeal_routed [hPre_routed : Cert.Pre_routed.Facts] (m : (ℓ : Loc Cert.ReferenceEIdeal.nD Cert.ReferenceEIdeal.τ Cert.ReferenceEIdeal.sig) → Buf (Elt Ideal) ℓ) : Prop :=
  ∀ c : Dev Cert.ReferenceEIdeal.nD,
    (Cert.Pre_routed.fn (F := Ideal) (m ((c.tc : Thread Cert.ReferenceEIdeal.nD Cert.ReferenceEIdeal.τ).loc Cert.ReferenceEIdeal.main_arg0)) (m ((c.tc : Thread Cert.ReferenceEIdeal.nD Cert.ReferenceEIdeal.τ).loc Cert.ReferenceEIdeal.main_arg1)) (m ((c.tc : Thread Cert.ReferenceEIdeal.nD Cert.ReferenceEIdeal.τ).loc Cert.ReferenceEIdeal.main_arg2)) (m ((c.tc : Thread Cert.ReferenceEIdeal.nD Cert.ReferenceEIdeal.τ).loc Cert.ReferenceEIdeal.main_arg3)) (m ((c.tc : Thread Cert.ReferenceEIdeal.nD Cert.ReferenceEIdeal.τ).loc Cert.ReferenceEIdeal.main_arg4)) (m ((c.tc : Thread Cert.ReferenceEIdeal.nD Cert.ReferenceEIdeal.τ).loc Cert.ReferenceEIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3))
      ∧ r.2.sem = fun _ => 0)

def quiescent_KernelE [hKernelE : Cert.KernelE.Facts] [hPre_routed : Cert.Pre_routed.Facts] : Prop :=
  ∀ (m : (ℓ : Loc Cert.KernelE.nD Cert.KernelE.τ Cert.KernelE.sig) → Buf (Elt Bits) ℓ) (g : Dev Cert.KernelE.nD → PrngReg), Pre_KernelE m →
    θ_run (Cert.KernelE.defs (F := Bits)) (onTc (τ := Cert.KernelE.τ) (Cert.KernelE.main (F := Bits))) ⟨m, fun _ => 0, g⟩ (fun r => (∀ c : Dev Cert.KernelE.nD,
      r.2.mem ((c.tc : Thread Cert.KernelE.nD Cert.KernelE.τ).loc Cert.KernelE.main_arg0) = m ((c.tc : Thread Cert.KernelE.nD Cert.KernelE.τ).loc Cert.KernelE.main_arg0)
      ∧ r.2.mem ((c.tc : Thread Cert.KernelE.nD Cert.KernelE.τ).loc Cert.KernelE.main_arg1) = m ((c.tc : Thread Cert.KernelE.nD Cert.KernelE.τ).loc Cert.KernelE.main_arg1)
      ∧ r.2.mem ((c.tc : Thread Cert.KernelE.nD Cert.KernelE.τ).loc Cert.KernelE.main_arg2) = m ((c.tc : Thread Cert.KernelE.nD Cert.KernelE.τ).loc Cert.KernelE.main_arg2)
      ∧ r.2.mem ((c.tc : Thread Cert.KernelE.nD Cert.KernelE.τ).loc Cert.KernelE.main_arg3) = m ((c.tc : Thread Cert.KernelE.nD Cert.KernelE.τ).loc Cert.KernelE.main_arg3)
      ∧ r.2.mem ((c.tc : Thread Cert.KernelE.nD Cert.KernelE.τ).loc Cert.KernelE.main_arg4) = m ((c.tc : Thread Cert.KernelE.nD Cert.KernelE.τ).loc Cert.KernelE.main_arg4)
      ∧ r.2.mem ((c.tc : Thread Cert.KernelE.nD Cert.KernelE.τ).loc Cert.KernelE.main_arg5) = m ((c.tc : Thread Cert.KernelE.nD Cert.KernelE.τ).loc Cert.KernelE.main_arg5))
      ∧ r.2.sem = fun _ => 0)

def quiescent_KernelEIdeal [hKernelEIdeal : Cert.KernelEIdeal.Facts] [hPre_routed : Cert.Pre_routed.Facts] : Prop :=
  ∀ (m : (ℓ : Loc Cert.KernelEIdeal.nD Cert.KernelEIdeal.τ Cert.KernelEIdeal.sig) → Buf (Elt Ideal) ℓ) (g : Dev Cert.KernelEIdeal.nD → PrngReg), Pre_KernelEIdeal m →
    θ_run (Cert.KernelEIdeal.defs (F := Ideal)) (onTc (τ := Cert.KernelEIdeal.τ) (Cert.KernelEIdeal.main (F := Ideal))) ⟨m, fun _ => 0, g⟩ (fun r => (∀ c : Dev Cert.KernelEIdeal.nD,
      r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
      ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
      ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
      ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
      ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
      ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5))
      ∧ r.2.sem = fun _ => 0)

def quiescent_ReferenceEIdeal [hReferenceEIdeal : Cert.ReferenceEIdeal.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4)
      ∧ r.2.mem ((c.tc : Thread Cert.ReferenceEIdeal.nD Cert.ReferenceEIdeal.τ).loc Cert.ReferenceEIdeal.main_arg5) = m ((c.tc : Thread Cert.ReferenceEIdeal.nD Cert.ReferenceEIdeal.τ).loc Cert.ReferenceEIdeal.main_arg5))
      ∧ r.2.sem = fun _ => 0)

def quiescent_ReferenceEIdeal_pre_routed [hReferenceEIdeal : Cert.ReferenceEIdeal.Facts] [hPre_routed : Cert.Pre_routed.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal_routed m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4)
      ∧ r.2.mem ((c.tc : Thread Cert.ReferenceEIdeal.nD Cert.ReferenceEIdeal.τ).loc Cert.ReferenceEIdeal.main_arg5) = m ((c.tc : Thread Cert.ReferenceEIdeal.nD Cert.ReferenceEIdeal.τ).loc Cert.ReferenceEIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v2)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v2) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v10) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)) →
    ∃ (v0 : (c : Dev Cert.KernelDIdeal.nD) → Buf (Elt Ideal) ((c.tc : Thread Cert.KernelDIdeal.nD Cert.KernelDIdeal.τ).loc Cert.KernelDIdeal.main_v2)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v2) = v0 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v9) = v0 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)) →
    ∃ (v0 : (c : Dev Cert.KernelMIdeal.nD) → Buf (Elt Ideal) ((c.tc : Thread Cert.KernelMIdeal.nD Cert.KernelMIdeal.τ).loc Cert.KernelMIdeal.main_v1)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v1) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v22) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v4) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)) →
    ∃ (v0 : (c : Dev Cert.KernelFIdeal.nD) → Buf (Elt Ideal) ((c.tc : Thread Cert.KernelFIdeal.nD Cert.KernelFIdeal.τ).loc Cert.KernelFIdeal.main_v0)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v0) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v12) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3))

def preserves_KernelE_KernelEIdeal : Prop :=
  True

def algebraic_KernelEIdeal_ReferenceEIdeal [hKernelEIdeal : Cert.KernelEIdeal.Facts] [hReferenceEIdeal : Cert.ReferenceEIdeal.Facts] [hPre_routed : Cert.Pre_routed.Facts] : Prop :=
  ∀ (m : (ℓ : Loc Cert.KernelEIdeal.nD Cert.KernelEIdeal.τ Cert.KernelEIdeal.sig) → Buf (Elt Ideal) ℓ) (g : Dev Cert.KernelEIdeal.nD → PrngReg)
    (m' : (ℓ : Loc Cert.ReferenceEIdeal.nD Cert.ReferenceEIdeal.τ Cert.ReferenceEIdeal.sig) → Buf (Elt Ideal) ℓ) (g' : Dev Cert.ReferenceEIdeal.nD → PrngReg), Pre_KernelEIdeal m →
    (∀ c : Dev Cert.KernelEIdeal.nD,
      m' ((c.tc : Thread Cert.ReferenceEIdeal.nD Cert.ReferenceEIdeal.τ).loc Cert.ReferenceEIdeal.main_arg0) = m ((c.tc : Thread Cert.KernelEIdeal.nD Cert.KernelEIdeal.τ).loc Cert.KernelEIdeal.main_arg0)
      ∧ m' ((c.tc : Thread Cert.ReferenceEIdeal.nD Cert.ReferenceEIdeal.τ).loc Cert.ReferenceEIdeal.main_arg1) = m ((c.tc : Thread Cert.KernelEIdeal.nD Cert.KernelEIdeal.τ).loc Cert.KernelEIdeal.main_arg1)
      ∧ m' ((c.tc : Thread Cert.ReferenceEIdeal.nD Cert.ReferenceEIdeal.τ).loc Cert.ReferenceEIdeal.main_arg2) = m ((c.tc : Thread Cert.KernelEIdeal.nD Cert.KernelEIdeal.τ).loc Cert.KernelEIdeal.main_arg2)
      ∧ m' ((c.tc : Thread Cert.ReferenceEIdeal.nD Cert.ReferenceEIdeal.τ).loc Cert.ReferenceEIdeal.main_arg3) = m ((c.tc : Thread Cert.KernelEIdeal.nD Cert.KernelEIdeal.τ).loc Cert.KernelEIdeal.main_arg3)
      ∧ m' ((c.tc : Thread Cert.ReferenceEIdeal.nD Cert.ReferenceEIdeal.τ).loc Cert.ReferenceEIdeal.main_arg4) = m ((c.tc : Thread Cert.KernelEIdeal.nD Cert.KernelEIdeal.τ).loc Cert.KernelEIdeal.main_arg4)
      ∧ m' ((c.tc : Thread Cert.ReferenceEIdeal.nD Cert.ReferenceEIdeal.τ).loc Cert.ReferenceEIdeal.main_arg5) = m ((c.tc : Thread Cert.KernelEIdeal.nD Cert.KernelEIdeal.τ).loc Cert.KernelEIdeal.main_arg5)) →
    ∃ (v0 : (c : Dev Cert.KernelEIdeal.nD) → Buf (Elt Ideal) ((c.tc : Thread Cert.KernelEIdeal.nD Cert.KernelEIdeal.τ).loc Cert.KernelEIdeal.main_v116)),
      θ_run (Cert.KernelEIdeal.defs (F := Ideal)) (onTc (τ := Cert.KernelEIdeal.τ) (Cert.KernelEIdeal.main (F := Ideal))) ⟨m, fun _ => 0, g⟩ (fun r => ∀ c : Dev Cert.KernelEIdeal.nD,
          r.2.mem ((c.tc : Thread Cert.KernelEIdeal.nD Cert.KernelEIdeal.τ).loc Cert.KernelEIdeal.main_v116) = v0 c
          ∧ r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
          ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
          ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
          ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
          ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
          ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5))
      ∧ θ_run (Cert.ReferenceEIdeal.defs (F := Ideal)) (onTc (τ := Cert.ReferenceEIdeal.τ) (Cert.ReferenceEIdeal.main (F := Ideal))) ⟨m', fun _ => 0, g'⟩ (fun r => ∀ c : Dev Cert.ReferenceEIdeal.nD,
          r.2.mem ((c.tc : Thread Cert.ReferenceEIdeal.nD Cert.ReferenceEIdeal.τ).loc Cert.ReferenceEIdeal.main_v29) = v0 c
          ∧ r.2.mem ((c.tc : Thread Cert.ReferenceEIdeal.nD Cert.ReferenceEIdeal.τ).loc Cert.ReferenceEIdeal.main_arg0) = m' ((c.tc : Thread Cert.ReferenceEIdeal.nD Cert.ReferenceEIdeal.τ).loc Cert.ReferenceEIdeal.main_arg0)
          ∧ r.2.mem ((c.tc : Thread Cert.ReferenceEIdeal.nD Cert.ReferenceEIdeal.τ).loc Cert.ReferenceEIdeal.main_arg1) = m' ((c.tc : Thread Cert.ReferenceEIdeal.nD Cert.ReferenceEIdeal.τ).loc Cert.ReferenceEIdeal.main_arg1)
          ∧ r.2.mem ((c.tc : Thread Cert.ReferenceEIdeal.nD Cert.ReferenceEIdeal.τ).loc Cert.ReferenceEIdeal.main_arg2) = m' ((c.tc : Thread Cert.ReferenceEIdeal.nD Cert.ReferenceEIdeal.τ).loc Cert.ReferenceEIdeal.main_arg2)
          ∧ r.2.mem ((c.tc : Thread Cert.ReferenceEIdeal.nD Cert.ReferenceEIdeal.τ).loc Cert.ReferenceEIdeal.main_arg3) = m' ((c.tc : Thread Cert.ReferenceEIdeal.nD Cert.ReferenceEIdeal.τ).loc Cert.ReferenceEIdeal.main_arg3)
          ∧ r.2.mem ((c.tc : Thread Cert.ReferenceEIdeal.nD Cert.ReferenceEIdeal.τ).loc Cert.ReferenceEIdeal.main_arg4) = m' ((c.tc : Thread Cert.ReferenceEIdeal.nD Cert.ReferenceEIdeal.τ).loc Cert.ReferenceEIdeal.main_arg4)
          ∧ r.2.mem ((c.tc : Thread Cert.ReferenceEIdeal.nD Cert.ReferenceEIdeal.τ).loc Cert.ReferenceEIdeal.main_arg5) = m' ((c.tc : Thread Cert.ReferenceEIdeal.nD Cert.ReferenceEIdeal.τ).loc Cert.ReferenceEIdeal.main_arg5))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hKernelD : Cert.KernelD.Facts) (hKernelDIdeal : Cert.KernelDIdeal.Facts) (hReferenceDIdeal : Cert.ReferenceDIdeal.Facts) (hKernelM : Cert.KernelM.Facts) (hKernelMIdeal : Cert.KernelMIdeal.Facts) (hReferenceMIdeal : Cert.ReferenceMIdeal.Facts) (hKernelO : Cert.KernelO.Facts) (hKernelOIdeal : Cert.KernelOIdeal.Facts) (hReferenceOIdeal : Cert.ReferenceOIdeal.Facts) (hKernelF : Cert.KernelF.Facts) (hKernelFIdeal : Cert.KernelFIdeal.Facts) (hReferenceFIdeal : Cert.ReferenceFIdeal.Facts) (hKernelE : Cert.KernelE.Facts) (hKernelEIdeal : Cert.KernelEIdeal.Facts) (hReferenceEIdeal : Cert.ReferenceEIdeal.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelD (hKernelD := hKernelD)
    ∧ quiescent_KernelDIdeal (hKernelDIdeal := hKernelDIdeal)
    ∧ quiescent_ReferenceDIdeal (hReferenceDIdeal := hReferenceDIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelF (hKernelF := hKernelF)
    ∧ quiescent_KernelFIdeal (hKernelFIdeal := hKernelFIdeal)
    ∧ quiescent_ReferenceFIdeal (hReferenceFIdeal := hReferenceFIdeal)
    ∧ quiescent_KernelE (hKernelE := hKernelE) (hPre_routed := hPre_routed)
    ∧ quiescent_KernelEIdeal (hKernelEIdeal := hKernelEIdeal) (hPre_routed := hPre_routed)
    ∧ quiescent_ReferenceEIdeal (hReferenceEIdeal := hReferenceEIdeal)
    ∧ quiescent_ReferenceEIdeal_pre_routed (hReferenceEIdeal := hReferenceEIdeal) (hPre_routed := hPre_routed)
    ∧ preserves_Kernel_KernelIdeal
    ∧ algebraic_KernelIdeal_ReferenceIdeal (hKernelIdeal := hKernelIdeal) (hReferenceIdeal := hReferenceIdeal)
    ∧ preserves_KernelB_KernelBIdeal
    ∧ algebraic_KernelBIdeal_ReferenceBIdeal (hKernelBIdeal := hKernelBIdeal) (hReferenceBIdeal := hReferenceBIdeal)
    ∧ preserves_KernelD_KernelDIdeal
    ∧ algebraic_KernelDIdeal_ReferenceDIdeal (hKernelDIdeal := hKernelDIdeal) (hReferenceDIdeal := hReferenceDIdeal)
    ∧ preserves_KernelM_KernelMIdeal
    ∧ algebraic_KernelMIdeal_ReferenceMIdeal (hKernelMIdeal := hKernelMIdeal) (hReferenceMIdeal := hReferenceMIdeal)
    ∧ preserves_KernelO_KernelOIdeal
    ∧ algebraic_KernelOIdeal_ReferenceOIdeal (hKernelOIdeal := hKernelOIdeal) (hReferenceOIdeal := hReferenceOIdeal)
    ∧ preserves_KernelF_KernelFIdeal
    ∧ algebraic_KernelFIdeal_ReferenceFIdeal (hKernelFIdeal := hKernelFIdeal) (hReferenceFIdeal := hReferenceFIdeal)
    ∧ preserves_KernelE_KernelEIdeal
    ∧ algebraic_KernelEIdeal_ReferenceEIdeal (hKernelEIdeal := hKernelEIdeal) (hReferenceEIdeal := hReferenceEIdeal) (hPre_routed := hPre_routed)
-- ==== Pre_routed.lean ====
abbrev S8704x2 : Shape := ⟨2, ![8704, 2]⟩
abbrev S8704x2048 : Shape := ⟨2, ![8704, 2048]⟩
abbrev S2x8x2048x4096 : Shape := ⟨4, ![2, 8, 2048, 4096]⟩
abbrev S2x8x4096x2048 : Shape := ⟨4, ![2, 8, 4096, 2048]⟩
abbrev S_ : Shape := ⟨0, ![]⟩

class Facts : Prop where
  bcast_S_S8704x2 : S_.BroadcastsInDim S8704x2 (![] : Fin 0 → Fin S8704x2.rank)

variable [Facts]

def fn {F : FTy → Type} [FloatOps F] (main_arg0 : IVec S8704x2 32) (main_arg1 : FVec F S8704x2 .f32) (main_arg2 : FVec F S8704x2048 .f32) (main_arg3 : FVec F S2x8x2048x4096 .f32) (main_arg4 : FVec F S2x8x2048x4096 .f32) (main_arg5 : FVec F S2x8x4096x2048 .f32) : IVec S8704x2 1 :=
  let main_c : IVec S_ 32 := constantI S_ 32 0#32
  let main_v0 : IVec S8704x2 32 := broadcastInDim S8704x2 ![] bcast_S_S8704x2 main_c
  let main_v1 : IVec S8704x2 1 := cmpi .sge main_arg0 main_v0
  let main_c_0 : IVec S_ 32 := constantI S_ 32 8#32
  let main_v2 : IVec S8704x2 32 := broadcastInDim S8704x2 ![] bcast_S_S8704x2 main_c_0
  let main_v3 : IVec S8704x2 1 := cmpi .slt main_arg0 main_v2
  let main_v4 : IVec S8704x2 1 := andi main_v1 main_v3
  main_v4
-- ==== Kernel.lean ====
abbrev S8192x2048 : Shape := ⟨2, ![8192, 2048]⟩
abbrev S512x2048 : Shape := ⟨2, ![512, 2048]⟩
abbrev S4x2048x21568 : Shape := ⟨3, ![4, 2048, 21568]⟩
abbrev S4x21568x2048 : Shape := ⟨3, ![4, 21568, 2048]⟩
abbrev S8704x2048 : Shape := ⟨2, ![8704, 2048]⟩
abbrev S8704x11264 : Shape := ⟨2, ![8704, 11264]⟩
abbrev S1088x2048 : Shape := ⟨2, ![1088, 2048]⟩
abbrev S1x1024x2048 : Shape := ⟨3, ![1, 1024, 2048]⟩
abbrev S1088x1024 : Shape := ⟨2, ![1088, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S4x2048x21568, .f32⟩
  | .hbm, ⟨3, _⟩ => ⟨S4x21568x2048, .f32⟩
  | .hbm, ⟨4, _⟩ => ⟨S8704x2048, .bf16⟩
  | .hbm, ⟨5, _⟩ => ⟨S8704x11264, .bf16⟩
  | .local _ .vmem, ⟨0, _⟩ => ⟨S1088x2048, .bf16⟩
  | .local _ .vmem, ⟨1, _⟩ => ⟨S1088x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1088x1024, .bf16⟩
  | .local _ .vmem, ⟨5, _⟩ => ⟨S1088x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x2048 : Shape := ⟨2, ![8192, 2048]⟩
abbrev S512x2048 : Shape := ⟨2, ![512, 2048]⟩
abbrev S4x2048x21568 : Shape := ⟨3, ![4, 2048, 21568]⟩
abbrev S1x2048x21568 : Shape := ⟨3, ![1, 2048, 21568]⟩
abbrev S2048x21568 : Shape := ⟨2, ![2048, 21568]⟩
abbrev S8192x21568 : Shape := ⟨2, ![8192, 21568]⟩
abbrev S512x21568 : Shape := ⟨2, ![512, 21568]⟩
abbrev S8704x21568 : Shape := ⟨2, ![8704, 21568]⟩
abbrev S8704x11264 : Shape := ⟨2, ![8704, 11264]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S4x2048x21568, .f32⟩
  | .hbm, ⟨3, _⟩ => ⟨S8192x2048, .f32⟩
  | .hbm, ⟨4, _⟩ => ⟨S1x2048x21568, .f32⟩
  | .hbm, ⟨5, _⟩ => ⟨S2048x21568, .f32⟩
  | .hbm, ⟨6, _⟩ => ⟨S8192x21568, .f32⟩
  | .hbm, ⟨7, _⟩ => ⟨S512x2048, .f32⟩
  | .hbm, ⟨8, _⟩ => ⟨S1x2048x21568, .f32⟩
  | .hbm, ⟨9, _⟩ => ⟨S2048x21568, .f32⟩
  | .hbm, ⟨10, _⟩ => ⟨S512x21568, .f32⟩
  | .hbm, ⟨11, _⟩ => ⟨S8704x21568, .f32⟩
  | .hbm, ⟨12, _⟩ => ⟨S8704x11264, .f32⟩
  | .hbm, ⟨13, _⟩ => ⟨S8704x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelB.lean ====
abbrev S8192x2048 : Shape := ⟨2, ![8192, 2048]⟩
abbrev S512x2048 : Shape := ⟨2, ![512, 2048]⟩
abbrev S4x2048x21568 : Shape := ⟨3, ![4, 2048, 21568]⟩
abbrev S4x21568x2048 : Shape := ⟨3, ![4, 21568, 2048]⟩
abbrev S8704x2048 : Shape := ⟨2, ![8704, 2048]⟩
abbrev S8704x10240 : Shape := ⟨2, ![8704, 10240]⟩
abbrev S1088x2048 : Shape := ⟨2, ![1088, 2048]⟩
abbrev S1x1024x2048 : Shape := ⟨3, ![1, 1024, 2048]⟩
abbrev S1088x1024 : Shape := ⟨2, ![1088, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S4x2048x21568, .f32⟩
  | .hbm, ⟨3, _⟩ => ⟨S4x21568x2048, .f32⟩
  | .hbm, ⟨4, _⟩ => ⟨S8704x2048, .bf16⟩
  | .hbm, ⟨5, _⟩ => ⟨S8704x10240, .bf16⟩
  | .local _ .vmem, ⟨0, _⟩ => ⟨S1088x2048, .bf16⟩
  | .local _ .vmem, ⟨1, _⟩ => ⟨S1088x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1088x1024, .bf16⟩
  | .local _ .vmem, ⟨5, _⟩ => ⟨S1088x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def k0_mult1 (i : grid0.Coords) : BitVec 32 :=
  let c11328_i32 : BitVec 32 := 11328#32
  let arg0 : BitVec 32 := BitVec.ofNat 32 (i 0).val
  let c1024_i32 : BitVec 32 := 1024#32
  let v0 : BitVec 32 := Scalar.muli arg0 c1024_i32
  let v1 : BitVec 32 := Scalar.addi c11328_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c11328_i32 : BitVec 32 := 11328#32
  let v1 : BitVec 32 := Scalar.addi c11328_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceBIdeal.lean ====
abbrev S8192x2048 : Shape := ⟨2, ![8192, 2048]⟩
abbrev S512x2048 : Shape := ⟨2, ![512, 2048]⟩
abbrev S4x2048x21568 : Shape := ⟨3, ![4, 2048, 21568]⟩
abbrev S1x2048x21568 : Shape := ⟨3, ![1, 2048, 21568]⟩
abbrev S2048x21568 : Shape := ⟨2, ![2048, 21568]⟩
abbrev S8192x21568 : Shape := ⟨2, ![8192, 21568]⟩
abbrev S512x21568 : Shape := ⟨2, ![512, 21568]⟩
abbrev S8704x21568 : Shape := ⟨2, ![8704, 21568]⟩
abbrev S8704x10240 : Shape := ⟨2, ![8704, 10240]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S4x2048x21568, .f32⟩
  | .hbm, ⟨3, _⟩ => ⟨S8192x2048, .f32⟩
  | .hbm, ⟨4, _⟩ => ⟨S1x2048x21568, .f32⟩
  | .hbm, ⟨5, _⟩ => ⟨S2048x21568, .f32⟩
  | .hbm, ⟨6, _⟩ => ⟨S8192x21568, .f32⟩
  | .hbm, ⟨7, _⟩ => ⟨S512x2048, .f32⟩
  | .hbm, ⟨8, _⟩ => ⟨S1x2048x21568, .f32⟩
  | .hbm, ⟨9, _⟩ => ⟨S2048x21568, .f32⟩
  | .hbm, ⟨10, _⟩ => ⟨S512x21568, .f32⟩
  | .hbm, ⟨11, _⟩ => ⟨S8704x21568, .f32⟩
  | .hbm, ⟨12, _⟩ => ⟨S8704x10240, .f32⟩
  | .hbm, ⟨13, _⟩ => ⟨S8704x10240, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelD.lean ====
abbrev S8192x2048 : Shape := ⟨2, ![8192, 2048]⟩
abbrev S512x2048 : Shape := ⟨2, ![512, 2048]⟩
abbrev S4x2048x21568 : Shape := ⟨3, ![4, 2048, 21568]⟩
abbrev S4x21568x2048 : Shape := ⟨3, ![4, 21568, 2048]⟩
abbrev S8704x2048 : Shape := ⟨2, ![8704, 2048]⟩
abbrev S8704x128 : Shape := ⟨2, ![8704, 128]⟩
abbrev S1088x2048 : Shape := ⟨2, ![1088, 2048]⟩
abbrev S1x128x2048 : Shape := ⟨3, ![1, 128, 2048]⟩
abbrev S1088x128 : Shape := ⟨2, ![1088, 128]⟩
abbrev S128x2048 : Shape := ⟨2, ![128, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S4x2048x21568, .f32⟩
  | .hbm, ⟨3, _⟩ => ⟨S4x21568x2048, .f32⟩
  | .hbm, ⟨4, _⟩ => ⟨S8704x2048, .bf16⟩
  | .hbm, ⟨5, _⟩ => ⟨S8704x128, .f32⟩
  | .local _ .vmem, ⟨0, _⟩ => ⟨S1088x2048, .bf16⟩
  | .local _ .vmem, ⟨1, _⟩ => ⟨S1088x2048, .bf16⟩
  | .local _ .vmem, ⟨2, _⟩ => ⟨S1x128x2048, .f32⟩
  | .local _ .vmem, ⟨3, _⟩ => ⟨S1088x128, .f32⟩
  | .local _ .vmem, ⟨4, _⟩ => ⟨S1088x128, .f32⟩
  | .local _ .vmem, ⟨5, _⟩ => ⟨S128x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c11264_i32 : BitVec 32 := 11264#32
  let arg0 : BitVec 32 := BitVec.ofNat 32 (i 0).val
  let c128_i32 : BitVec 32 := 128#32
  let v0 : BitVec 32 := Scalar.muli arg0 c128_i32
  let v1 : BitVec 32 := Scalar.addi c11264_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c11264_i32 : BitVec 32 := 11264#32
  let v1 : BitVec 32 := Scalar.addi c11264_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDIdeal.lean ====
abbrev S8192x2048 : Shape := ⟨2, ![8192, 2048]⟩
abbrev S512x2048 : Shape := ⟨2, ![512, 2048]⟩
abbrev S4x2048x21568 : Shape := ⟨3, ![4, 2048, 21568]⟩
abbrev S1x2048x21568 : Shape := ⟨3, ![1, 2048, 21568]⟩
abbrev S2048x21568 : Shape := ⟨2, ![2048, 21568]⟩
abbrev S8192x21568 : Shape := ⟨2, ![8192, 21568]⟩
abbrev S512x21568 : Shape := ⟨2, ![512, 21568]⟩
abbrev S8704x21568 : Shape := ⟨2, ![8704, 21568]⟩
abbrev S8704x128 : Shape := ⟨2, ![8704, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S4x2048x21568, .f32⟩
  | .hbm, ⟨3, _⟩ => ⟨S8192x2048, .f32⟩
  | .hbm, ⟨4, _⟩ => ⟨S1x2048x21568, .f32⟩
  | .hbm, ⟨5, _⟩ => ⟨S2048x21568, .f32⟩
  | .hbm, ⟨6, _⟩ => ⟨S8192x21568, .f32⟩
  | .hbm, ⟨7, _⟩ => ⟨S512x2048, .f32⟩
  | .hbm, ⟨8, _⟩ => ⟨S1x2048x21568, .f32⟩
  | .hbm, ⟨9, _⟩ => ⟨S2048x21568, .f32⟩
  | .hbm, ⟨10, _⟩ => ⟨S512x21568, .f32⟩
  | .hbm, ⟨11, _⟩ => ⟨S8704x21568, .f32⟩
  | .hbm, ⟨12, _⟩ => ⟨S8704x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelM.lean ====
abbrev S8192x2048 : Shape := ⟨2, ![8192, 2048]⟩
abbrev S8704x10240 : Shape := ⟨2, ![8704, 10240]⟩
abbrev S4x3x2048x2048 : Shape := ⟨4, ![4, 3, 2048, 2048]⟩
abbrev S1024x2048 : Shape := ⟨2, ![1024, 2048]⟩
abbrev S1024x512 : Shape := ⟨2, ![1024, 512]⟩
abbrev S1x3x2048x512 : Shape := ⟨4, ![1, 3, 2048, 512]⟩
abbrev S1x1x2048x512 : Shape := ⟨4, ![1, 1, 2048, 512]⟩
abbrev S2048x512 : Shape := ⟨2, ![2048, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8704x10240, .bf16⟩
  | .hbm, ⟨4, _⟩ => ⟨S4x3x2048x2048, .f32⟩
  | .hbm, ⟨5, _⟩ => ⟨S4x3x2048x2048, .bf16⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x3x2048x512, .bf16⟩
  | .local _ .vmem, ⟨13, _⟩ => ⟨S1x3x2048x512, .bf16⟩
  | .local _ .vmem, ⟨14, _⟩ => ⟨S1024x512, .bf16⟩
  | .local _ .vmem, ⟨15, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c8_i32 : BitVec 32 := 8#32
  let v1 : BitVec 32 := Scalar.addi c8_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c12_i32 : BitVec 32 := 12#32
  let v1 : BitVec 32 := Scalar.addi c12_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c16_i32 : BitVec 32 := 16#32
  let v1 : BitVec 32 := Scalar.addi c16_i32 arg0
  let c0_i32_0 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMIdeal.lean ====
abbrev S8192x2048 : Shape := ⟨2, ![8192, 2048]⟩
abbrev S8704x10240 : Shape := ⟨2, ![8704, 10240]⟩
abbrev S4x3x2048x2048 : Shape := ⟨4, ![4, 3, 2048, 2048]⟩
abbrev S8192x6144 : Shape := ⟨2, ![8192, 6144]⟩
abbrev S8192x1x2048 : Shape := ⟨3, ![8192, 1, 2048]⟩
abbrev S8192x3x2048 : Shape := ⟨3, ![8192, 3, 2048]⟩
abbrev S1x3x2048x2048 : Shape := ⟨4, ![1, 3, 2048, 2048]⟩
abbrev S3x2048x2048 : Shape := ⟨3, ![3, 2048, 2048]⟩
abbrev S3x2048x8192 : Shape := ⟨3, ![3, 2048, 8192]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8704x10240, .bf16⟩
  | .hbm, ⟨4, _⟩ => ⟨S4x3x2048x2048, .f32⟩
  | .hbm, ⟨5, _⟩ => ⟨S8192x6144, .bf16⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x1x2048, .f32⟩
  | .hbm, ⟨11, _⟩ => ⟨S8192x1x2048, .f32⟩
  | .hbm, ⟨12, _⟩ => ⟨S8192x1x2048, .f32⟩
  | .hbm, ⟨13, _⟩ => ⟨S8192x3x2048, .f32⟩
  | .hbm, ⟨14, _⟩ => ⟨S1x3x2048x2048, .f32⟩
  | .hbm, ⟨15, _⟩ => ⟨S3x2048x2048, .f32⟩
  | .hbm, ⟨16, _⟩ => ⟨S3x2048x8192, .f32⟩
  | .hbm, ⟨17, _⟩ => ⟨S8192x3x2048, .f32⟩
  | .hbm, ⟨18, _⟩ => ⟨S8192x6144, .f32⟩
  | .hbm, ⟨19, _⟩ => ⟨S8192x6144, .f32⟩
  | .hbm, ⟨20, _⟩ => ⟨S_, .f32⟩
  | .hbm, ⟨21, _⟩ => ⟨S8192x6144, .f32⟩
  | .hbm, ⟨22, _⟩ => ⟨S8192x6144, .f32⟩
  | .hbm, ⟨23, _⟩ => ⟨S_, .f32⟩
  | .hbm, ⟨24, _⟩ => ⟨S8192x6144, .f32⟩
  | .hbm, ⟨25, _⟩ => ⟨S8192x6144, .f32⟩
  | .hbm, ⟨26, _⟩ => ⟨S8192x3x2048, .f32⟩
  | .hbm, ⟨27, _⟩ => ⟨S8192x3x2048, .f32⟩
  | .hbm, ⟨28, _⟩ => ⟨S_, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelO.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelF.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceFIdeal.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S8192x2048, .f32⟩
  | .hbm, ⟨5, _⟩ => ⟨S1x2048x5632, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x2048x5632, .f32⟩
  | .hbm, ⟨18, _⟩ => ⟨S2048x5632, .f32⟩
  | .hbm, ⟨19, _⟩ => ⟨S8192x5632, .f32⟩
  | .hbm, ⟨20, _⟩ => ⟨S8192x5632, .f32⟩
  | .hbm, ⟨21, _⟩ => ⟨S1x5632x2048, .f32⟩
  | .hbm, ⟨22, _⟩ => ⟨S5632x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== KernelE.lean ====
abbrev S8704x2 : Shape := ⟨2, ![8704, 2]⟩
abbrev S8704x2048 : Shape := ⟨2, ![8704, 2048]⟩
abbrev S2x8x2048x4096 : Shape := ⟨4, ![2, 8, 2048, 4096]⟩
abbrev S2x8x4096x2048 : Shape := ⟨4, ![2, 8, 4096, 2048]⟩
abbrev S2x8704 : Shape := ⟨2, ![2, 8704]⟩
abbrev S17408 : Shape := ⟨1, ![17408]⟩
abbrev S1x17408 : Shape := ⟨2, ![1, 17408]⟩
abbrev S8 : Shape := ⟨1, ![8]⟩
abbrev S8x1 : Shape := ⟨2, ![8, 1]⟩
abbrev S8x17408 : Shape := ⟨2, ![8, 17408]⟩
abbrev S_ : Shape := ⟨0, ![]⟩
abbrev S1 : Shape := ⟨1, ![1]⟩
abbrev S42 : Shape := ⟨1, ![42]⟩
abbrev S42x1 : Shape := ⟨2, ![42, 1]⟩
abbrev S1x8 : Shape := ⟨2, ![1, 8]⟩
abbrev S42x8 : Shape := ⟨2, ![42, 8]⟩
abbrev S42x512 : Shape := ⟨2, ![42, 512]⟩
abbrev S21504 : Shape := ⟨1, ![21504]⟩
abbrev S21504x1 : Shape := ⟨2, ![21504, 1]⟩
abbrev S42x1x512 : Shape := ⟨3, ![42, 1, 512]⟩
abbrev S21504x2048 : Shape := ⟨2, ![21504, 2048]⟩
abbrev S1x1x512 : Shape := ⟨3, ![1, 1, 512]⟩
abbrev S512x1 : Shape := ⟨2, ![512, 1]⟩
abbrev S1x1x2048x512 : Shape := ⟨4, ![1, 1, 2048, 512]⟩
abbrev S1x1x512x2048 : Shape := ⟨4, ![1, 1, 512, 2048]⟩
abbrev S512x2048 : Shape := ⟨2, ![512, 2048]⟩
abbrev S1x1x1 : Shape := ⟨3, ![1, 1, 1]⟩
abbrev S1x2048 : Shape := ⟨2, ![1, 2048]⟩
abbrev S2048x512 : Shape := ⟨2, ![2048, 512]⟩
abbrev S512x512 : Shape := ⟨2, ![512, 512]⟩

abbrev nBuf : Space → Nat
  | .hbm => 216
  | .vmem => 11
  | .smem => 6
  | _ => 0

abbrev hbmTy0_0 (i : Nat) : BufTy := match i % 128 with
  | 0 => ⟨S8704x2, .i32⟩
  | 1 => ⟨S8704x2, .f32⟩
  | 2 => ⟨S8704x2048, .f32⟩
  | 3 => ⟨S2x8x2048x4096, .f32⟩
  | 4 => ⟨S2x8x2048x4096, .f32⟩
  | 5 => ⟨S2x8x4096x2048, .f32⟩
  | 6 => ⟨S2x8704, .i32⟩
  | 7 => ⟨S17408, .i32⟩
  | 8 => ⟨S2x8704, .f32⟩
  | 9 => ⟨S17408, .f32⟩
  | 10 => ⟨S17408, .i32⟩
  | 11 => ⟨S17408, .i32⟩
  | 12 => ⟨S17408, .i32⟩
  | 13 => ⟨S1x17408, .i32⟩
  | 14 => ⟨S8, .i32⟩
  | 15 => ⟨S8x1, .i32⟩
  | 16 => ⟨S8x17408, .i32⟩
  | 17 => ⟨S8x17408, .i32⟩
  | 18 => ⟨S8x17408, .i1⟩
  | 19 => ⟨S8x17408, .i32⟩
  | 20 => ⟨S_, .i32⟩
  | 21 => ⟨S8, .i32⟩
  | 22 => ⟨S_, .i32⟩
  | 23 => ⟨S_, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S8, .i32⟩
  | 36 => ⟨S8, .i32⟩
  | 37 => ⟨S_, .i32⟩
  | 38 => ⟨S8, .i32⟩
  | 39 => ⟨S8, .i1⟩
  | 40 => ⟨S8, .i32⟩
  | 41 => ⟨S8, .i32⟩
  | 42 => ⟨S_, .i32⟩
  | 43 => ⟨S8, .i32⟩
  | 44 => ⟨S8, .i1⟩
  | 45 => ⟨S8, .i1⟩
  | 46 => ⟨S_, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S_, .i32⟩
  | 54 => ⟨S_, .i32⟩
  | 55 => ⟨S8, .i32⟩
  | 56 => ⟨S8, .i32⟩
  | 57 => ⟨S1, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i1⟩
  | 68 => ⟨S_, .i1⟩
  | 69 => ⟨S_, .i32⟩
  | 70 => ⟨S_, .i32⟩
  | 71 => ⟨S_, .i32⟩
  | 72 => ⟨S42, .i32⟩
  | 73 => ⟨S_, .i32⟩
  | 74 => ⟨S42, .i32⟩
  | 75 => ⟨S42, .i32⟩
  | 76 => ⟨S42x1, .i32⟩
  | 77 => ⟨S1x8, .i32⟩
  | 78 => ⟨S42x8, .i32⟩
  | 79 => ⟨S42x8, .i32⟩
  | 80 => ⟨S42x8, .i1⟩
  | 81 => ⟨S42x8, .i32⟩
  | 82 => ⟨S_, .i32⟩
  | 83 => ⟨S42, .i32⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S1, .i32⟩
  | 94 => ⟨S_, .i32⟩
  | 95 => ⟨S42, .i32⟩
  | 96 => ⟨S42x512, .i32⟩
  | 97 => ⟨S21504, .i32⟩
  | 98 => ⟨S_, .i32⟩
  | 99 => ⟨S21504, .i32⟩
  | 100 => ⟨S21504, .i32⟩
  | 101 => ⟨S21504, .i32⟩
  | 102 => ⟨S_, .i32⟩
  | 103 => ⟨S21504, .i32⟩
  | 104 => ⟨S21504, .i1⟩
  | 105 => ⟨S_, .i32⟩
  | 106 => ⟨S21504, .i32⟩
  | 107 => ⟨S21504, .i32⟩
  | 108 => ⟨S21504, .i32⟩
  | 109 => ⟨S21504x1, .i32⟩
  | 110 => ⟨S21504, .i32⟩
  | 111 => ⟨S21504, .i32⟩
  | 112 => ⟨S_, .i32⟩
  | 113 => ⟨S21504, .i32⟩
  | 114 => ⟨S21504, .i1⟩
  | 115 => ⟨S_, .i32⟩
  | 116 => ⟨S21504, .i32⟩
  | 117 => ⟨S21504, .i1⟩
  | 118 => ⟨S_, .i32⟩
  | 119 => ⟨S21504, .i32⟩
  | 120 => ⟨S21504, .i32⟩
  | 121 => ⟨S21504, .i32⟩
  | 122 => ⟨S21504x1, .i32⟩
  | 123 => ⟨S21504, .i32⟩
  | 124 => ⟨S21504, .i1⟩
  | 125 => ⟨S21504, .i1⟩
  | 126 => ⟨S_, .i32⟩
  | 127 => ⟨S21504, .i32⟩
  | _ => ⟨S8704x2, .i32⟩

abbrev hbmTy0_1 (i : Nat) : BufTy := match i % 128 with
  | 0 => ⟨S21504, .i1⟩
  | 1 => ⟨S_, .i32⟩
  | 2 => ⟨S21504, .i32⟩
  | 3 => ⟨S21504, .i32⟩
  | 4 => ⟨S21504, .i32⟩
  | 5 => ⟨S21504x1, .i32⟩
  | 6 => ⟨S21504, .i32⟩
  | 7 => ⟨S21504, .i32⟩
  | 8 => ⟨S_, .i32⟩
  | 9 => ⟨S_, .i32⟩
  | 10 => ⟨S_, .i32⟩
  | 11 => ⟨S21504, .i32⟩
  | 12 => ⟨S21504, .i32⟩
  | 13 => ⟨S_, .i32⟩
  | 14 => ⟨S21504, .i32⟩
  | 15 => ⟨S21504, .i32⟩
  | 16 => ⟨S_, .i32⟩
  | 17 => ⟨S21504, .i32⟩
  | 18 => ⟨S21504, .i1⟩
  | 19 => ⟨S_, .i32⟩
  | 20 => ⟨S21504, .i32⟩
  | 21 => ⟨S21504, .i32⟩
  | 22 => ⟨S21504, .i32⟩
  | 23 => ⟨S21504x1, .i32⟩
  | 24 => ⟨S21504, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S21504, .i32⟩
  | 32 => ⟨S21504, .i32⟩
  | 33 => ⟨S_, .i32⟩
  | 34 => ⟨S21504, .i32⟩
  | 35 => ⟨S21504, .i1⟩
  | 36 => ⟨S_, .i32⟩
  | 37 => ⟨S21504, .i32⟩
  | 38 => ⟨S21504, .i1⟩
  | 39 => ⟨S_, .i32⟩
  | 40 => ⟨S_, .i1⟩
  | 41 => ⟨S21504, .i1⟩
  | 42 => ⟨S21504, .i1⟩
  | 43 => ⟨S21504, .i1⟩
  | 44 => ⟨S21504, .i32⟩
  | 45 => ⟨S21504, .i32⟩
  | 46 => ⟨S21504, .i32⟩
  | 47 => ⟨S_, .i32⟩
  | 48 => ⟨S_, .i32⟩
  | 49 => ⟨S21504, .i32⟩
  | 50 => ⟨S21504, .i32⟩
  | 51 => ⟨S21504, .i32⟩
  | 52 => ⟨S_, .i32⟩
  | 53 => ⟨S21504, .i32⟩
  | 54 => ⟨S21504, .i32⟩
  | 55 => ⟨S8, .i32⟩
  | 56 => ⟨S_, .i32⟩
  | 57 => ⟨S21504, .i32⟩
  | 58 => ⟨S21504, .i1⟩
  | 59 => ⟨S_, .i32⟩
  | 60 => ⟨S21504, .i32⟩
  | 61 => ⟨S21504, .i32⟩
  | 62 => ⟨S21504, .i32⟩
  | 63 => ⟨S21504x1, .i32⟩
  | 64 => ⟨S21504, .i32⟩
  | 65 => ⟨S21504, .i32⟩
  | 66 => ⟨S_, .i32⟩
  | 67 => ⟨S21504, .i32⟩
  | 68 => ⟨S21504, .i1⟩
  | 69 => ⟨S21504, .i32⟩
  | 70 => ⟨S21504, .i32⟩
  | 71 => ⟨S_, .i32⟩
  | 72 => ⟨S21504, .i32⟩
  | 73 => ⟨S21504, .i1⟩
  | 74 => ⟨S_, .i32⟩
  | 75 => ⟨S21504, .i32⟩
  | 76 => ⟨S21504, .i32⟩
  | 77 => ⟨S21504, .i32⟩
  | 78 => ⟨S21504x1, .i32⟩
  | 79 => ⟨S21504, .f32⟩
  | 80 => ⟨S_, .f32⟩
  | 81 => ⟨S_, .f32⟩
  | 82 => ⟨S21504, .f32⟩
  | 83 => ⟨S21504, .f32⟩
  | 84 => ⟨S42x1x512, .i32⟩
  | 85 => ⟨S42x1x512, .i32⟩
  | 86 => ⟨S21504x1, .f32⟩
  | 87 => ⟨S21504x2048, .f32⟩
  | _ => ⟨S8704x2, .i32⟩

abbrev hbmTy (i : Nat) : BufTy := match i / 128 with
  | 0 => hbmTy0_0 i
  | 1 => hbmTy0_1 i
  | _ => ⟨S8704x2, .i32⟩

abbrev bufTy : (tb : Table) → Fin (tcTables nBuf tb) → BufTy
  | .hbm, ⟨i, _⟩ => hbmTy i
  | .local _ .vmem, ⟨0, _⟩ => ⟨S512x1, .f32⟩
  | .local _ .vmem, ⟨1, _⟩ => ⟨S512x1, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | .local _ .smem, ⟨0, _⟩ => ⟨S42, .i32⟩
  | .local _ .smem, ⟨1, _⟩ => ⟨S1, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S8704x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_call1_call0_c : Ref sig .tc := ⟨.hbm, 22, rfl⟩
abbrev main_call1_call0_v0 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_call3_call0_c : Ref sig .tc := ⟨.hbm, 53, rfl⟩
abbrev main_call3_call0_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_4 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_c : Ref sig .tc := ⟨.hbm, 66, rfl⟩
abbrev main_call4_v6 : Ref sig .tc := ⟨.hbm, 67, rfl⟩
abbrev main_call4_v7 : Ref sig .tc := ⟨.hbm, 68, rfl⟩
abbrev main_call4_c_0 : Ref sig .tc := ⟨.hbm, 69, rfl⟩
abbrev main_call4_v8 : Ref sig .tc := ⟨.hbm, 70, rfl⟩
abbrev main_v26 : Ref sig .tc := ⟨.hbm, 71, rfl⟩
abbrev main_v27 : Ref sig .tc := ⟨.hbm, 72, rfl⟩
abbrev main_c_5 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_c_6 : Ref sig .tc := ⟨.hbm, 82, rfl⟩
abbrev main_v36 : Ref sig .tc := ⟨.hbm, 83, rfl⟩
abbrev main_c_7 : Ref sig .tc := ⟨.hbm, 84, rfl⟩
abbrev main_v37 : Ref sig .tc := ⟨.hbm, 85, rfl⟩
abbrev main_c_8 : Ref sig .tc := ⟨.hbm, 86, rfl⟩
abbrev main_v38 : Ref sig .tc := ⟨.hbm, 87, rfl⟩
abbrev main_c_9 : Ref sig .tc := ⟨.hbm, 88, rfl⟩
abbrev main_v39 : Ref sig .tc := ⟨.hbm, 89, rfl⟩
abbrev main_c_10 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v46 : Ref sig .tc := ⟨.hbm, 96, rfl⟩
abbrev main_v47 : Ref sig .tc := ⟨.hbm, 97, rfl⟩
abbrev main_c_11 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_c_12 : Ref sig .tc := ⟨.hbm, 102, rfl⟩
abbrev main_v51 : Ref sig .tc := ⟨.hbm, 103, rfl⟩
abbrev main_v52 : Ref sig .tc := ⟨.hbm, 104, rfl⟩
abbrev main_c_13 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_c_14 : Ref sig .tc := ⟨.hbm, 112, rfl⟩
abbrev main_v59 : Ref sig .tc := ⟨.hbm, 113, rfl⟩
abbrev main_v60 : Ref sig .tc := ⟨.hbm, 114, rfl⟩
abbrev main_c_15 : Ref sig .tc := ⟨.hbm, 115, rfl⟩
abbrev main_v61 : Ref sig .tc := ⟨.hbm, 116, rfl⟩
abbrev main_v62 : Ref sig .tc := ⟨.hbm, 117, rfl⟩
abbrev main_c_16 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_c_17 : Ref sig .tc := ⟨.hbm, 126, rfl⟩
abbrev main_v70 : Ref sig .tc := ⟨.hbm, 127, rfl⟩
abbrev main_v71 : Ref sig .tc := ⟨.hbm, 128, rfl⟩
abbrev main_c_18 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_c_19 : Ref sig .tc := ⟨.hbm, 136, rfl⟩
abbrev main_c_20 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v78 : Ref sig .tc := ⟨.hbm, 143, rfl⟩
abbrev main_c_21 : Ref sig .tc := ⟨.hbm, 144, rfl⟩
abbrev main_v79 : Ref sig .tc := ⟨.hbm, 145, rfl⟩
abbrev main_v80 : Ref sig .tc := ⟨.hbm, 146, rfl⟩
abbrev main_c_22 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_c_23 : Ref sig .tc := ⟨.hbm, 153, rfl⟩
abbrev main_call6_v0 : Ref sig .tc := ⟨.hbm, 154, rfl⟩
abbrev main_call6_c : Ref sig .tc := ⟨.hbm, 155, rfl⟩
abbrev main_call6_v1 : Ref sig .tc := ⟨.hbm, 156, rfl⟩
abbrev main_call6_c_0 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_call6_c_1 : Ref sig .tc := ⟨.hbm, 161, rfl⟩
abbrev main_call6_v5 : Ref sig .tc := ⟨.hbm, 162, rfl⟩
abbrev main_call6_v6 : Ref sig .tc := ⟨.hbm, 163, rfl⟩
abbrev main_call6_c_2 : Ref sig .tc := ⟨.hbm, 164, rfl⟩
abbrev main_call6_v7 : Ref sig .tc := ⟨.hbm, 165, rfl⟩
abbrev main_call6_v8 : Ref sig .tc := ⟨.hbm, 166, rfl⟩
abbrev main_call6_c_3 : Ref sig .tc := ⟨.hbm, 167, rfl⟩
abbrev main_call6_v9 : Ref sig .tc := ⟨.hbm, 168, rfl⟩
abbrev main_call6_v10 : Ref sig .tc := ⟨.hbm, 169, rfl⟩
abbrev main_call6_v11 : Ref sig .tc := ⟨.hbm, 170, rfl⟩
abbrev main_call6_v12 : Ref sig .tc := ⟨.hbm, 171, rfl⟩
abbrev main_call6_v13 : Ref sig .tc := ⟨.hbm, 172, rfl⟩
abbrev main_call6_v14 : Ref sig .tc := ⟨.hbm, 173, rfl⟩
abbrev main_v86 : Ref sig .tc := ⟨.hbm, 174, rfl⟩
abbrev main_c_24 : Ref sig .tc := ⟨.hbm, 175, rfl⟩
abbrev main_call7_v0 : Ref sig .tc := ⟨.hbm, 176, rfl⟩
abbrev main_call7_v1 : Ref sig .tc := ⟨.hbm, 177, rfl⟩
abbrev main_v87 : Ref sig .tc := ⟨.hbm, 178, rfl⟩
abbrev main_v88 : Ref sig .tc := ⟨.hbm, 179, rfl⟩
abbrev main_c_25 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_c_26 : Ref sig .tc := ⟨.hbm, 184, rfl⟩
abbrev main_v92 : Ref sig .tc := ⟨.hbm, 185, rfl⟩
abbrev main_v93 : Ref sig .tc := ⟨.hbm, 186, rfl⟩
abbrev main_c_27 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_c_28 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_c_29 : Ref sig .tc := ⟨.hbm, 199, rfl⟩
abbrev main_v104 : Ref sig .tc := ⟨.hbm, 200, rfl⟩
abbrev main_v105 : Ref sig .tc := ⟨.hbm, 201, rfl⟩
abbrev main_c_30 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_cst : Ref sig .tc := ⟨.hbm, 208, rfl⟩
abbrev main_call10_v0 : Ref sig .tc := ⟨.hbm, 209, rfl⟩
abbrev main_call10_v1 : Ref sig .tc := ⟨.hbm, 210, rfl⟩
abbrev main_v111 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v45 : Ref sig .tc := ⟨.smem, 0, rfl⟩
abbrev main_v112 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![42, 8], ![false, false]⟩

abbrev pre0 : Pipeline.Prefetch sig := ⟨2, ![main_v45.idx, main_v112.idx], fun | 0 => main_v45.names | 1 => main_v112.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_3 : BitVec 32 := 0#32
  let c64_i32 : BitVec 32 := 64#32
  let v11 : BitVec 32 := Scalar.addi c0_i32_3 c64_i32
  let c1_i32 : BitVec 32 := 1#32
  ⟨c0_i32_3, v11, c1_i32⟩
def k0_off2 (k0_t1 : Fin k0_t1_loop.trips) : Fin 3 → Nat :=
  let c0_16 : Index := 0#32
  let c0_17 : Index := 0#32
  let c0_i32_3 : BitVec 32 := 0#32
  let c1_i32 : BitVec 32 := 1#32
  let arg17 : BitVec 32 := Scf.iv c0_i32_3 c1_i32 k0_t1
  let c8_i32 : BitVec 32 := 8#32
  let v22 : BitVec 32 := Scalar.muli arg17 c8_i32
  let c0_i32_15 : BitVec 32 := 0#32
  let v23 : BitVec 32 := Scalar.addi v22 c0_i32_15
  let v24 : Index := Scalar.indexCast v23
  ![0, 0, v24.toNat]
def k0_off3 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32 : BitVec 32 := 8#32
  let v22 : BitVec 32 := Scalar.muli arg17 c8_i32
  let c0_i32_15 : BitVec 32 := 0#32
  let v23 : BitVec 32 := Scalar.addi v22 c0_i32_15
  let c0_i32_18 : BitVec 32 := 0#32
  ![v23.toNat, 0]
def k0_off4 (v25 : BitVec 32) : Fin 2 → Nat :=
  let c0_i32_19 : BitVec 32 := 0#32
  ![v25.toNat, 0]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_chk1 (i : grid0.Coords) (v0 : BitVec 32) (v25 : BitVec 32) : Prop :=
  (∀ (k0_h1 : k0_cond1 i v0 = 1#1), ∀ a, (k0_off4 v25) a + S1x2048.size a ≤ S8704x2048.size a)
theorem k0_off4_inb : ∀ (i : grid0.Coords) (v0 : BitVec 32) (v25 : BitVec 32) (k0_hw1 : k0_chk1 i v0 v25), ∀ (k0_h1 : k0_cond1 i v0 = 1#1), ∀ a, (k0_off4 v25) a + S1x2048.size a ≤ S8704x2048.size a := fun i v0 v25 k0_hw1 k0_h1 => k0_hw1 k0_h1

def k0_off5 (k0_t1 : Fin k0_t1_loop.trips) : Fin 3 → Nat :=
  let c0_22 : Index := 0#32
  let c0_23 : Index := 0#32
  let c0_i32_3 : BitVec 32 := 0#32
  let c1_i32 : BitVec 32 := 1#32
  let arg17 : BitVec 32 := Scf.iv c0_i32_3 c1_i32 k0_t1
  let c8_i32_20 : BitVec 32 := 8#32
  let v28 : BitVec 32 := Scalar.muli arg17 c8_i32_20
  let c1_i32_21 : BitVec 32 := 1#32
  let v29 : BitVec 32 := Scalar.addi v28 c1_i32_21
  let v30 : Index := Scalar.indexCast v29
  ![0, 0, v30.toNat]
def k0_off6 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32_20 : BitVec 32 := 8#32
  let v28 : BitVec 32 := Scalar.muli arg17 c8_i32_20
  let c1_i32_21 : BitVec 32 := 1#32
  let v29 : BitVec 32 := Scalar.addi v28 c1_i32_21
  let c0_i32_24 : BitVec 32 := 0#32
  ![v29.toNat, 0]
def k0_off7 (v31 : BitVec 32) : Fin 2 → Nat :=
  let c0_i32_25 : BitVec 32 := 0#32
  ![v31.toNat, 0]

def k0_chk2 (i : grid0.Coords) (v0 : BitVec 32) (v31 : BitVec 32) : Prop :=
  (∀ (k0_h1 : k0_cond1 i v0 = 1#1), ∀ a, (k0_off7 v31) a + S1x2048.size a ≤ S8704x2048.size a)
theorem k0_off7_inb : ∀ (i : grid0.Coords) (v0 : BitVec 32) (v31 : BitVec 32) (k0_hw2 : k0_chk2 i v0 v31), ∀ (k0_h1 : k0_cond1 i v0 = 1#1), ∀ a, (k0_off7 v31) a + S1x2048.size a ≤ S8704x2048.size a := fun i v0 v31 k0_hw2 k0_h1 => k0_hw2 k0_h1

def k0_off8 (k0_t1 : Fin k0_t1_loop.trips) : Fin 3 → Nat :=
  let c0_27 : Index := 0#32
  let c0_28 : Index := 0#32
  let c0_i32_3 : BitVec 32 := 0#32
  let c1_i32 : BitVec 32 := 1#32
  let arg17 : BitVec 32 := Scf.iv c0_i32_3 c1_i32 k0_t1
  let c8_i32_26 : BitVec 32 := 8#32
  let v34 : BitVec 32 := Scalar.muli arg17 c8_i32_26
  let c2_i32 : BitVec 32 := 2#32
  let v35 : BitVec 32 := Scalar.addi v34 c2_i32
  let v36 : Index := Scalar.indexCast v35
  ![0, 0, v36.toNat]
def k0_off9 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32_26 : BitVec 32 := 8#32
  let v34 : BitVec 32 := Scalar.muli arg17 c8_i32_26
  let c2_i32 : BitVec 32 := 2#32
  let v35 : BitVec 32 := Scalar.addi v34 c2_i32
  let c0_i32_29 : BitVec 32 := 0#32
  ![v35.toNat, 0]
def k0_off10 (v37 : BitVec 32) : Fin 2 → Nat :=
  let c0_i32_30 : BitVec 32 := 0#32
  ![v37.toNat, 0]

def k0_chk3 (i : grid0.Coords) (v0 : BitVec 32) (v37 : BitVec 32) : Prop :=
  (∀ (k0_h1 : k0_cond1 i v0 = 1#1), ∀ a, (k0_off10 v37) a + S1x2048.size a ≤ S8704x2048.size a)
theorem k0_off10_inb : ∀ (i : grid0.Coords) (v0 : BitVec 32) (v37 : BitVec 32) (k0_hw3 : k0_chk3 i v0 v37), ∀ (k0_h1 : k0_cond1 i v0 = 1#1), ∀ a, (k0_off10 v37) a + S1x2048.size a ≤ S8704x2048.size a := fun i v0 v37 k0_hw3 k0_h1 => k0_hw3 k0_h1

def k0_off11 (k0_t1 : Fin k0_t1_loop.trips) : Fin 3 → Nat :=
  let c0_32 : Index := 0#32
  let c0_33 : Index := 0#32
  let c0_i32_3 : BitVec 32 := 0#32
  let c1_i32 : BitVec 32 := 1#32
  let arg17 : BitVec 32 := Scf.iv c0_i32_3 c1_i32 k0_t1
  let c8_i32_31 : BitVec 32 := 8#32
  let v40 : BitVec 32 := Scalar.muli arg17 c8_i32_31
  let c3_i32 : BitVec 32 := 3#32
  let v41 : BitVec 32 := Scalar.addi v40 c3_i32
  let v42 : Index := Scalar.indexCast v41
  ![0, 0, v42.toNat]
def k0_off12 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32_31 : BitVec 32 := 8#32
  let v40 : BitVec 32 := Scalar.muli arg17 c8_i32_31
  let c3_i32 : BitVec 32 := 3#32
  let v41 : BitVec 32 := Scalar.addi v40 c3_i32
  let c0_i32_34 : BitVec 32 := 0#32
  ![v41.toNat, 0]
def k0_off13 (v43 : BitVec 32) : Fin 2 → Nat :=
  let c0_i32_35 : BitVec 32 := 0#32
  ![v43.toNat, 0]

def k0_chk4 (i : grid0.Coords) (v0 : BitVec 32) (v43 : BitVec 32) : Prop :=
  (∀ (k0_h1 : k0_cond1 i v0 = 1#1), ∀ a, (k0_off13 v43) a + S1x2048.size a ≤ S8704x2048.size a)
theorem k0_off13_inb : ∀ (i : grid0.Coords) (v0 : BitVec 32) (v43 : BitVec 32) (k0_hw4 : k0_chk4 i v0 v43), ∀ (k0_h1 : k0_cond1 i v0 = 1#1), ∀ a, (k0_off13 v43) a + S1x2048.size a ≤ S8704x2048.size a := fun i v0 v43 k0_hw4 k0_h1 => k0_hw4 k0_h1

def k0_off14 (k0_t1 : Fin k0_t1_loop.trips) : Fin 3 → Nat :=
  let c0_37 : Index := 0#32
  let c0_38 : Index := 0#32
  let c0_i32_3 : BitVec 32 := 0#32
  let c1_i32 : BitVec 32 := 1#32
  let arg17 : BitVec 32 := Scf.iv c0_i32_3 c1_i32 k0_t1
  let c8_i32_36 : BitVec 32 := 8#32
  let v46 : BitVec 32 := Scalar.muli arg17 c8_i32_36
  let c4_i32 : BitVec 32 := 4#32
  let v47 : BitVec 32 := Scalar.addi v46 c4_i32
  let v48 : Index := Scalar.indexCast v47
  ![0, 0, v48.toNat]
def k0_off15 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32_36 : BitVec 32 := 8#32
  let v46 : BitVec 32 := Scalar.muli arg17 c8_i32_36
  let c4_i32 : BitVec 32 := 4#32
  let v47 : BitVec 32 := Scalar.addi v46 c4_i32
  let c0_i32_39 : BitVec 32 := 0#32
  ![v47.toNat, 0]
def k0_off16 (v49 : BitVec 32) : Fin 2 → Nat :=
  let c0_i32_40 : BitVec 32 := 0#32
  ![v49.toNat, 0]

def k0_chk5 (i : grid0.Coords) (v0 : BitVec 32) (v49 : BitVec 32) : Prop :=
  (∀ (k0_h1 : k0_cond1 i v0 = 1#1), ∀ a, (k0_off16 v49) a + S1x2048.size a ≤ S8704x2048.size a)
theorem k0_off16_inb : ∀ (i : grid0.Coords) (v0 : BitVec 32) (v49 : BitVec 32) (k0_hw5 : k0_chk5 i v0 v49), ∀ (k0_h1 : k0_cond1 i v0 = 1#1), ∀ a, (k0_off16 v49) a + S1x2048.size a ≤ S8704x2048.size a := fun i v0 v49 k0_hw5 k0_h1 => k0_hw5 k0_h1

def k0_off17 (k0_t1 : Fin k0_t1_loop.trips) : Fin 3 → Nat :=
  let c0_42 : Index := 0#32
  let c0_43 : Index := 0#32
  let c0_i32_3 : BitVec 32 := 0#32
  let c1_i32 : BitVec 32 := 1#32
  let arg17 : BitVec 32 := Scf.iv c0_i32_3 c1_i32 k0_t1
  let c8_i32_41 : BitVec 32 := 8#32
  let v52 : BitVec 32 := Scalar.muli arg17 c8_i32_41
  let c5_i32 : BitVec 32 := 5#32
  let v53 : BitVec 32 := Scalar.addi v52 c5_i32
  let v54 : Index := Scalar.indexCast v53
  ![0, 0, v54.toNat]
def k0_off18 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32_41 : BitVec 32 := 8#32
  let v52 : BitVec 32 := Scalar.muli arg17 c8_i32_41
  let c5_i32 : BitVec 32 := 5#32
  let v53 : BitVec 32 := Scalar.addi v52 c5_i32
  let c0_i32_44 : BitVec 32 := 0#32
  ![v53.toNat, 0]
def k0_off19 (v55 : BitVec 32) : Fin 2 → Nat :=
  let c0_i32_45 : BitVec 32 := 0#32
  ![v55.toNat, 0]

def k0_chk6 (i : grid0.Coords) (v0 : BitVec 32) (v55 : BitVec 32) : Prop :=
  (∀ (k0_h1 : k0_cond1 i v0 = 1#1), ∀ a, (k0_off19 v55) a + S1x2048.size a ≤ S8704x2048.size a)
theorem k0_off19_inb : ∀ (i : grid0.Coords) (v0 : BitVec 32) (v55 : BitVec 32) (k0_hw6 : k0_chk6 i v0 v55), ∀ (k0_h1 : k0_cond1 i v0 = 1#1), ∀ a, (k0_off19 v55) a + S1x2048.size a ≤ S8704x2048.size a := fun i v0 v55 k0_hw6 k0_h1 => k0_hw6 k0_h1

def k0_off20 (k0_t1 : Fin k0_t1_loop.trips) : Fin 3 → Nat :=
  let c0_47 : Index := 0#32
  let c0_48 : Index := 0#32
  let c0_i32_3 : BitVec 32 := 0#32
  let c1_i32 : BitVec 32 := 1#32
  let arg17 : BitVec 32 := Scf.iv c0_i32_3 c1_i32 k0_t1
  let c8_i32_46 : BitVec 32 := 8#32
  let v58 : BitVec 32 := Scalar.muli arg17 c8_i32_46
  let c6_i32 : BitVec 32 := 6#32
  let v59 : BitVec 32 := Scalar.addi v58 c6_i32
  let v60 : Index := Scalar.indexCast v59
  ![0, 0, v60.toNat]
def k0_off21 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32_46 : BitVec 32 := 8#32
  let v58 : BitVec 32 := Scalar.muli arg17 c8_i32_46
  let c6_i32 : BitVec 32 := 6#32
  let v59 : BitVec 32 := Scalar.addi v58 c6_i32
  let c0_i32_49 : BitVec 32 := 0#32
  ![v59.toNat, 0]
def k0_off22 (v61 : BitVec 32) : Fin 2 → Nat :=
  let c0_i32_50 : BitVec 32 := 0#32
  ![v61.toNat, 0]

def k0_chk7 (i : grid0.Coords) (v0 : BitVec 32) (v61 : BitVec 32) : Prop :=
  (∀ (k0_h1 : k0_cond1 i v0 = 1#1), ∀ a, (k0_off22 v61) a + S1x2048.size a ≤ S8704x2048.size a)
theorem k0_off22_inb : ∀ (i : grid0.Coords) (v0 : BitVec 32) (v61 : BitVec 32) (k0_hw7 : k0_chk7 i v0 v61), ∀ (k0_h1 : k0_cond1 i v0 = 1#1), ∀ a, (k0_off22 v61) a + S1x2048.size a ≤ S8704x2048.size a := fun i v0 v61 k0_hw7 k0_h1 => k0_hw7 k0_h1

def k0_off23 (k0_t1 : Fin k0_t1_loop.trips) : Fin 3 → Nat :=
  let c0_53 : Index := 0#32
  let c0_54 : Index := 0#32
  let c0_i32_3 : BitVec 32 := 0#32
  let c1_i32 : BitVec 32 := 1#32
  let arg17 : BitVec 32 := Scf.iv c0_i32_3 c1_i32 k0_t1
  let c8_i32_51 : BitVec 32 := 8#32
  let v64 : BitVec 32 := Scalar.muli arg17 c8_i32_51
  let c7_i32_52 : BitVec 32 := 7#32
  let v65 : BitVec 32 := Scalar.addi v64 c7_i32_52
  let v66 : Index := Scalar.indexCast v65
  ![0, 0, v66.toNat]
def k0_off24 (k0_t1 : Fin k0_t1_loop.trips) : Fin 2 → Nat :=
  let c0_i32_3 : BitVec 32 := 0#32
  let c1_i32 : BitVec 32 := 1#32
  let arg17 : BitVec 32 := Scf.iv c0_i32_3 c1_i32 k0_t1
  let c8_i32_51 : BitVec 32 := 8#32
  let v64 : BitVec 32 := Scalar.muli arg17 c8_i32_51
  let c7_i32_52 : BitVec 32 := 7#32
  let v65 : BitVec 32 := Scalar.addi v64 c7_i32_52
  let c0_i32_55 : BitVec 32 := 0#32
  ![v65.toNat, 0]
def k0_off25 (v67 : BitVec 32) : Fin 2 → Nat :=
  let c0_i32_56 : BitVec 32 := 0#32
  ![v67.toNat, 0]

def k0_chk8 (i : grid0.Coords) (v0 : BitVec 32) (v67 : BitVec 32) : Prop :=
  (∀ (k0_h1 : k0_cond1 i v0 = 1#1), ∀ a, (k0_off25 v67) a + S1x2048.size a ≤ S8704x2048.size a)
theorem k0_off25_inb : ∀ (i : grid0.Coords) (v0 : BitVec 32) (v67 : BitVec 32) (k0_hw8 : k0_chk8 i v0 v67), ∀ (k0_h1 : k0_cond1 i v0 = 1#1), ∀ a, (k0_off25 v67) a + S1x2048.size a ≤ S8704x2048.size a := fun i v0 v67 k0_hw8 k0_h1 => k0_hw8 k0_h1

@[reducible] def k0_t2_loop : Scf.Loop 32 :=
  let c0_i32_5 : BitVec 32 := 0#32
  let c64_i32_6 : BitVec 32 := 64#32
  let v12 : BitVec 32 := Scalar.addi c0_i32_5 c64_i32_6
  let c1_i32_7 : BitVec 32 := 1#32
  ⟨c0_i32_5, v12, c1_i32_7⟩
def k0_off26 (k0_t2 : Fin k0_t2_loop.trips) : Fin 3 → Nat :=
  let c0_16 : Index := 0#32
  let c0_17 : Index := 0#32
  let c0_i32_5 : BitVec 32 := 0#32
  let c1_i32_7 : BitVec 32 := 1#32
  let arg17 : BitVec 32 := Scf.iv c0_i32_5 c1_i32_7 k0_t2
  let c8_i32 : BitVec 32 := 8#32
  let v22 : BitVec 32 := Scalar.muli arg17 c8_i32
  let c0_i32_15 : BitVec 32 := 0#32
  let v23 : BitVec 32 := Scalar.addi v22 c0_i32_15
  let v24 : Index := Scalar.indexCast v23
  ![0, 0, v24.toNat]
def k0_off27 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32 : BitVec 32 := 8#32
  let v22 : BitVec 32 := Scalar.muli arg17 c8_i32
  let c0_i32_15 : BitVec 32 := 0#32
  let v23 : BitVec 32 := Scalar.addi v22 c0_i32_15
  let c0_i32_18 : BitVec 32 := 0#32
  ![v23.toNat, 0]
def k0_off28 (v25 : BitVec 32) : Fin 2 → Nat :=
  let c0_i32_19 : BitVec 32 := 0#32
  ![v25.toNat, 0]

def k0_chk9 (i : grid0.Coords) (v0 : BitVec 32) (v25 : BitVec 32) : Prop :=
  (∀ (k0_h1 : k0_cond1 i v0 = 1#1), ∀ a, (k0_off28 v25) a + S1x2048.size a ≤ S8704x2048.size a)
theorem k0_off28_inb : ∀ (i : grid0.Coords) (v0 : BitVec 32) (v25 : BitVec 32) (k0_hw9 : k0_chk9 i v0 v25), ∀ (k0_h1 : k0_cond1 i v0 = 1#1), ∀ a, (k0_off28 v25) a + S1x2048.size a ≤ S8704x2048.size a := fun i v0 v25 k0_hw9 k0_h1 => k0_hw9 k0_h1

def k0_off29 (k0_t2 : Fin k0_t2_loop.trips) : Fin 3 → Nat :=
  let c0_22 : Index := 0#32
  let c0_23 : Index := 0#32
  let c0_i32_5 : BitVec 32 := 0#32
  let c1_i32_7 : BitVec 32 := 1#32
  let arg17 : BitVec 32 := Scf.iv c0_i32_5 c1_i32_7 k0_t2
  let c8_i32_20 : BitVec 32 := 8#32
  let v28 : BitVec 32 := Scalar.muli arg17 c8_i32_20
  let c1_i32_21 : BitVec 32 := 1#32
  let v29 : BitVec 32 := Scalar.addi v28 c1_i32_21
  let v30 : Index := Scalar.indexCast v29
  ![0, 0, v30.toNat]
def k0_off30 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32_20 : BitVec 32 := 8#32
  let v28 : BitVec 32 := Scalar.muli arg17 c8_i32_20
  let c1_i32_21 : BitVec 32 := 1#32
  let v29 : BitVec 32 := Scalar.addi v28 c1_i32_21
  let c0_i32_24 : BitVec 32 := 0#32
  ![v29.toNat, 0]
def k0_off31 (v31 : BitVec 32) : Fin 2 → Nat :=
  let c0_i32_25 : BitVec 32 := 0#32
  ![v31.toNat, 0]

def k0_chk10 (i : grid0.Coords) (v0 : BitVec 32) (v31 : BitVec 32) : Prop :=
  (∀ (k0_h1 : k0_cond1 i v0 = 1#1), ∀ a, (k0_off31 v31) a + S1x2048.size a ≤ S8704x2048.size a)
theorem k0_off31_inb : ∀ (i : grid0.Coords) (v0 : BitVec 32) (v31 : BitVec 32) (k0_hw10 : k0_chk10 i v0 v31), ∀ (k0_h1 : k0_cond1 i v0 = 1#1), ∀ a, (k0_off31 v31) a + S1x2048.size a ≤ S8704x2048.size a := fun i v0 v31 k0_hw10 k0_h1 => k0_hw10 k0_h1

def k0_off32 (k0_t2 : Fin k0_t2_loop.trips) : Fin 3 → Nat :=
  let c0_27 : Index := 0#32
  let c0_28 : Index := 0#32
  let c0_i32_5 : BitVec 32 := 0#32
  let c1_i32_7 : BitVec 32 := 1#32
  let arg17 : BitVec 32 := Scf.iv c0_i32_5 c1_i32_7 k0_t2
  let c8_i32_26 : BitVec 32 := 8#32
  let v34 : BitVec 32 := Scalar.muli arg17 c8_i32_26
  let c2_i32 : BitVec 32 := 2#32
  let v35 : BitVec 32 := Scalar.addi v34 c2_i32
  let v36 : Index := Scalar.indexCast v35
  ![0, 0, v36.toNat]
def k0_off33 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32_26 : BitVec 32 := 8#32
  let v34 : BitVec 32 := Scalar.muli arg17 c8_i32_26
  let c2_i32 : BitVec 32 := 2#32
  let v35 : BitVec 32 := Scalar.addi v34 c2_i32
  let c0_i32_29 : BitVec 32 := 0#32
  ![v35.toNat, 0]
def k0_off34 (v37 : BitVec 32) : Fin 2 → Nat :=
  let c0_i32_30 : BitVec 32 := 0#32
  ![v37.toNat, 0]

def k0_chk11 (i : grid0.Coords) (v0 : BitVec 32) (v37 : BitVec 32) : Prop :=
  (∀ (k0_h1 : k0_cond1 i v0 = 1#1), ∀ a, (k0_off34 v37) a + S1x2048.size a ≤ S8704x2048.size a)
theorem k0_off34_inb : ∀ (i : grid0.Coords) (v0 : BitVec 32) (v37 : BitVec 32) (k0_hw11 : k0_chk11 i v0 v37), ∀ (k0_h1 : k0_cond1 i v0 = 1#1), ∀ a, (k0_off34 v37) a + S1x2048.size a ≤ S8704x2048.size a := fun i v0 v37 k0_hw11 k0_h1 => k0_hw11 k0_h1

def k0_off35 (k0_t2 : Fin k0_t2_loop.trips) : Fin 3 → Nat :=
  let c0_32 : Index := 0#32
  let c0_33 : Index := 0#32
  let c0_i32_5 : BitVec 32 := 0#32
  let c1_i32_7 : BitVec 32 := 1#32
  let arg17 : BitVec 32 := Scf.iv c0_i32_5 c1_i32_7 k0_t2
  let c8_i32_31 : BitVec 32 := 8#32
  let v40 : BitVec 32 := Scalar.muli arg17 c8_i32_31
  let c3_i32 : BitVec 32 := 3#32
  let v41 : BitVec 32 := Scalar.addi v40 c3_i32
  let v42 : Index := Scalar.indexCast v41
  ![0, 0, v42.toNat]
def k0_off36 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32_31 : BitVec 32 := 8#32
  let v40 : BitVec 32 := Scalar.muli arg17 c8_i32_31
  let c3_i32 : BitVec 32 := 3#32
  let v41 : BitVec 32 := Scalar.addi v40 c3_i32
  let c0_i32_34 : BitVec 32 := 0#32
  ![v41.toNat, 0]
def k0_off37 (v43 : BitVec 32) : Fin 2 → Nat :=
  let c0_i32_35 : BitVec 32 := 0#32
  ![v43.toNat, 0]

def k0_chk12 (i : grid0.Coords) (v0 : BitVec 32) (v43 : BitVec 32) : Prop :=
  (∀ (k0_h1 : k0_cond1 i v0 = 1#1), ∀ a, (k0_off37 v43) a + S1x2048.size a ≤ S8704x2048.size a)
theorem k0_off37_inb : ∀ (i : grid0.Coords) (v0 : BitVec 32) (v43 : BitVec 32) (k0_hw12 : k0_chk12 i v0 v43), ∀ (k0_h1 : k0_cond1 i v0 = 1#1), ∀ a, (k0_off37 v43) a + S1x2048.size a ≤ S8704x2048.size a := fun i v0 v43 k0_hw12 k0_h1 => k0_hw12 k0_h1

def k0_off38 (k0_t2 : Fin k0_t2_loop.trips) : Fin 3 → Nat :=
  let c0_37 : Index := 0#32
  let c0_38 : Index := 0#32
  let c0_i32_5 : BitVec 32 := 0#32
  let c1_i32_7 : BitVec 32 := 1#32
  let arg17 : BitVec 32 := Scf.iv c0_i32_5 c1_i32_7 k0_t2
  let c8_i32_36 : BitVec 32 := 8#32
  let v46 : BitVec 32 := Scalar.muli arg17 c8_i32_36
  let c4_i32 : BitVec 32 := 4#32
  let v47 : BitVec 32 := Scalar.addi v46 c4_i32
  let v48 : Index := Scalar.indexCast v47
  ![0, 0, v48.toNat]
def k0_off39 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32_36 : BitVec 32 := 8#32
  let v46 : BitVec 32 := Scalar.muli arg17 c8_i32_36
  let c4_i32 : BitVec 32 := 4#32
  let v47 : BitVec 32 := Scalar.addi v46 c4_i32
  let c0_i32_39 : BitVec 32 := 0#32
  ![v47.toNat, 0]
def k0_off40 (v49 : BitVec 32) : Fin 2 → Nat :=
  let c0_i32_40 : BitVec 32 := 0#32
  ![v49.toNat, 0]

def k0_chk13 (i : grid0.Coords) (v0 : BitVec 32) (v49 : BitVec 32) : Prop :=
  (∀ (k0_h1 : k0_cond1 i v0 = 1#1), ∀ a, (k0_off40 v49) a + S1x2048.size a ≤ S8704x2048.size a)
theorem k0_off40_inb : ∀ (i : grid0.Coords) (v0 : BitVec 32) (v49 : BitVec 32) (k0_hw13 : k0_chk13 i v0 v49), ∀ (k0_h1 : k0_cond1 i v0 = 1#1), ∀ a, (k0_off40 v49) a + S1x2048.size a ≤ S8704x2048.size a := fun i v0 v49 k0_hw13 k0_h1 => k0_hw13 k0_h1

def k0_off41 (k0_t2 : Fin k0_t2_loop.trips) : Fin 3 → Nat :=
  let c0_42 : Index := 0#32
  let c0_43 : Index := 0#32
  let c0_i32_5 : BitVec 32 := 0#32
  let c1_i32_7 : BitVec 32 := 1#32
  let arg17 : BitVec 32 := Scf.iv c0_i32_5 c1_i32_7 k0_t2
  let c8_i32_41 : BitVec 32 := 8#32
  let v52 : BitVec 32 := Scalar.muli arg17 c8_i32_41
  let c5_i32 : BitVec 32 := 5#32
  let v53 : BitVec 32 := Scalar.addi v52 c5_i32
  let v54 : Index := Scalar.indexCast v53
  ![0, 0, v54.toNat]
def k0_off42 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32_41 : BitVec 32 := 8#32
  let v52 : BitVec 32 := Scalar.muli arg17 c8_i32_41
  let c5_i32 : BitVec 32 := 5#32
  let v53 : BitVec 32 := Scalar.addi v52 c5_i32
  let c0_i32_44 : BitVec 32 := 0#32
  ![v53.toNat, 0]
def k0_off43 (v55 : BitVec 32) : Fin 2 → Nat :=
  let c0_i32_45 : BitVec 32 := 0#32
  ![v55.toNat, 0]

def k0_chk14 (i : grid0.Coords) (v0 : BitVec 32) (v55 : BitVec 32) : Prop :=
  (∀ (k0_h1 : k0_cond1 i v0 = 1#1), ∀ a, (k0_off43 v55) a + S1x2048.size a ≤ S8704x2048.size a)
theorem k0_off43_inb : ∀ (i : grid0.Coords) (v0 : BitVec 32) (v55 : BitVec 32) (k0_hw14 : k0_chk14 i v0 v55), ∀ (k0_h1 : k0_cond1 i v0 = 1#1), ∀ a, (k0_off43 v55) a + S1x2048.size a ≤ S8704x2048.size a := fun i v0 v55 k0_hw14 k0_h1 => k0_hw14 k0_h1

def k0_off44 (k0_t2 : Fin k0_t2_loop.trips) : Fin 3 → Nat :=
  let c0_47 : Index := 0#32
  let c0_48 : Index := 0#32
  let c0_i32_5 : BitVec 32 := 0#32
  let c1_i32_7 : BitVec 32 := 1#32
  let arg17 : BitVec 32 := Scf.iv c0_i32_5 c1_i32_7 k0_t2
  let c8_i32_46 : BitVec 32 := 8#32
  let v58 : BitVec 32 := Scalar.muli arg17 c8_i32_46
  let c6_i32 : BitVec 32 := 6#32
  let v59 : BitVec 32 := Scalar.addi v58 c6_i32
  let v60 : Index := Scalar.indexCast v59
  ![0, 0, v60.toNat]
def k0_off45 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32_46 : BitVec 32 := 8#32
  let v58 : BitVec 32 := Scalar.muli arg17 c8_i32_46
  let c6_i32 : BitVec 32 := 6#32
  let v59 : BitVec 32 := Scalar.addi v58 c6_i32
  let c0_i32_49 : BitVec 32 := 0#32
  ![v59.toNat, 0]
def k0_off46 (v61 : BitVec 32) : Fin 2 → Nat :=
  let c0_i32_50 : BitVec 32 := 0#32
  ![v61.toNat, 0]

def k0_chk15 (i : grid0.Coords) (v0 : BitVec 32) (v61 : BitVec 32) : Prop :=
  (∀ (k0_h1 : k0_cond1 i v0 = 1#1), ∀ a, (k0_off46 v61) a + S1x2048.size a ≤ S8704x2048.size a)
theorem k0_off46_inb : ∀ (i : grid0.Coords) (v0 : BitVec 32) (v61 : BitVec 32) (k0_hw15 : k0_chk15 i v0 v61), ∀ (k0_h1 : k0_cond1 i v0 = 1#1), ∀ a, (k0_off46 v61) a + S1x2048.size a ≤ S8704x2048.size a := fun i v0 v61 k0_hw15 k0_h1 => k0_hw15 k0_h1

def k0_off47 (k0_t2 : Fin k0_t2_loop.trips) : Fin 3 → Nat :=
  let c0_53 : Index := 0#32
  let c0_54 : Index := 0#32
  let c0_i32_5 : BitVec 32 := 0#32
  let c1_i32_7 : BitVec 32 := 1#32
  let arg17 : BitVec 32 := Scf.iv c0_i32_5 c1_i32_7 k0_t2
  let c8_i32_51 : BitVec 32 := 8#32
  let v64 : BitVec 32 := Scalar.muli arg17 c8_i32_51
  let c7_i32_52 : BitVec 32 := 7#32
  let v65 : BitVec 32 := Scalar.addi v64 c7_i32_52
  let v66 : Index := Scalar.indexCast v65
  ![0, 0, v66.toNat]
def k0_off48 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c8_i32_51 : BitVec 32 := 8#32
  let v64 : BitVec 32 := Scalar.muli arg17 c8_i32_51
  let c7_i32_52 : BitVec 32 := 7#32
  let v65 : BitVec 32 := Scalar.addi v64 c7_i32_52
  let c0_i32_55 : BitVec 32 := 0#32
  ![v65.toNat, 0]
def k0_off49 (v67 : BitVec 32) : Fin 2 → Nat :=
  let c0_i32_56 : BitVec 32 := 0#32
  ![v67.toNat, 0]

def k0_chk16 (i : grid0.Coords) (v0 : BitVec 32) (v67 : BitVec 32) : Prop :=
  (∀ (k0_h1 : k0_cond1 i v0 = 1#1), ∀ a, (k0_off49 v67) a + S1x2048.size a ≤ S8704x2048.size a)
theorem k0_off49_inb : ∀ (i : grid0.Coords) (v0 : BitVec 32) (v67 : BitVec 32) (k0_hw16 : k0_chk16 i v0 v67), ∀ (k0_h1 : k0_cond1 i v0 = 1#1), ∀ a, (k0_off49 v67) a + S1x2048.size a ≤ S8704x2048.size a := fun i v0 v67 k0_hw16 k0_h1 => k0_hw16 k0_h1

def k0_cond3 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_2 : BitVec 32 := 0#32
  let v10 : BitVec 1 := Scalar.cmpi .ne v9 c0_i32_2
  v10

@[reducible] def k0_t3_loop : Scf.Loop 32 :=
  let c0_i32_9 : BitVec 32 := 0#32
  let c64_i32 : BitVec 32 := 64#32
  let v21 : BitVec 32 := Scalar.addi c0_i32_9 c64_i32
  let c1_i32 : BitVec 32 := 1#32
  ⟨c0_i32_9, v21, c1_i32⟩
def k0_off50 (k0_t3 : Fin k0_t3_loop.trips) : Fin 3 → Nat :=
  let c0_16 : Index := 0#32
  let c0_17 : Index := 0#32
  let c0_i32_9 : BitVec 32 := 0#32
  let c1_i32 : BitVec 32 := 1#32
  let arg17 : BitVec 32 := Scf.iv c0_i32_9 c1_i32 k0_t3
  let c8_i32 : BitVec 32 := 8#32
  let v23 : BitVec 32 := Scalar.muli arg17 c8_i32
  let c0_i32_15 : BitVec 32 := 0#32
  let v24 : BitVec 32 := Scalar.addi v23 c0_i32_15
  let v25 : Index := Scalar.indexCast v24
  ![0, 0, v25.toNat]
def k0_off51 (v26 : BitVec 32) : Fin 2 → Nat :=
  let c0_i32_18 : BitVec 32 := 0#32
  ![v26.toNat, 0]

def k0_chk17 (i : grid0.Coords) (v26 : BitVec 32) : Prop :=
  (∀ (k0_h3 : k0_cond3 i = 1#1), ∀ a, (k0_off51 v26) a + S1x2048.size a ≤ S21504x2048.size a)
theorem k0_off51_inb : ∀ (i : grid0.Coords) (v26 : BitVec 32) (k0_hw17 : k0_chk17 i v26), ∀ (k0_h3 : k0_cond3 i = 1#1), ∀ a, (k0_off51 v26) a + S1x2048.size a ≤ S21504x2048.size a := fun i v26 k0_hw17 k0_h3 => k0_hw17 k0_h3

def k0_off52 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32 : BitVec 32 := 8#32
  let v23 : BitVec 32 := Scalar.muli arg17 c8_i32
  let c0_i32_15 : BitVec 32 := 0#32
  let v24 : BitVec 32 := Scalar.addi v23 c0_i32_15
  let c0_i32_19 : BitVec 32 := 0#32
  ![v24.toNat, 0]
def k0_off53 (k0_t3 : Fin k0_t3_loop.trips) : Fin 3 → Nat :=
  let c0_22 : Index := 0#32
  let c0_23 : Index := 0#32
  let c0_i32_9 : BitVec 32 := 0#32
  let c1_i32 : BitVec 32 := 1#32
  let arg17 : BitVec 32 := Scf.iv c0_i32_9 c1_i32 k0_t3
  let c8_i32_20 : BitVec 32 := 8#32
  let v29 : BitVec 32 := Scalar.muli arg17 c8_i32_20
  let c1_i32_21 : BitVec 32 := 1#32
  let v30 : BitVec 32 := Scalar.addi v29 c1_i32_21
  let v31 : Index := Scalar.indexCast v30
  ![0, 0, v31.toNat]
def k0_off54 (v32 : BitVec 32) : Fin 2 → Nat :=
  let c0_i32_24 : BitVec 32 := 0#32
  ![v32.toNat, 0]

def k0_chk18 (i : grid0.Coords) (v32 : BitVec 32) : Prop :=
  (∀ (k0_h3 : k0_cond3 i = 1#1), ∀ a, (k0_off54 v32) a + S1x2048.size a ≤ S21504x2048.size a)
theorem k0_off54_inb : ∀ (i : grid0.Coords) (v32 : BitVec 32) (k0_hw18 : k0_chk18 i v32), ∀ (k0_h3 : k0_cond3 i = 1#1), ∀ a, (k0_off54 v32) a + S1x2048.size a ≤ S21504x2048.size a := fun i v32 k0_hw18 k0_h3 => k0_hw18 k0_h3

def k0_off55 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32_20 : BitVec 32 := 8#32
  let v29 : BitVec 32 := Scalar.muli arg17 c8_i32_20
  let c1_i32_21 : BitVec 32 := 1#32
  let v30 : BitVec 32 := Scalar.addi v29 c1_i32_21
  let c0_i32_25 : BitVec 32 := 0#32
  ![v30.toNat, 0]
def k0_off56 (k0_t3 : Fin k0_t3_loop.trips) : Fin 3 → Nat :=
  let c0_27 : Index := 0#32
  let c0_28 : Index := 0#32
  let c0_i32_9 : BitVec 32 := 0#32
  let c1_i32 : BitVec 32 := 1#32
  let arg17 : BitVec 32 := Scf.iv c0_i32_9 c1_i32 k0_t3
  let c8_i32_26 : BitVec 32 := 8#32
  let v35 : BitVec 32 := Scalar.muli arg17 c8_i32_26
  let c2_i32 : BitVec 32 := 2#32
  let v36 : BitVec 32 := Scalar.addi v35 c2_i32
  let v37 : Index := Scalar.indexCast v36
  ![0, 0, v37.toNat]
def k0_off57 (v38 : BitVec 32) : Fin 2 → Nat :=
  let c0_i32_29 : BitVec 32 := 0#32
  ![v38.toNat, 0]

def k0_chk19 (i : grid0.Coords) (v38 : BitVec 32) : Prop :=
  (∀ (k0_h3 : k0_cond3 i = 1#1), ∀ a, (k0_off57 v38) a + S1x2048.size a ≤ S21504x2048.size a)
theorem k0_off57_inb : ∀ (i : grid0.Coords) (v38 : BitVec 32) (k0_hw19 : k0_chk19 i v38), ∀ (k0_h3 : k0_cond3 i = 1#1), ∀ a, (k0_off57 v38) a + S1x2048.size a ≤ S21504x2048.size a := fun i v38 k0_hw19 k0_h3 => k0_hw19 k0_h3

def k0_off58 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32_26 : BitVec 32 := 8#32
  let v35 : BitVec 32 := Scalar.muli arg17 c8_i32_26
  let c2_i32 : BitVec 32 := 2#32
  let v36 : BitVec 32 := Scalar.addi v35 c2_i32
  let c0_i32_30 : BitVec 32 := 0#32
  ![v36.toNat, 0]
def k0_off59 (k0_t3 : Fin k0_t3_loop.trips) : Fin 3 → Nat :=
  let c0_32 : Index := 0#32
  let c0_33 : Index := 0#32
  let c0_i32_9 : BitVec 32 := 0#32
  let c1_i32 : BitVec 32 := 1#32
  let arg17 : BitVec 32 := Scf.iv c0_i32_9 c1_i32 k0_t3
  let c8_i32_31 : BitVec 32 := 8#32
  let v41 : BitVec 32 := Scalar.muli arg17 c8_i32_31
  let c3_i32 : BitVec 32 := 3#32
  let v42 : BitVec 32 := Scalar.addi v41 c3_i32
  let v43 : Index := Scalar.indexCast v42
  ![0, 0, v43.toNat]
def k0_off60 (v44 : BitVec 32) : Fin 2 → Nat :=
  let c0_i32_34 : BitVec 32 := 0#32
  ![v44.toNat, 0]

def k0_chk20 (i : grid0.Coords) (v44 : BitVec 32) : Prop :=
  (∀ (k0_h3 : k0_cond3 i = 1#1), ∀ a, (k0_off60 v44) a + S1x2048.size a ≤ S21504x2048.size a)
theorem k0_off60_inb : ∀ (i : grid0.Coords) (v44 : BitVec 32) (k0_hw20 : k0_chk20 i v44), ∀ (k0_h3 : k0_cond3 i = 1#1), ∀ a, (k0_off60 v44) a + S1x2048.size a ≤ S21504x2048.size a := fun i v44 k0_hw20 k0_h3 => k0_hw20 k0_h3

def k0_off61 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32_31 : BitVec 32 := 8#32
  let v41 : BitVec 32 := Scalar.muli arg17 c8_i32_31
  let c3_i32 : BitVec 32 := 3#32
  let v42 : BitVec 32 := Scalar.addi v41 c3_i32
  let c0_i32_35 : BitVec 32 := 0#32
  ![v42.toNat, 0]
def k0_off62 (k0_t3 : Fin k0_t3_loop.trips) : Fin 3 → Nat :=
  let c0_37 : Index := 0#32
  let c0_38 : Index := 0#32
  let c0_i32_9 : BitVec 32 := 0#32
  let c1_i32 : BitVec 32 := 1#32
  let arg17 : BitVec 32 := Scf.iv c0_i32_9 c1_i32 k0_t3
  let c8_i32_36 : BitVec 32 := 8#32
  let v47 : BitVec 32 := Scalar.muli arg17 c8_i32_36
  let c4_i32 : BitVec 32 := 4#32
  let v48 : BitVec 32 := Scalar.addi v47 c4_i32
  let v49 : Index := Scalar.indexCast v48
  ![0, 0, v49.toNat]
def k0_off63 (v50 : BitVec 32) : Fin 2 → Nat :=
  let c0_i32_39 : BitVec 32 := 0#32
  ![v50.toNat, 0]

def k0_chk21 (i : grid0.Coords) (v50 : BitVec 32) : Prop :=
  (∀ (k0_h3 : k0_cond3 i = 1#1), ∀ a, (k0_off63 v50) a + S1x2048.size a ≤ S21504x2048.size a)
theorem k0_off63_inb : ∀ (i : grid0.Coords) (v50 : BitVec 32) (k0_hw21 : k0_chk21 i v50), ∀ (k0_h3 : k0_cond3 i = 1#1), ∀ a, (k0_off63 v50) a + S1x2048.size a ≤ S21504x2048.size a := fun i v50 k0_hw21 k0_h3 => k0_hw21 k0_h3

def k0_off64 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32_36 : BitVec 32 := 8#32
  let v47 : BitVec 32 := Scalar.muli arg17 c8_i32_36
  let c4_i32 : BitVec 32 := 4#32
  let v48 : BitVec 32 := Scalar.addi v47 c4_i32
  let c0_i32_40 : BitVec 32 := 0#32
  ![v48.toNat, 0]
def k0_off65 (k0_t3 : Fin k0_t3_loop.trips) : Fin 3 → Nat :=
  let c0_42 : Index := 0#32
  let c0_43 : Index := 0#32
  let c0_i32_9 : BitVec 32 := 0#32
  let c1_i32 : BitVec 32 := 1#32
  let arg17 : BitVec 32 := Scf.iv c0_i32_9 c1_i32 k0_t3
  let c8_i32_41 : BitVec 32 := 8#32
  let v53 : BitVec 32 := Scalar.muli arg17 c8_i32_41
  let c5_i32 : BitVec 32 := 5#32
  let v54 : BitVec 32 := Scalar.addi v53 c5_i32
  let v55 : Index := Scalar.indexCast v54
  ![0, 0, v55.toNat]
def k0_off66 (v56 : BitVec 32) : Fin 2 → Nat :=
  let c0_i32_44 : BitVec 32 := 0#32
  ![v56.toNat, 0]

def k0_chk22 (i : grid0.Coords) (v56 : BitVec 32) : Prop :=
  (∀ (k0_h3 : k0_cond3 i = 1#1), ∀ a, (k0_off66 v56) a + S1x2048.size a ≤ S21504x2048.size a)
theorem k0_off66_inb : ∀ (i : grid0.Coords) (v56 : BitVec 32) (k0_hw22 : k0_chk22 i v56), ∀ (k0_h3 : k0_cond3 i = 1#1), ∀ a, (k0_off66 v56) a + S1x2048.size a ≤ S21504x2048.size a := fun i v56 k0_hw22 k0_h3 => k0_hw22 k0_h3

def k0_off67 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32_41 : BitVec 32 := 8#32
  let v53 : BitVec 32 := Scalar.muli arg17 c8_i32_41
  let c5_i32 : BitVec 32 := 5#32
  let v54 : BitVec 32 := Scalar.addi v53 c5_i32
  let c0_i32_45 : BitVec 32 := 0#32
  ![v54.toNat, 0]
def k0_off68 (k0_t3 : Fin k0_t3_loop.trips) : Fin 3 → Nat :=
  let c0_47 : Index := 0#32
  let c0_48 : Index := 0#32
  let c0_i32_9 : BitVec 32 := 0#32
  let c1_i32 : BitVec 32 := 1#32
  let arg17 : BitVec 32 := Scf.iv c0_i32_9 c1_i32 k0_t3
  let c8_i32_46 : BitVec 32 := 8#32
  let v59 : BitVec 32 := Scalar.muli arg17 c8_i32_46
  let c6_i32 : BitVec 32 := 6#32
  let v60 : BitVec 32 := Scalar.addi v59 c6_i32
  let v61 : Index := Scalar.indexCast v60
  ![0, 0, v61.toNat]
def k0_off69 (v62 : BitVec 32) : Fin 2 → Nat :=
  let c0_i32_49 : BitVec 32 := 0#32
  ![v62.toNat, 0]

def k0_chk23 (i : grid0.Coords) (v62 : BitVec 32) : Prop :=
  (∀ (k0_h3 : k0_cond3 i = 1#1), ∀ a, (k0_off69 v62) a + S1x2048.size a ≤ S21504x2048.size a)
theorem k0_off69_inb : ∀ (i : grid0.Coords) (v62 : BitVec 32) (k0_hw23 : k0_chk23 i v62), ∀ (k0_h3 : k0_cond3 i = 1#1), ∀ a, (k0_off69 v62) a + S1x2048.size a ≤ S21504x2048.size a := fun i v62 k0_hw23 k0_h3 => k0_hw23 k0_h3

def k0_off70 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32_46 : BitVec 32 := 8#32
  let v59 : BitVec 32 := Scalar.muli arg17 c8_i32_46
  let c6_i32 : BitVec 32 := 6#32
  let v60 : BitVec 32 := Scalar.addi v59 c6_i32
  let c0_i32_50 : BitVec 32 := 0#32
  ![v60.toNat, 0]
def k0_off71 (k0_t3 : Fin k0_t3_loop.trips) : Fin 3 → Nat :=
  let c0_53 : Index := 0#32
  let c0_54 : Index := 0#32
  let c0_i32_9 : BitVec 32 := 0#32
  let c1_i32 : BitVec 32 := 1#32
  let arg17 : BitVec 32 := Scf.iv c0_i32_9 c1_i32 k0_t3
  let c8_i32_51 : BitVec 32 := 8#32
  let v65 : BitVec 32 := Scalar.muli arg17 c8_i32_51
  let c7_i32_52 : BitVec 32 := 7#32
  let v66 : BitVec 32 := Scalar.addi v65 c7_i32_52
  let v67 : Index := Scalar.indexCast v66
  ![0, 0, v67.toNat]
def k0_off72 (v68 : BitVec 32) : Fin 2 → Nat :=
  let c0_i32_55 : BitVec 32 := 0#32
  ![v68.toNat, 0]

def k0_chk24 (i : grid0.Coords) (v68 : BitVec 32) : Prop :=
  (∀ (k0_h3 : k0_cond3 i = 1#1), ∀ a, (k0_off72 v68) a + S1x2048.size a ≤ S21504x2048.size a)
theorem k0_off72_inb : ∀ (i : grid0.Coords) (v68 : BitVec 32) (k0_hw24 : k0_chk24 i v68), ∀ (k0_h3 : k0_cond3 i = 1#1), ∀ a, (k0_off72 v68) a + S1x2048.size a ≤ S21504x2048.size a := fun i v68 k0_hw24 k0_h3 => k0_hw24 k0_h3

def k0_off73 (k0_t3 : Fin k0_t3_loop.trips) : Fin 2 → Nat :=
  let c0_i32_9 : BitVec 32 := 0#32
  let c1_i32 : BitVec 32 := 1#32
  let arg17 : BitVec 32 := Scf.iv c0_i32_9 c1_i32 k0_t3
  let c8_i32_51 : BitVec 32 := 8#32
  let v65 : BitVec 32 := Scalar.muli arg17 c8_i32_51
  let c7_i32_52 : BitVec 32 := 7#32
  let v66 : BitVec 32 := Scalar.addi v65 c7_i32_52
  let c0_i32_56 : BitVec 32 := 0#32
  ![v66.toNat, 0]
@[reducible] def k0_t4_loop : Scf.Loop 32 :=
  let c0_i32_11 : BitVec 32 := 0#32
  let c64_i32_12 : BitVec 32 := 64#32
  let v22 : BitVec 32 := Scalar.addi c0_i32_11 c64_i32_12
  let c1_i32_13 : BitVec 32 := 1#32
  ⟨c0_i32_11, v22, c1_i32_13⟩
def k0_off74 (k0_t4 : Fin k0_t4_loop.trips) : Fin 3 → Nat :=
  let c0_16 : Index := 0#32
  let c0_17 : Index := 0#32
  let c0_i32_11 : BitVec 32 := 0#32
  let c1_i32_13 : BitVec 32 := 1#32
  let arg17 : BitVec 32 := Scf.iv c0_i32_11 c1_i32_13 k0_t4
  let c8_i32 : BitVec 32 := 8#32
  let v23 : BitVec 32 := Scalar.muli arg17 c8_i32
  let c0_i32_15 : BitVec 32 := 0#32
  let v24 : BitVec 32 := Scalar.addi v23 c0_i32_15
  let v25 : Index := Scalar.indexCast v24
  ![0, 0, v25.toNat]
def k0_off75 (v26 : BitVec 32) : Fin 2 → Nat :=
  let c0_i32_18 : BitVec 32 := 0#32
  ![v26.toNat, 0]

def k0_chk25 (i : grid0.Coords) (v26 : BitVec 32) : Prop :=
  (∀ (k0_h3 : k0_cond3 i = 1#1), ∀ a, (k0_off75 v26) a + S1x2048.size a ≤ S21504x2048.size a)
theorem k0_off75_inb : ∀ (i : grid0.Coords) (v26 : BitVec 32) (k0_hw25 : k0_chk25 i v26), ∀ (k0_h3 : k0_cond3 i = 1#1), ∀ a, (k0_off75 v26) a + S1x2048.size a ≤ S21504x2048.size a := fun i v26 k0_hw25 k0_h3 => k0_hw25 k0_h3

def k0_off76 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32 : BitVec 32 := 8#32
  let v23 : BitVec 32 := Scalar.muli arg17 c8_i32
  let c0_i32_15 : BitVec 32 := 0#32
  let v24 : BitVec 32 := Scalar.addi v23 c0_i32_15
  let c0_i32_19 : BitVec 32 := 0#32
  ![v24.toNat, 0]
def k0_off77 (k0_t4 : Fin k0_t4_loop.trips) : Fin 3 → Nat :=
  let c0_22 : Index := 0#32
  let c0_23 : Index := 0#32
  let c0_i32_11 : BitVec 32 := 0#32
  let c1_i32_13 : BitVec 32 := 1#32
  let arg17 : BitVec 32 := Scf.iv c0_i32_11 c1_i32_13 k0_t4
  let c8_i32_20 : BitVec 32 := 8#32
  let v29 : BitVec 32 := Scalar.muli arg17 c8_i32_20
  let c1_i32_21 : BitVec 32 := 1#32
  let v30 : BitVec 32 := Scalar.addi v29 c1_i32_21
  let v31 : Index := Scalar.indexCast v30
  ![0, 0, v31.toNat]
def k0_off78 (v32 : BitVec 32) : Fin 2 → Nat :=
  let c0_i32_24 : BitVec 32 := 0#32
  ![v32.toNat, 0]

def k0_chk26 (i : grid0.Coords) (v32 : BitVec 32) : Prop :=
  (∀ (k0_h3 : k0_cond3 i = 1#1), ∀ a, (k0_off78 v32) a + S1x2048.size a ≤ S21504x2048.size a)
theorem k0_off78_inb : ∀ (i : grid0.Coords) (v32 : BitVec 32) (k0_hw26 : k0_chk26 i v32), ∀ (k0_h3 : k0_cond3 i = 1#1), ∀ a, (k0_off78 v32) a + S1x2048.size a ≤ S21504x2048.size a := fun i v32 k0_hw26 k0_h3 => k0_hw26 k0_h3

def k0_off79 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32_20 : BitVec 32 := 8#32
  let v29 : BitVec 32 := Scalar.muli arg17 c8_i32_20
  let c1_i32_21 : BitVec 32 := 1#32
  let v30 : BitVec 32 := Scalar.addi v29 c1_i32_21
  let c0_i32_25 : BitVec 32 := 0#32
  ![v30.toNat, 0]
def k0_off80 (k0_t4 : Fin k0_t4_loop.trips) : Fin 3 → Nat :=
  let c0_27 : Index := 0#32
  let c0_28 : Index := 0#32
  let c0_i32_11 : BitVec 32 := 0#32
  let c1_i32_13 : BitVec 32 := 1#32
  let arg17 : BitVec 32 := Scf.iv c0_i32_11 c1_i32_13 k0_t4
  let c8_i32_26 : BitVec 32 := 8#32
  let v35 : BitVec 32 := Scalar.muli arg17 c8_i32_26
  let c2_i32 : BitVec 32 := 2#32
  let v36 : BitVec 32 := Scalar.addi v35 c2_i32
  let v37 : Index := Scalar.indexCast v36
  ![0, 0, v37.toNat]
def k0_off81 (v38 : BitVec 32) : Fin 2 → Nat :=
  let c0_i32_29 : BitVec 32 := 0#32
  ![v38.toNat, 0]

def k0_chk27 (i : grid0.Coords) (v38 : BitVec 32) : Prop :=
  (∀ (k0_h3 : k0_cond3 i = 1#1), ∀ a, (k0_off81 v38) a + S1x2048.size a ≤ S21504x2048.size a)
theorem k0_off81_inb : ∀ (i : grid0.Coords) (v38 : BitVec 32) (k0_hw27 : k0_chk27 i v38), ∀ (k0_h3 : k0_cond3 i = 1#1), ∀ a, (k0_off81 v38) a + S1x2048.size a ≤ S21504x2048.size a := fun i v38 k0_hw27 k0_h3 => k0_hw27 k0_h3

def k0_off82 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32_26 : BitVec 32 := 8#32
  let v35 : BitVec 32 := Scalar.muli arg17 c8_i32_26
  let c2_i32 : BitVec 32 := 2#32
  let v36 : BitVec 32 := Scalar.addi v35 c2_i32
  let c0_i32_30 : BitVec 32 := 0#32
  ![v36.toNat, 0]
def k0_off83 (k0_t4 : Fin k0_t4_loop.trips) : Fin 3 → Nat :=
  let c0_32 : Index := 0#32
  let c0_33 : Index := 0#32
  let c0_i32_11 : BitVec 32 := 0#32
  let c1_i32_13 : BitVec 32 := 1#32
  let arg17 : BitVec 32 := Scf.iv c0_i32_11 c1_i32_13 k0_t4
  let c8_i32_31 : BitVec 32 := 8#32
  let v41 : BitVec 32 := Scalar.muli arg17 c8_i32_31
  let c3_i32 : BitVec 32 := 3#32
  let v42 : BitVec 32 := Scalar.addi v41 c3_i32
  let v43 : Index := Scalar.indexCast v42
  ![0, 0, v43.toNat]
def k0_off84 (v44 : BitVec 32) : Fin 2 → Nat :=
  let c0_i32_34 : BitVec 32 := 0#32
  ![v44.toNat, 0]

def k0_chk28 (i : grid0.Coords) (v44 : BitVec 32) : Prop :=
  (∀ (k0_h3 : k0_cond3 i = 1#1), ∀ a, (k0_off84 v44) a + S1x2048.size a ≤ S21504x2048.size a)
theorem k0_off84_inb : ∀ (i : grid0.Coords) (v44 : BitVec 32) (k0_hw28 : k0_chk28 i v44), ∀ (k0_h3 : k0_cond3 i = 1#1), ∀ a, (k0_off84 v44) a + S1x2048.size a ≤ S21504x2048.size a := fun i v44 k0_hw28 k0_h3 => k0_hw28 k0_h3

def k0_off85 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32_31 : BitVec 32 := 8#32
  let v41 : BitVec 32 := Scalar.muli arg17 c8_i32_31
  let c3_i32 : BitVec 32 := 3#32
  let v42 : BitVec 32 := Scalar.addi v41 c3_i32
  let c0_i32_35 : BitVec 32 := 0#32
  ![v42.toNat, 0]
def k0_off86 (k0_t4 : Fin k0_t4_loop.trips) : Fin 3 → Nat :=
  let c0_37 : Index := 0#32
  let c0_38 : Index := 0#32
  let c0_i32_11 : BitVec 32 := 0#32
  let c1_i32_13 : BitVec 32 := 1#32
  let arg17 : BitVec 32 := Scf.iv c0_i32_11 c1_i32_13 k0_t4
  let c8_i32_36 : BitVec 32 := 8#32
  let v47 : BitVec 32 := Scalar.muli arg17 c8_i32_36
  let c4_i32 : BitVec 32 := 4#32
  let v48 : BitVec 32 := Scalar.addi v47 c4_i32
  let v49 : Index := Scalar.indexCast v48
  ![0, 0, v49.toNat]
def k0_off87 (v50 : BitVec 32) : Fin 2 → Nat :=
  let c0_i32_39 : BitVec 32 := 0#32
  ![v50.toNat, 0]

def k0_chk29 (i : grid0.Coords) (v50 : BitVec 32) : Prop :=
  (∀ (k0_h3 : k0_cond3 i = 1#1), ∀ a, (k0_off87 v50) a + S1x2048.size a ≤ S21504x2048.size a)
theorem k0_off87_inb : ∀ (i : grid0.Coords) (v50 : BitVec 32) (k0_hw29 : k0_chk29 i v50), ∀ (k0_h3 : k0_cond3 i = 1#1), ∀ a, (k0_off87 v50) a + S1x2048.size a ≤ S21504x2048.size a := fun i v50 k0_hw29 k0_h3 => k0_hw29 k0_h3

def k0_off88 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32_36 : BitVec 32 := 8#32
  let v47 : BitVec 32 := Scalar.muli arg17 c8_i32_36
  let c4_i32 : BitVec 32 := 4#32
  let v48 : BitVec 32 := Scalar.addi v47 c4_i32
  let c0_i32_40 : BitVec 32 := 0#32
  ![v48.toNat, 0]
def k0_off89 (k0_t4 : Fin k0_t4_loop.trips) : Fin 3 → Nat :=
  let c0_42 : Index := 0#32
  let c0_43 : Index := 0#32
  let c0_i32_11 : BitVec 32 := 0#32
  let c1_i32_13 : BitVec 32 := 1#32
  let arg17 : BitVec 32 := Scf.iv c0_i32_11 c1_i32_13 k0_t4
  let c8_i32_41 : BitVec 32 := 8#32
  let v53 : BitVec 32 := Scalar.muli arg17 c8_i32_41
  let c5_i32 : BitVec 32 := 5#32
  let v54 : BitVec 32 := Scalar.addi v53 c5_i32
  let v55 : Index := Scalar.indexCast v54
  ![0, 0, v55.toNat]
def k0_off90 (v56 : BitVec 32) : Fin 2 → Nat :=
  let c0_i32_44 : BitVec 32 := 0#32
  ![v56.toNat, 0]

def k0_chk30 (i : grid0.Coords) (v56 : BitVec 32) : Prop :=
  (∀ (k0_h3 : k0_cond3 i = 1#1), ∀ a, (k0_off90 v56) a + S1x2048.size a ≤ S21504x2048.size a)
theorem k0_off90_inb : ∀ (i : grid0.Coords) (v56 : BitVec 32) (k0_hw30 : k0_chk30 i v56), ∀ (k0_h3 : k0_cond3 i = 1#1), ∀ a, (k0_off90 v56) a + S1x2048.size a ≤ S21504x2048.size a := fun i v56 k0_hw30 k0_h3 => k0_hw30 k0_h3

def k0_off91 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32_41 : BitVec 32 := 8#32
  let v53 : BitVec 32 := Scalar.muli arg17 c8_i32_41
  let c5_i32 : BitVec 32 := 5#32
  let v54 : BitVec 32 := Scalar.addi v53 c5_i32
  let c0_i32_45 : BitVec 32 := 0#32
  ![v54.toNat, 0]
def k0_off92 (k0_t4 : Fin k0_t4_loop.trips) : Fin 3 → Nat :=
  let c0_47 : Index := 0#32
  let c0_48 : Index := 0#32
  let c0_i32_11 : BitVec 32 := 0#32
  let c1_i32_13 : BitVec 32 := 1#32
  let arg17 : BitVec 32 := Scf.iv c0_i32_11 c1_i32_13 k0_t4
  let c8_i32_46 : BitVec 32 := 8#32
  let v59 : BitVec 32 := Scalar.muli arg17 c8_i32_46
  let c6_i32 : BitVec 32 := 6#32
  let v60 : BitVec 32 := Scalar.addi v59 c6_i32
  let v61 : Index := Scalar.indexCast v60
  ![0, 0, v61.toNat]
def k0_off93 (v62 : BitVec 32) : Fin 2 → Nat :=
  let c0_i32_49 : BitVec 32 := 0#32
  ![v62.toNat, 0]

def k0_chk31 (i : grid0.Coords) (v62 : BitVec 32) : Prop :=
  (∀ (k0_h3 : k0_cond3 i = 1#1), ∀ a, (k0_off93 v62) a + S1x2048.size a ≤ S21504x2048.size a)
theorem k0_off93_inb : ∀ (i : grid0.Coords) (v62 : BitVec 32) (k0_hw31 : k0_chk31 i v62), ∀ (k0_h3 : k0_cond3 i = 1#1), ∀ a, (k0_off93 v62) a + S1x2048.size a ≤ S21504x2048.size a := fun i v62 k0_hw31 k0_h3 => k0_hw31 k0_h3

def k0_off94 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32_46 : BitVec 32 := 8#32
  let v59 : BitVec 32 := Scalar.muli arg17 c8_i32_46
  let c6_i32 : BitVec 32 := 6#32
  let v60 : BitVec 32 := Scalar.addi v59 c6_i32
  let c0_i32_50 : BitVec 32 := 0#32
  ![v60.toNat, 0]
def k0_off95 (k0_t4 : Fin k0_t4_loop.trips) : Fin 3 → Nat :=
  let c0_53 : Index := 0#32
  let c0_54 : Index := 0#32
  let c0_i32_11 : BitVec 32 := 0#32
  let c1_i32_13 : BitVec 32 := 1#32
  let arg17 : BitVec 32 := Scf.iv c0_i32_11 c1_i32_13 k0_t4
  let c8_i32_51 : BitVec 32 := 8#32
  let v65 : BitVec 32 := Scalar.muli arg17 c8_i32_51
  let c7_i32_52 : BitVec 32 := 7#32
  let v66 : BitVec 32 := Scalar.addi v65 c7_i32_52
  let v67 : Index := Scalar.indexCast v66
  ![0, 0, v67.toNat]
def k0_off96 (v68 : BitVec 32) : Fin 2 → Nat :=
  let c0_i32_55 : BitVec 32 := 0#32
  ![v68.toNat, 0]

def k0_chk32 (i : grid0.Coords) (v68 : BitVec 32) : Prop :=
  (∀ (k0_h3 : k0_cond3 i = 1#1), ∀ a, (k0_off96 v68) a + S1x2048.size a ≤ S21504x2048.size a)
theorem k0_off96_inb : ∀ (i : grid0.Coords) (v68 : BitVec 32) (k0_hw32 : k0_chk32 i v68), ∀ (k0_h3 : k0_cond3 i = 1#1), ∀ a, (k0_off96 v68) a + S1x2048.size a ≤ S21504x2048.size a := fun i v68 k0_hw32 k0_h3 => k0_hw32 k0_h3

def k0_off97 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c8_i32_51 : BitVec 32 := 8#32
  let v65 : BitVec 32 := Scalar.muli arg17 c8_i32_51
  let c7_i32_52 : BitVec 32 := 7#32
  let v66 : BitVec 32 := Scalar.addi v65 c7_i32_52
  let c0_i32_56 : BitVec 32 := 0#32
  ![v66.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  let c0_i32_1 : BitVec 32 := 0#32
  ![c0_i32.toNat, v1.toNat, c0_i32_0.toNat, v4.toNat]

def cc0_transform_5 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  let c0_i32_1 : BitVec 32 := 0#32
  ![c0_i32.toNat, v1.toNat, c0_i32_0.toNat, v4.toNat]

def cc0_transform_6 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  let c0_i32_1 : BitVec 32 := 0#32
  ![c0_i32.toNat, v1.toNat, v4.toNat, c0_i32_0.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceEIdeal.lean ====
abbrev S8704x2 : Shape := ⟨2, ![8704, 2]⟩
abbrev S8704x2048 : Shape := ⟨2, ![8704, 2048]⟩
abbrev S2x8x2048x4096 : Shape := ⟨4, ![2, 8, 2048, 4096]⟩
abbrev S2x8x4096x2048 : Shape := ⟨4, ![2, 8, 4096, 2048]⟩
abbrev S8704x2x1 : Shape := ⟨3, ![8704, 2, 1]⟩
abbrev S1x1x8 : Shape := ⟨3, ![1, 1, 8]⟩
abbrev S8704x2x8 : Shape := ⟨3, ![8704, 2, 8]⟩
abbrev S1x8x2048x4096 : Shape := ⟨4, ![1, 8, 2048, 4096]⟩
abbrev S8x2048x4096 : Shape := ⟨3, ![8, 2048, 4096]⟩
abbrev S8x4096x8704 : Shape := ⟨3, ![8, 4096, 8704]⟩
abbrev S8x8704x4096 : Shape := ⟨3, ![8, 8704, 4096]⟩
abbrev S_ : Shape := ⟨0, ![]⟩
abbrev S1x8x4096x2048 : Shape := ⟨4, ![1, 8, 4096, 2048]⟩
abbrev S8x4096x2048 : Shape := ⟨3, ![8, 4096, 2048]⟩
abbrev S8x8704x2048 : Shape := ⟨3, ![8, 8704, 2048]⟩
abbrev S2x8x8704 : Shape := ⟨3, ![2, 8, 8704]⟩
abbrev S2x8x8704x1 : Shape := ⟨4, ![2, 8, 8704, 1]⟩
abbrev S1x8x8704x2048 : Shape := ⟨4, ![1, 8, 8704, 2048]⟩
abbrev S2x8x8704x2048 : Shape := ⟨4, ![2, 8, 8704, 2048]⟩
abbrev S2x8704x2048 : Shape := ⟨3, ![2, 8704, 2048]⟩
abbrev S1x8704x2048 : Shape := ⟨3, ![1, 8704, 2048]⟩
abbrev S4096x2048 : Shape := ⟨2, ![4096, 2048]⟩
abbrev S21504x2048 : Shape := ⟨2, ![21504, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8704x2, .i32⟩
  | .hbm, ⟨1, _⟩ => ⟨S8704x2, .f32⟩
  | .hbm, ⟨2, _⟩ => ⟨S8704x2048, .f32⟩
  | .hbm, ⟨3, _⟩ => ⟨S2x8x2048x4096, .f32⟩
  | .hbm, ⟨4, _⟩ => ⟨S2x8x2048x4096, .f32⟩
  | .hbm, ⟨5, _⟩ => ⟨S2x8x4096x2048, .f32⟩
  | .hbm, ⟨6, _⟩ => ⟨S8704x2x1, .i32⟩
  | .hbm, ⟨7, _⟩ => ⟨S1x1x8, .i32⟩
  | .hbm, ⟨8, _⟩ => ⟨S8704x2x8, .i32⟩
  | .hbm, ⟨9, _⟩ => ⟨S8704x2x8, .i32⟩
  | .hbm, ⟨10, _⟩ => ⟨S8704x2x8, .i1⟩
  | .hbm, ⟨11, _⟩ => ⟨S8704x2x8, .f32⟩
  | .hbm, ⟨12, _⟩ => ⟨S8704x2x1, .f32⟩
  | .hbm, ⟨13, _⟩ => ⟨S8704x2x8, .f32⟩
  | .hbm, ⟨14, _⟩ => ⟨S8704x2x8, .f32⟩
  | .hbm, ⟨15, _⟩ => ⟨S1x8x2048x4096, .f32⟩
  | .hbm, ⟨16, _⟩ => ⟨S8x2048x4096, .f32⟩
  | .hbm, ⟨17, _⟩ => ⟨S8x4096x8704, .f32⟩
  | .hbm, ⟨18, _⟩ => ⟨S8x8704x4096, .f32⟩
  | .hbm, ⟨19, _⟩ => ⟨S8x8704x4096, .f32⟩
  | .hbm, ⟨20, _⟩ => ⟨S8x8704x4096, .f32⟩
  | .hbm, ⟨21, _⟩ => ⟨S_, .f32⟩
  | .hbm, ⟨22, _⟩ => ⟨S8x8704x4096, .f32⟩
  | .hbm, ⟨23, _⟩ => ⟨S8x8704x4096, .f32⟩
  | .hbm, ⟨24, _⟩ => ⟨S_, .f32⟩
  | .hbm, ⟨25, _⟩ => ⟨S8x8704x4096, .f32⟩
  | .hbm, ⟨26, _⟩ => ⟨S8x8704x4096, .f32⟩
  | .hbm, ⟨27, _⟩ => ⟨S8x8704x4096, .f32⟩
  | .hbm, ⟨28, _⟩ => ⟨S1x8x2048x4096, .f32⟩
  | .hbm, ⟨29, _⟩ => ⟨S8x2048x4096, .f32⟩
  | .hbm, ⟨30, _⟩ => ⟨S8x4096x8704, .f32⟩
  | .hbm, ⟨31, _⟩ => ⟨S8x8704x4096, .f32⟩
  | .hbm, ⟨32, _⟩ => ⟨S8x8704x4096, .f32⟩
  | .hbm, ⟨33, _⟩ => ⟨S1x8x4096x2048, .f32⟩
  | .hbm, ⟨34, _⟩ => ⟨S8x4096x2048, .f32⟩
  | .hbm, ⟨35, _⟩ => ⟨S8x8704x2048, .f32⟩
  | .hbm, ⟨36, _⟩ => ⟨S2x8x8704, .f32⟩
  | .hbm, ⟨37, _⟩ => ⟨S2x8x8704x1, .f32⟩
  | .hbm, ⟨38, _⟩ => ⟨S1x8x8704x2048, .f32⟩
  | .hbm, ⟨39, _⟩ => ⟨S2x8x8704x2048, .f32⟩
  | .hbm, ⟨40, _⟩ => ⟨S2x8x8704x2048, .f32⟩
  | .hbm, ⟨41, _⟩ => ⟨S2x8x8704x2048, .f32⟩
  | .hbm, ⟨42, _⟩ => ⟨S_, .f32⟩
  | .hbm, ⟨43, _⟩ => ⟨S2x8704x2048, .f32⟩
  | .hbm, ⟨44, _⟩ => ⟨S1x8704x2048, .f32⟩
  | .hbm, ⟨45, _⟩ => ⟨S8704x2048, .f32⟩
  | .hbm, ⟨46, _⟩ => ⟨S1x8704x2048, .f32⟩
  | .hbm, ⟨47, _⟩ => ⟨S8704x2048, .f32⟩
  | .hbm, ⟨48, _⟩ => ⟨S_, .f32⟩
  | .hbm, ⟨49, _⟩ => ⟨S4096x2048, .f32⟩
  | .hbm, ⟨50, _⟩ => ⟨S21504x2048, .f32⟩
  | _, _ => ⟨S8704x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Proof.Projected.lean ====
/- The mathematics shared by the three column ranges of the input projection: the rows of the latent and of the
   context activations times layer 0's weights, and that matrix read at one row and one column. -/
module

public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.InProj

open Cert.ReferenceIdeal Cert.ReferenceIdeal.Gen Idealize.ShloMosaic

/-- The whole projection: latent rows times the weights above context rows times the weights. -/
def projected (L : FVec Ideal S8192x2048 .bf16) (C : FVec Ideal S512x2048 .bf16) (Wt : FVec Ideal S4x2048x21568 .f32) :
    FVec Ideal S8704x21568 .f32 :=
  concatenate S8704x21568 0
    [⟨S8192x21568, (Host.dotGeneral dot_S8192x2048_S2048x21568_S8192x21568_1_0_0_1_n_n none (extf .f32 L bitsLt_bf16_f32)
        (shapeCast _ (extractStridedSlice S1x2048x21568 ![0, 0, 0] Wt slices_S4x2048x21568_S1x2048x21568_0_0_0)
          shapeCasts_S1x2048x21568_S2048x21568))⟩,
     ⟨S512x21568, (Host.dotGeneral dot_S512x2048_S2048x21568_S512x21568_1_0_0_1_n_n none (extf .f32 C bitsLt_bf16_f32)
        (shapeCast _ (extractStridedSlice S1x2048x21568 ![0, 0, 0] Wt slices_S4x2048x21568_S1x2048x21568_0_0_0)
          shapeCasts_S1x2048x21568_S2048x21568))⟩]
    concatenates_S8192x21568_S512x21568_S8704x21568_d0

/-- The latent rows above the context rows. -/
def rows (L : FVec Ideal S8192x2048 .bf16) (C : FVec Ideal S512x2048 .bf16) : FVec Ideal Cert.KernelIdeal.S8704x2048 .bf16 :=
  concatenate Cert.KernelIdeal.S8704x2048 0 [⟨Cert.KernelIdeal.S8192x2048, L⟩, ⟨Cert.KernelIdeal.S512x2048, C⟩]
    Cert.KernelIdeal.Gen.concatenates_S8192x2048_S512x2048_S8704x2048_d0

/-- Row `R`, column `Q` of the projection is the sum over the inputs `k` of the row's entry times the weight. -/
theorem projected_at (L : FVec Ideal S8192x2048 .bf16) (C : FVec Ideal S512x2048 .bf16) (Wt : FVec Ideal S4x2048x21568 .f32)
    (R : Fin 8704) (Q : Fin 21568) :
    projected L C Wt (ix2 R Q) = ∑ k : Fin 2048, rows L C (ix2 R k) * Wt (ix3 0 k Q) := by
  pointwise [projected, rows]
  by_cases h : R.val < 8192
  · simp only [dif_pos h]
  · simp only [dif_neg h]

end Cert.InProj

end
-- ==== Proof.InProj.lean ====
/- The columns 0 to 11264 of the input projection, rounded: what the kernel's run leaves in its result is the
   reference's term of the arguments. -/
module

public import proofs.«01_k».proof.Proof.Gen.KernelIdeal.Value
public import proofs.«01_k».proof.Proof.Projected
public import Idealize.ShloMosaic.Lib.Pipeline.ValueKit
public import Idealize.ShloMosaic.Lib.Pointwise

@[expose] public section

set_option maxRecDepth 16384

noncomputable section

namespace Cert.KernelIdeal.InProj

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The reference's term, over the three arguments: the first 11264 columns of the projection, rounded. -/
def REF (L : FVec Ideal S8192x2048 .bf16) (C : FVec Ideal S512x2048 .bf16) (Wt : FVec Ideal S4x2048x21568 .f32) :
    FVec Ideal Cert.ReferenceIdeal.S8704x11264 .bf16 :=
  truncf .bf16 (extractStridedSlice Cert.ReferenceIdeal.S8704x11264 ![0, 0] (Cert.InProj.projected L C Wt)
    Cert.ReferenceIdeal.Gen.slices_S8704x21568_S8704x11264_0_0) Cert.ReferenceIdeal.Gen.bitsLt_bf16_f32

/-- The index maps of the three windows at every grid point. -/
theorem idx : ∀ t : Fin cfg0.N, win0_0.index t = ![t.val % 8, 0] ∧ win0_1.index t = ![0, t.val / 8 * 1024, 0]
    ∧ win0_2.index t = ![t.val % 8, t.val / 8] :=
  (by decide +kernel : ∀ t : Fin grid0.N, _)

/-- The kernel's first operand is the latent rows above the context rows. -/
theorem V_main_v1 (c : Dev nD) : V m c main_v1
    = Cert.InProj.rows (m ((c : Thread nD τ).loc main_arg0)) (m ((c : Thread nD τ).loc main_arg1)) := by
  unfold V; after_results; try rfl

/-- The kernel's second operand is the weights, outputs before inputs. -/
theorem V_main_v0 (c : Dev nD) : V m c main_v0 = transpose S4x21568x2048 [0, 2, 1] (m ((c : Thread nD τ).loc main_arg2)) transposes_S4x2048x21568_S4x21568x2048_0_2_1 := by
  unfold V; after_results; try rfl

/-- A staged row block: row `r` of point `t` is row `t % 8 * 1088 + r` of the latent rows or of the context rows. -/
theorem xblk_at (c : Dev nD) (t : Fin cfg0.N) (r : Fin 1088) (k : Fin 2048) (R : Fin 8704) (hR : R.val = t.val % 8 * 1088 + r.val) :
    (iblk m c 0 t : FVec Ideal S1088x2048 .bf16) (ix2 r k)
      = Cert.InProj.rows (m ((c : Thread nD τ).loc main_arg0)) (m ((c : Thread nD τ).loc main_arg1)) (ix2 R k) := by
  unfold iblk
  rw [View.read_apply]
  have e : ((cfg0.win 0).blk t).view.emb (ix2 r k : S1088x2048.Idx) = (ix2 R k : S8704x2048.Idx) := by
    funext a; apply Fin.ext
    match a with
    | ⟨0, _⟩ => show win0_0.index t 0 * 1088 + 1 * r.val = R.val; rw [(idx t).1, hR]; simp
    | ⟨1, _⟩ => show win0_0.index t 1 * 2048 + 1 * k.val = k.val; rw [(idx t).1]; simp
  show V m c main_v1 _ = _
  rw [e]
  exact congrFun (V_main_v1 m c) _

/-- A staged weight block: entry `(j, k)` of point `t` is layer 0's weight of input `k` and column `t / 8 * 1024 + j`. -/
theorem wblk_at (c : Dev nD) (t : Fin cfg0.N) (a : Fin 1) (j : Fin 1024) (k : Fin 2048) (J : Fin 21568) (hJ : J.val = t.val / 8 * 1024 + j.val) :
    (iblk m c 1 t : FVec Ideal S1x1024x2048 .f32) (ix3 a j k)
      = (m ((c : Thread nD τ).loc main_arg2) : FVec Ideal S4x2048x21568 .f32) (ix3 0 k J) := by
  unfold iblk
  rw [View.read_apply]
  have e : ((cfg0.win 1).blk t).view.emb (ix3 a j k : S1x1024x2048.Idx) = (ix3 0 J k : S4x21568x2048.Idx) := by
    funext x; apply Fin.ext
    match x with
    | ⟨0, _⟩ => show win0_1.index t 0 + 1 * a.val = 0; rw [(idx t).2.1]; simp
    | ⟨1, _⟩ => show win0_1.index t 1 + 1 * j.val = J.val; rw [(idx t).2.1, hJ]; simp
    | ⟨2, _⟩ => show win0_1.index t 2 + 1 * k.val = k.val; rw [(idx t).2.1]; simp
  show V m c main_v0 _ = _
  rw [e]
  refine (congrFun (V_main_v0 m c) _).trans ?_
  pointwise []

/-- Two points of one run of eight stage the same weight block. -/
theorem wblk_eq (c : Dev nD) (t t' : Fin cfg0.N) (h : t.val / 8 = t'.val / 8) :
    (iblk m c 1 t : FVec Ideal S1x1024x2048 .f32) = iblk m c 1 t' := by
  funext y
  have ht : t.val < 88 := lt_of_lt_of_eq t.isLt N_0
  have hy : (y 1).val < 1024 := (y 1).isLt
  rw [eq_ix3 y]
  exact (wblk_at m c t _ _ _ ⟨t.val / 8 * 1024 + (y 1).val, by omega⟩ rfl).trans
    (wblk_at m c t' _ _ _ ⟨t.val / 8 * 1024 + (y 1).val, by omega⟩ (by show t.val / 8 * 1024 + (y 1).val = _; omega)).symm

/-- A point that is not the first of its run leaves the scratch as it found it. -/
theorem outsAt0_succ_B (c : Dev nD) (n : ℕ) (hn : n + 1 < cfg0.N) (h : ¬ (n + 1) % 8 = 0) :
    (outsAt0 m c (n + 1) hn).2 = (outsAt0 m c n (Nat.lt_of_succ_lt hn)).2 := by
  rw [outsAt0_B m c ⟨n + 1, hn⟩ h]
  rfl

/-- After every point the scratch holds the rounded weight block of that point. -/
theorem scratch_eq (c : Dev nD) : ∀ (n : ℕ) (hn : n < cfg0.N),
    (outsAt0 m c n hn).2 = k0_pay1 (F := Ideal) (iblk m c 1 ⟨n, hn⟩) := by
  intro n
  induction n with
  | zero =>
    intro hn
    rw [outsAt0_A m c ⟨0, hn⟩ rfl]; frame_out
  | succ n ih =>
    intro hn
    by_cases h : (n + 1) % 8 = 0
    · rw [outsAt0_A m c ⟨n + 1, hn⟩ h]; frame_out
    · rw [outsAt0_succ_B m c n hn h, ih, wblk_eq m c ⟨n, Nat.lt_of_succ_lt hn⟩ ⟨n + 1, hn⟩ (by show n / 8 = (n + 1) / 8; omega)]

/-- After every point the output buffer holds the row block times the rounded weight block. -/
theorem out_eq (c : Dev nD) (t : Fin cfg0.N) :
    (outsAt0 m c t.val t.isLt).1 = k0_pay2 (F := Ideal) (iblk m c 0 t) (k0_pay1 (F := Ideal) (iblk m c 1 t)) := by
  by_cases h : t.val % 8 = 0
  · rw [outsAt0_A m c t h]; frame_out
  · rw [outsAt0_B m c t h, scratch_eq, wblk_eq m c ⟨t.val - 1, Nat.lt_of_le_of_lt (Nat.sub_le _ _) t.isLt⟩ t (by show (t.val - 1) / 8 = t.val / 8; omega)]
    frame_out
    rw [(Memref.isWhole_whole _).read_unread]

/-- The stored product, read at an index, is the reference's term read where the block lands. -/
theorem point (c : Dev nD) (t : Fin cfg0.N) (r : Fin 1088) (q : Fin 1024) (R : Fin 8704) (Q : Fin 11264)
    (hR : R.val = t.val % 8 * 1088 + r.val) (hQ : Q.val = t.val / 8 * 1024 + q.val) :
    k0_pay2 (F := Ideal) (iblk m c 0 t) (k0_pay1 (F := Ideal) (iblk m c 1 t)) (ix2 r q)
    = REF (m ((c : Thread nD τ).loc main_arg0)) (m ((c : Thread nD τ).loc main_arg1)) (m ((c : Thread nD τ).loc main_arg2))
        (ix2 R Q) := by
  have hw := fun k => wblk_at m c t 0 q k ⟨Q.val, by omega⟩ hQ
  have hx := fun k => xblk_at m c t r k R hR
  pointwise [k0_pay1, k0_pay2, REF]
  exact (Finset.sum_congr rfl fun k _ => Ideal.mul_congr (hx k) (hw k)).trans (Cert.InProj.projected_at _ _ _ _ _).symm

/-- The result array after the run is the reference's term of the arguments. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, out_eq]
  have ht : t.val < 88 := lt_of_lt_of_eq t.isLt N_0
  have h0 : (y 0).val < 1088 := (y 0).isLt
  have h1 : (y 1).val < 1024 := (y 1).isLt
  refine Eq.trans ?_ ((point m c t (y 0) (y 1) ⟨t.val % 8 * 1088 + (y 0).val, by omega⟩ ⟨t.val / 8 * 1024 + (y 1).val, by omega⟩ rfl rfl).trans ?_)
  · exact congrArg _ (eq_ix2 y)
  · refine congrArg _ (funext fun a => Fin.ext ?_)
    match a with
    | ⟨0, _⟩ => show t.val % 8 * 1088 + (y 0).val = win0_2.index t 0 * 1088 + 1 * (y 0).val; rw [(idx t).2.2]; simp
    | ⟨1, _⟩ => show t.val / 8 * 1024 + (y 1).val = win0_2.index t 1 * 1024 + 1 * (y 1).val; rw [(idx t).2.2]; simp

end Cert.KernelIdeal.InProj

end
-- ==== Proof.InProjB.lean ====
/- The last 10240 columns of the input projection, rounded: what the kernel's run leaves in its result is the
   reference's term of the arguments. -/
module

public import proofs.«01_k».proof.Proof.Gen.KernelBIdeal.Value
public import proofs.«01_k».proof.Proof.Projected
public import proofs.«01_k».proof.Proof.Gen.ReferenceBIdeal.Run
public import Idealize.ShloMosaic.Lib.Pipeline.ValueKit
public import Idealize.ShloMosaic.Lib.Pointwise

@[expose] public section

set_option maxRecDepth 16384

noncomputable section

namespace Cert.KernelBIdeal.InProj

open Cert.KernelBIdeal Cert.KernelBIdeal.Gen Idealize.ShloMosaic Idealize.ShloMosaic.TcCoe Idealize.SL.Sem
open Idealize.ShloMosaic.Pipeline (Dat)

variable (m : (ℓ : Loc nD τ sig) → Buf (Elt Ideal) ℓ)

/-- The reference's term, over the three arguments: the last 10240 columns of the projection, rounded. -/
def REF (L : FVec Ideal S8192x2048 .bf16) (C : FVec Ideal S512x2048 .bf16) (Wt : FVec Ideal S4x2048x21568 .f32) :
    FVec Ideal Cert.ReferenceBIdeal.S8704x10240 .bf16 :=
  truncf .bf16 (extractStridedSlice Cert.ReferenceBIdeal.S8704x10240 ![0, 11328] (Cert.InProj.projected L C Wt)
    Cert.ReferenceBIdeal.Gen.slices_S8704x21568_S8704x10240_0_11328) Cert.ReferenceBIdeal.Gen.bitsLt_bf16_f32

/-- The index maps of the three windows at every grid point. -/
theorem idx : ∀ t : Fin cfg0.N, win0_0.index t = ![t.val % 8, 0] ∧ win0_1.index t = ![0, 11328 + t.val / 8 * 1024, 0]
    ∧ win0_2.index t = ![t.val % 8, t.val / 8] :=
  (by decide +kernel : ∀ t : Fin grid0.N, _)

/-- The kernel's first operand is the latent rows above the context rows. -/
theorem V_main_v1 (c : Dev nD) : V m c main_v1
    = Cert.InProj.rows (m ((c : Thread nD τ).loc main_arg0)) (m ((c : Thread nD τ).loc main_arg1)) := by
  unfold V; after_results; try rfl

/-- The kernel's second operand is the weights, outputs before inputs. -/
theorem V_main_v0 (c : Dev nD) : V m c main_v0 = transpose S4x21568x2048 [0, 2, 1] (m ((c : Thread nD τ).loc main_arg2)) transposes_S4x2048x21568_S4x21568x2048_0_2_1 := by
  unfold V; after_results; try rfl

/-- A staged row block: row `r` of point `t` is row `t % 8 * 1088 + r` of the latent rows or of the context rows. -/
theorem xblk_at (c : Dev nD) (t : Fin cfg0.N) (r : Fin 1088) (k : Fin 2048) (R : Fin 8704) (hR : R.val = t.val % 8 * 1088 + r.val) :
    (iblk m c 0 t : FVec Ideal S1088x2048 .bf16) (ix2 r k)
      = Cert.InProj.rows (m ((c : Thread nD τ).loc main_arg0)) (m ((c : Thread nD τ).loc main_arg1)) (ix2 R k) := by
  unfold iblk
  rw [View.read_apply]
  have e : ((cfg0.win 0).blk t).view.emb (ix2 r k : S1088x2048.Idx) = (ix2 R k : S8704x2048.Idx) := by
    funext a; apply Fin.ext
    match a with
    | ⟨0, _⟩ => show win0_0.index t 0 * 1088 + 1 * r.val = R.val; rw [(idx t).1, hR]; simp
    | ⟨1, _⟩ => show win0_0.index t 1 * 2048 + 1 * k.val = k.val; rw [(idx t).1]; simp
  show V m c main_v1 _ = _
  rw [e]
  exact congrFun (V_main_v1 m c) _

/-- A staged weight block: entry `(j, k)` of point `t` is layer 0's weight of input `k` and column `11328 + t / 8 * 1024 + j`. -/
theorem wblk_at (c : Dev nD) (t : Fin cfg0.N) (a : Fin 1) (j : Fin 1024) (k : Fin 2048) (J : Fin 21568) (hJ : J.val = 11328 + t.val / 8 * 1024 + j.val) :
    (iblk m c 1 t : FVec Ideal S1x1024x2048 .f32) (ix3 a j k)
      = (m ((c : Thread nD τ).loc main_arg2) : FVec Ideal S4x2048x21568 .f32) (ix3 0 k J) := by
  unfold iblk
  rw [View.read_apply]
  have e : ((cfg0.win 1).blk t).view.emb (ix3 a j k : S1x1024x2048.Idx) = (ix3 0 J k : S4x21568x2048.Idx) := by
    funext x; apply Fin.ext
    match x with
    | ⟨0, _⟩ => show win0_1.index t 0 + 1 * a.val = 0; rw [(idx t).2.1]; simp
    | ⟨1, _⟩ => show win0_1.index t 1 + 1 * j.val = J.val; rw [(idx t).2.1, hJ]; simp
    | ⟨2, _⟩ => show win0_1.index t 2 + 1 * k.val = k.val; rw [(idx t).2.1]; simp
  show V m c main_v0 _ = _
  rw [e]
  refine (congrFun (V_main_v0 m c) _).trans ?_
  pointwise []

/-- Two points of one run of eight stage the same weight block. -/
theorem wblk_eq (c : Dev nD) (t t' : Fin cfg0.N) (h : t.val / 8 = t'.val / 8) :
    (iblk m c 1 t : FVec Ideal S1x1024x2048 .f32) = iblk m c 1 t' := by
  funext y
  have ht : t.val < 80 := lt_of_lt_of_eq t.isLt N_0
  have hy : (y 1).val < 1024 := (y 1).isLt
  rw [eq_ix3 y]
  exact (wblk_at m c t _ _ _ ⟨11328 + t.val / 8 * 1024 + (y 1).val, by omega⟩ rfl).trans
    (wblk_at m c t' _ _ _ ⟨11328 + t.val / 8 * 1024 + (y 1).val, by omega⟩ (by show 11328 + t.val / 8 * 1024 + (y 1).val = _; omega)).symm

/-- A point that is not the first of its run leaves the scratch as it found it. -/
theorem outsAt0_succ_B (c : Dev nD) (n : ℕ) (hn : n + 1 < cfg0.N) (h : ¬ (n + 1) % 8 = 0) :
    (outsAt0 m c (n + 1) hn).2 = (outsAt0 m c n (Nat.lt_of_succ_lt hn)).2 := by
  rw [outsAt0_B m c ⟨n + 1, hn⟩ h]
  rfl

/-- After every point the scratch holds the rounded weight block of that point. -/
theorem scratch_eq (c : Dev nD) : ∀ (n : ℕ) (hn : n < cfg0.N),
    (outsAt0 m c n hn).2 = k0_pay1 (F := Ideal) (iblk m c 1 ⟨n, hn⟩) := by
  intro n
  induction n with
  | zero =>
    intro hn
    rw [outsAt0_A m c ⟨0, hn⟩ rfl]; frame_out
  | succ n ih =>
    intro hn
    by_cases h : (n + 1) % 8 = 0
    · rw [outsAt0_A m c ⟨n + 1, hn⟩ h]; frame_out
    · rw [outsAt0_succ_B m c n hn h, ih, wblk_eq m c ⟨n, Nat.lt_of_succ_lt hn⟩ ⟨n + 1, hn⟩ (by show n / 8 = (n + 1) / 8; omega)]

/-- After every point the output buffer holds the row block times the rounded weight block. -/
theorem out_eq (c : Dev nD) (t : Fin cfg0.N) :
    (outsAt0 m c t.val t.isLt).1 = k0_pay2 (F := Ideal) (iblk m c 0 t) (k0_pay1 (F := Ideal) (iblk m c 1 t)) := by
  by_cases h : t.val % 8 = 0
  · rw [outsAt0_A m c t h]; frame_out
  · rw [outsAt0_B m c t h, scratch_eq, wblk_eq m c ⟨t.val - 1, Nat.lt_of_le_of_lt (Nat.sub_le _ _) t.isLt⟩ t (by show (t.val - 1) / 8 = t.val / 8; omega)]
    frame_out
    rw [(Memref.isWhole_whole _).read_unread]

/-- The stored product, read at an index, is the reference's term read where the block lands. -/
theorem point (c : Dev nD) (t : Fin cfg0.N) (r : Fin 1088) (q : Fin 1024) (R : Fin 8704) (Q : Fin 10240)
    (hR : R.val = t.val % 8 * 1088 + r.val) (hQ : Q.val = t.val / 8 * 1024 + q.val) :
    k0_pay2 (F := Ideal) (iblk m c 0 t) (k0_pay1 (F := Ideal) (iblk m c 1 t)) (ix2 r q)
    = REF (m ((c : Thread nD τ).loc main_arg0)) (m ((c : Thread nD τ).loc main_arg1)) (m ((c : Thread nD τ).loc main_arg2))
        (ix2 R Q) := by
  have hw := fun k => wblk_at m c t 0 q k ⟨11328 + Q.val, by omega⟩ (by show 11328 + Q.val = _; omega)
  have hx := fun k => xblk_at m c t r k R hR
  pointwise [k0_pay1, k0_pay2, REF]
  exact (Finset.sum_congr rfl fun k _ => Ideal.mul_congr (hx k) (hw k)).trans (Cert.InProj.projected_at _ _ _ _ _).symm

/-- The result array after the run is the reference's term of the arguments. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, out_eq]
  have ht : t.val < 80 := lt_of_lt_of_eq t.isLt N_0
  have h0 : (y 0).val < 1088 := (y 0).isLt
  have h1 : (y 1).val < 1024 := (y 1).isLt
  refine Eq.trans ?_ ((point m c t (y 0) (y 1) ⟨t.val % 8 * 1088 + (y 0).val, by omega⟩ ⟨t.val / 8 * 1024 + (y 1).val, by omega⟩ rfl rfl).trans ?_)
  · exact congrArg _ (eq_ix2 y)
  · refine congrArg _ (funext fun a => Fin.ext ?_)
    match a with
    | ⟨0, _⟩ => show t.val % 8 * 1088 + (y 0).val = win0_2.index t 0 * 1088 + 1 * (y 0).val; rw [(idx t).2.2]; simp
    | ⟨1, _⟩ => show t.val / 8 * 1024 + (y 1).val = win0_2.index t 1 * 1024 + 1 * (y 1).val; rw [(idx t).2.2]; simp

end Cert.KernelBIdeal.InProj

end
-- ==== Proof.InProjD.lean ====
/- The columns 11264 to 11392 of the input projection, not rounded: what the kernel's run leaves in its result is the
   reference's term of the arguments. -/
module

public import proofs.«01_k».proof.Proof.Gen.KernelDIdeal.Value
public import proofs.«01_k».proof.Proof.Projected
public import proofs.«01_k».proof.Proof.Gen.ReferenceDIdeal.Run
public import Idealize.ShloMosaic.Lib.Pipeline.ValueKit
public import Idealize.ShloMosaic.Lib.Pointwise

@[expose] public section

set_option maxRecDepth 16384

noncomputable section

namespace Cert.KernelDIdeal.InProj

open Cert.KernelDIdeal Cert.KernelDIdeal.Gen Idealize.ShloMosaic Idealize.ShloMosaic.TcCoe Idealize.SL.Sem
open Idealize.ShloMosaic.Pipeline (Dat)

variable (m : (ℓ : Loc nD τ sig) → Buf (Elt Ideal) ℓ)

/-- The reference's term, over the three arguments: the columns 11264 to 11392 of the projection. -/
def REF (L : FVec Ideal S8192x2048 .bf16) (C : FVec Ideal S512x2048 .bf16) (Wt : FVec Ideal S4x2048x21568 .f32) :
    FVec Ideal Cert.ReferenceDIdeal.S8704x128 .f32 :=
  extractStridedSlice Cert.ReferenceDIdeal.S8704x128 ![0, 11264] (Cert.InProj.projected L C Wt)
    Cert.ReferenceDIdeal.Gen.slices_S8704x21568_S8704x128_0_11264

/-- The index maps of the three windows at every grid point. -/
theorem idx : ∀ t : Fin cfg0.N, win0_0.index t = ![t.val % 8, 0] ∧ win0_1.index t = ![0, 11264 + t.val / 8 * 128, 0]
    ∧ win0_2.index t = ![t.val % 8, t.val / 8] :=
  (by decide +kernel : ∀ t : Fin grid0.N, _)

/-- The kernel's first operand is the latent rows above the context rows. -/
theorem V_main_v1 (c : Dev nD) : V m c main_v1
    = Cert.InProj.rows (m ((c : Thread nD τ).loc main_arg0)) (m ((c : Thread nD τ).loc main_arg1)) := by
  unfold V; after_results; try rfl

/-- The kernel's second operand is the weights, outputs before inputs. -/
theorem V_main_v0 (c : Dev nD) : V m c main_v0 = transpose S4x21568x2048 [0, 2, 1] (m ((c : Thread nD τ).loc main_arg2)) transposes_S4x2048x21568_S4x21568x2048_0_2_1 := by
  unfold V; after_results; try rfl

/-- A staged row block: row `r` of point `t` is row `t % 8 * 1088 + r` of the latent rows or of the context rows. -/
theorem xblk_at (c : Dev nD) (t : Fin cfg0.N) (r : Fin 1088) (k : Fin 2048) (R : Fin 8704) (hR : R.val = t.val % 8 * 1088 + r.val) :
    (iblk m c 0 t : FVec Ideal S1088x2048 .bf16) (ix2 r k)
      = Cert.InProj.rows (m ((c : Thread nD τ).loc main_arg0)) (m ((c : Thread nD τ).loc main_arg1)) (ix2 R k) := by
  unfold iblk
  rw [View.read_apply]
  have e : ((cfg0.win 0).blk t).view.emb (ix2 r k : S1088x2048.Idx) = (ix2 R k : S8704x2048.Idx) := by
    funext a; apply Fin.ext
    match a with
    | ⟨0, _⟩ => show win0_0.index t 0 * 1088 + 1 * r.val = R.val; rw [(idx t).1, hR]; simp
    | ⟨1, _⟩ => show win0_0.index t 1 * 2048 + 1 * k.val = k.val; rw [(idx t).1]; simp
  show V m c main_v1 _ = _
  rw [e]
  exact congrFun (V_main_v1 m c) _

/-- A staged weight block: entry `(j, k)` of point `t` is layer 0's weight of input `k` and column `11264 + t / 8 * 128 + j`. -/
theorem wblk_at (c : Dev nD) (t : Fin cfg0.N) (a : Fin 1) (j : Fin 128) (k : Fin 2048) (J : Fin 21568) (hJ : J.val = 11264 + t.val / 8 * 128 + j.val) :
    (iblk m c 1 t : FVec Ideal S1x128x2048 .f32) (ix3 a j k)
      = (m ((c : Thread nD τ).loc main_arg2) : FVec Ideal S4x2048x21568 .f32) (ix3 0 k J) := by
  unfold iblk
  rw [View.read_apply]
  have e : ((cfg0.win 1).blk t).view.emb (ix3 a j k : S1x128x2048.Idx) = (ix3 0 J k : S4x21568x2048.Idx) := by
    funext x; apply Fin.ext
    match x with
    | ⟨0, _⟩ => show win0_1.index t 0 + 1 * a.val = 0; rw [(idx t).2.1]; simp
    | ⟨1, _⟩ => show win0_1.index t 1 + 1 * j.val = J.val; rw [(idx t).2.1, hJ]; simp
    | ⟨2, _⟩ => show win0_1.index t 2 + 1 * k.val = k.val; rw [(idx t).2.1]; simp
  show V m c main_v0 _ = _
  rw [e]
  refine (congrFun (V_main_v0 m c) _).trans ?_
  pointwise []

/-- Two points of one run of eight stage the same weight block. -/
theorem wblk_eq (c : Dev nD) (t t' : Fin cfg0.N) (h : t.val / 8 = t'.val / 8) :
    (iblk m c 1 t : FVec Ideal S1x128x2048 .f32) = iblk m c 1 t' := by
  funext y
  have ht : t.val < 8 := lt_of_lt_of_eq t.isLt N_0
  have hy : (y 1).val < 128 := (y 1).isLt
  rw [eq_ix3 y]
  exact (wblk_at m c t _ _ _ ⟨11264 + t.val / 8 * 128 + (y 1).val, by omega⟩ rfl).trans
    (wblk_at m c t' _ _ _ ⟨11264 + t.val / 8 * 128 + (y 1).val, by omega⟩ (by show 11264 + t.val / 8 * 128 + (y 1).val = _; omega)).symm

/-- A point that is not the first of its run leaves the scratch as it found it. -/
theorem outsAt0_succ_B (c : Dev nD) (n : ℕ) (hn : n + 1 < cfg0.N) (h : ¬ (n + 1) % 8 = 0) :
    (outsAt0 m c (n + 1) hn).2 = (outsAt0 m c n (Nat.lt_of_succ_lt hn)).2 := by
  rw [outsAt0_B m c ⟨n + 1, hn⟩ h]
  rfl

/-- After every point the scratch holds the rounded weight block of that point. -/
theorem scratch_eq (c : Dev nD) : ∀ (n : ℕ) (hn : n < cfg0.N),
    (outsAt0 m c n hn).2 = k0_pay1 (F := Ideal) (iblk m c 1 ⟨n, hn⟩) := by
  intro n
  induction n with
  | zero =>
    intro hn
    rw [outsAt0_A m c ⟨0, hn⟩ rfl]; frame_out
  | succ n ih =>
    intro hn
    by_cases h : (n + 1) % 8 = 0
    · rw [outsAt0_A m c ⟨n + 1, hn⟩ h]; frame_out
    · rw [outsAt0_succ_B m c n hn h, ih, wblk_eq m c ⟨n, Nat.lt_of_succ_lt hn⟩ ⟨n + 1, hn⟩ (by show n / 8 = (n + 1) / 8; omega)]

/-- After every point the output buffer holds the row block times the rounded weight block. -/
theorem out_eq (c : Dev nD) (t : Fin cfg0.N) :
    (outsAt0 m c t.val t.isLt).1 = k0_pay2 (F := Ideal) (iblk m c 0 t) (k0_pay1 (F := Ideal) (iblk m c 1 t)) := by
  by_cases h : t.val % 8 = 0
  · rw [outsAt0_A m c t h]; frame_out
  · rw [outsAt0_B m c t h, scratch_eq, wblk_eq m c ⟨t.val - 1, Nat.lt_of_le_of_lt (Nat.sub_le _ _) t.isLt⟩ t (by show (t.val - 1) / 8 = t.val / 8; omega)]
    frame_out
    rw [(Memref.isWhole_whole _).read_unread]

/-- The stored product, read at an index, is the reference's term read where the block lands. -/
theorem point (c : Dev nD) (t : Fin cfg0.N) (r : Fin 1088) (q : Fin 128) (R : Fin 8704) (Q : Fin 128)
    (hR : R.val = t.val % 8 * 1088 + r.val) (hQ : Q.val = t.val / 8 * 128 + q.val) :
    k0_pay2 (F := Ideal) (iblk m c 0 t) (k0_pay1 (F := Ideal) (iblk m c 1 t)) (ix2 r q)
    = REF (m ((c : Thread nD τ).loc main_arg0)) (m ((c : Thread nD τ).loc main_arg1)) (m ((c : Thread nD τ).loc main_arg2))
        (ix2 R Q) := by
  have hw := fun k => wblk_at m c t 0 q k ⟨11264 + Q.val, by omega⟩ (by show 11264 + Q.val = _; omega)
  have hx := fun k => xblk_at m c t r k R hR
  pointwise [k0_pay1, k0_pay2, REF]
  exact (Finset.sum_congr rfl fun k _ => Ideal.mul_congr (hx k) (hw k)).trans (Cert.InProj.projected_at _ _ _ _ _).symm

/-- The result array after the run is the reference's term of the arguments. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, out_eq]
  have ht : t.val < 8 := lt_of_lt_of_eq t.isLt N_0
  have h0 : (y 0).val < 1088 := (y 0).isLt
  have h1 : (y 1).val < 128 := (y 1).isLt
  refine Eq.trans ?_ ((point m c t (y 0) (y 1) ⟨t.val % 8 * 1088 + (y 0).val, by omega⟩ ⟨t.val / 8 * 128 + (y 1).val, by omega⟩ rfl rfl).trans ?_)
  · exact congrArg _ (eq_ix2 y)
  · refine congrArg _ (funext fun a => Fin.ext ?_)
    match a with
    | ⟨0, _⟩ => show t.val % 8 * 1088 + (y 0).val = win0_2.index t 0 * 1088 + 1 * (y 0).val; rw [(idx t).2.2]; simp
    | ⟨1, _⟩ => show t.val / 8 * 128 + (y 1).val = win0_2.index t 1 * 128 + 1 * (y 1).val; rw [(idx t).2.2]; simp

end Cert.KernelDIdeal.InProj

end
-- ==== Proof.Branch.lean ====
/- The value of the branch merge: each branch's rows times its weights, scaled by the logistic function of its gate and
   added over the three branches, block by block, is the reference's sum of whole products. -/
module

public import proofs.«01_k».proof.Proof.Gen.KernelMIdeal.Value
public import proofs.«01_k».proof.Proof.Gen.ReferenceMIdeal.Run
public import Idealize.ShloMosaic.Lib.Pipeline.ValueKit
public import Idealize.ShloMosaic.Lib.Pointwise

@[expose] public section

set_option maxRecDepth 16384

noncomputable section

namespace Cert.KernelMIdeal.Branch

open Cert.KernelMIdeal Cert.KernelMIdeal.Gen Idealize.ShloMosaic Idealize.ShloMosaic.TcCoe Idealize.SL.Sem
open Idealize.ShloMosaic.Pipeline (Dat)

variable (m : (ℓ : Loc nD τ sig) → Buf (Elt Ideal) ℓ)

section Reference
open Cert.ReferenceMIdeal Cert.ReferenceMIdeal.Gen

/-- The reference's gates: the logistic function of columns 4096 to 10239 of the projection's latent rows. -/
def gates (P : FVec Ideal S8704x10240 .bf16) : FVec Ideal S8192x6144 .f32 :=
  Host.divf (broadcastInDim S8192x6144 ![] bcast_S_S8192x6144 (constant S_ .f32 0x3F800000#32))
    (addf (broadcastInDim S8192x6144 ![] bcast_S_S8192x6144 (constant S_ .f32 0x3F800000#32))
      (Host.exp (Host.negf (extf .f32 (extractStridedSlice S8192x6144 ![0, 4096] P slices_S8704x10240_S8192x6144_0_4096) Cert.ReferenceMIdeal.Gen.bitsLt_bf16_f32))))

/-- One branch's rows with a branch axis put in. -/
def lift (U : FVec Ideal S8192x2048 .bf16) : FVec Ideal S8192x1x2048 .f32 :=
  broadcastInDim S8192x1x2048 ![0, 2] bcast_S8192x2048_S8192x1x2048_0_2 (extf .f32 U Cert.ReferenceMIdeal.Gen.bitsLt_bf16_f32)

/-- The reference's term, over the five arguments. -/
def REF (A B C : FVec Ideal S8192x2048 .bf16) (P : FVec Ideal S8704x10240 .bf16) (Wt : FVec Ideal S4x3x2048x2048 .f32) :
    FVec Ideal S8192x2048 .bf16 :=
  truncf .bf16 (Host.reduceAdd (mulf (shapeCast _ (gates P) shapeCasts_S8192x6144_S8192x3x2048)
    (transpose S8192x3x2048 [2, 0, 1] (Host.dotGeneral dot_S3x2048x2048_S8192x3x2048_S3x2048x8192_1_2_2_0_0_1 none
      (shapeCast _ (extractStridedSlice S1x3x2048x2048 ![0, 0, 0, 0] Wt slices_S4x3x2048x2048_S1x3x2048x2048_0_0_0_0)
        shapeCasts_S1x3x2048x2048_S3x2048x2048)
      (concatenate S8192x3x2048 1 [⟨S8192x1x2048, (lift A : (⟨S8192x1x2048, .f32⟩ : BufTy).Contents (Elt Ideal))⟩,
        ⟨S8192x1x2048, (lift B : (⟨S8192x1x2048, .f32⟩ : BufTy).Contents (Elt Ideal))⟩,
        ⟨S8192x1x2048, (lift C : (⟨S8192x1x2048, .f32⟩ : BufTy).Contents (Elt Ideal))⟩] concatenates_S8192x1x2048_S8192x1x2048_S8192x1x2048_S8192x3x2048_d1))
      transposes_S3x2048x8192_S8192x3x2048_2_0_1))
    (constant S_ .f32 0x00000000#32) reducesTo_S8192x3x2048_S8192x2048_d1 h_S_) Cert.ReferenceMIdeal.Gen.bitsLt_bf16_f32

/-- The reference at an index: three gated sums, one for each branch. -/
theorem href (A B C : FVec Ideal S8192x2048 .bf16) (P : FVec Ideal S8704x10240 .bf16) (Wt : FVec Ideal S4x3x2048x2048 .f32)
    (r : Fin 8192) (q : Fin 2048) :
    REF A B C P Wt (ix2 r q)
      = Ideal.logistic (P (ix2 ⟨r.val, by omega⟩ ⟨4096 + q.val, by omega⟩)) * (∑ k : Fin 2048, A (ix2 r k) * Wt (ix4 0 0 k q))
        + Ideal.logistic (P (ix2 ⟨r.val, by omega⟩ ⟨4096 + (2048 + q.val), by omega⟩)) * (∑ k : Fin 2048, B (ix2 r k) * Wt (ix4 0 1 k q))
        + Ideal.logistic (P (ix2 ⟨r.val, by omega⟩ ⟨4096 + (4096 + q.val), by omega⟩)) * (∑ k : Fin 2048, C (ix2 r k) * Wt (ix4 0 2 k q)) := by
  pointwise [REF, gates, lift]
  rw [Fin.sum_univ_three]
  simp [Ideal.logistic, mul_comm (Wt _)]

end Reference

/-- The index maps of the windows at every grid point. -/
theorem idx : ∀ t : Fin cfg0.N, win0_0.index t = ![t.val % 8, 0] ∧ win0_1.index t = ![t.val % 8, 0] ∧ win0_2.index t = ![t.val % 8, 0]
    ∧ win0_3.index t = ![t.val % 8, 8 + t.val / 8] ∧ win0_4.index t = ![t.val % 8, 12 + t.val / 8] ∧ win0_5.index t = ![t.val % 8, 16 + t.val / 8]
    ∧ win0_6.index t = ![0, 0, 0, t.val / 8] ∧ win0_7.index t = ![t.val % 8, t.val / 8] :=
  (by decide +kernel : ∀ t : Fin grid0.N, _)

/-- The kernel's weights are the rounded weights. -/
theorem V_main_v0 (c : Dev nD) : V m c main_v0 = (truncf .bf16 (m ((c : Thread nD τ).loc main_arg4)) bitsLt_bf16_f32 : FVec Ideal S4x3x2048x2048 .bf16) := by
  unfold V; after_results; try rfl

/-- What a point stores, at an index: three gated sums over the blocks. -/
theorem hpay (g0 g1 g2 : Vec Ideal S1024x512 .bf16) (a b c : Vec Ideal S1024x2048 .bf16) (w0 w1 w2 : Vec Ideal S1x1x2048x512 .bf16) (r : Fin 1024) (q : Fin 512) :
    k0_pay1 (F := Ideal) g0 a w0 g1 b w1 g2 c w2 (ix2 r q)
      = Ideal.logistic (g0 (ix2 r q)) * (∑ k : Fin 2048, a (ix2 r k) * w0 (ix4 0 0 k q))
        + Ideal.logistic (g1 (ix2 r q)) * (∑ k : Fin 2048, b (ix2 r k) * w1 (ix4 0 0 k q))
        + Ideal.logistic (g2 (ix2 r q)) * (∑ k : Fin 2048, c (ix2 r k) * w2 (ix4 0 0 k q)) := by
  pointwise [k0_pay1]

/-- A staged block of branch 0's gates: columns from `4096 + t / 8 * 512` of the projection. -/
theorem gate0 (c : Dev nD) (t : Fin cfg0.N) (r : Fin 1024) (q : Fin 512) (R : Fin 8704) (Q : Fin 10240)
    (hR : R.val = t.val % 8 * 1024 + r.val) (hQ : Q.val = 4096 + (t.val / 8 * 512 + q.val)) :
    (X0_3 m c t : FVec Ideal S1024x512 .bf16) (ix2 r q) = (m ((c : Thread nD τ).loc main_arg3) : FVec Ideal S8704x10240 .bf16) (ix2 R Q) := by
  unfold X0_3 Pipeline.Window.fill
  rw [dif_pos (moved0_3 t _)]
  blk_point [iblk, V, idx t]

/-- A staged block of branch 1's gates: columns from `6144 + t / 8 * 512` of the projection. -/
theorem gate1 (c : Dev nD) (t : Fin cfg0.N) (r : Fin 1024) (q : Fin 512) (R : Fin 8704) (Q : Fin 10240)
    (hR : R.val = t.val % 8 * 1024 + r.val) (hQ : Q.val = 6144 + (t.val / 8 * 512 + q.val)) :
    (X0_4 m c t : FVec Ideal S1024x512 .bf16) (ix2 r q) = (m ((c : Thread nD τ).loc main_arg3) : FVec Ideal S8704x10240 .bf16) (ix2 R Q) := by
  unfold X0_4 Pipeline.Window.fill
  rw [dif_pos (moved0_4 t _)]
  blk_point [iblk, V, idx t]

/-- A staged block of branch 2's gates: columns from `8192 + t / 8 * 512` of the projection. -/
theorem gate2 (c : Dev nD) (t : Fin cfg0.N) (r : Fin 1024) (q : Fin 512) (R : Fin 8704) (Q : Fin 10240)
    (hR : R.val = t.val % 8 * 1024 + r.val) (hQ : Q.val = 8192 + (t.val / 8 * 512 + q.val)) :
    (X0_5 m c t : FVec Ideal S1024x512 .bf16) (ix2 r q) = (m ((c : Thread nD τ).loc main_arg3) : FVec Ideal S8704x10240 .bf16) (ix2 R Q) := by
  unfold X0_5 Pipeline.Window.fill
  rw [dif_pos (moved0_5 t _)]
  blk_point [iblk, V, idx t]

/-- A staged block of a branch's rows. -/
theorem rows0 (c : Dev nD) (t : Fin cfg0.N) (r : Fin 1024) (k : Fin 2048) (R : Fin 8192) (hR : R.val = t.val % 8 * 1024 + r.val) :
    (iblk m c 0 t : FVec Ideal S1024x2048 .bf16) (ix2 r k) = (m ((c : Thread nD τ).loc main_arg0) : FVec Ideal S8192x2048 .bf16) (ix2 R k) := by
  blk_point [iblk, V, idx t]

/-- The same, of branch 1. -/
theorem rows1 (c : Dev nD) (t : Fin cfg0.N) (r : Fin 1024) (k : Fin 2048) (R : Fin 8192) (hR : R.val = t.val % 8 * 1024 + r.val) :
    (iblk m c 1 t : FVec Ideal S1024x2048 .bf16) (ix2 r k) = (m ((c : Thread nD τ).loc main_arg1) : FVec Ideal S8192x2048 .bf16) (ix2 R k) := by
  blk_point [iblk, V, idx t]

/-- The same, of branch 2. -/
theorem rows2 (c : Dev nD) (t : Fin cfg0.N) (r : Fin 1024) (k : Fin 2048) (R : Fin 8192) (hR : R.val = t.val % 8 * 1024 + r.val) :
    (iblk m c 2 t : FVec Ideal S1024x2048 .bf16) (ix2 r k) = (m ((c : Thread nD τ).loc main_arg2) : FVec Ideal S8192x2048 .bf16) (ix2 R k) := by
  blk_point [iblk, V, idx t]

/-- The staged weights: all three branches' rows of a block of 512 columns. -/
theorem wblk_at (c : Dev nD) (t : Fin cfg0.N) (b : Fin 3) (k : Fin 2048) (q : Fin 512) (Q : Fin 2048) (hQ : Q.val = t.val / 8 * 512 + q.val) :
    (iblk m c 6 t : FVec Ideal S1x3x2048x512 .bf16) (ix4 0 b k q)
      = (m ((c : Thread nD τ).loc main_arg4) : FVec Ideal S4x3x2048x2048 .f32) (ix4 0 b k Q) := by
  unfold iblk
  rw [View.read_apply]
  have e : ((cfg0.win 6).blk t).view.emb (ix4 0 b k q : S1x3x2048x512.Idx) = (ix4 0 b k Q : S4x3x2048x2048.Idx) := by
    funext x; apply Fin.ext
    match x with
    | ⟨0, _⟩ => show win0_6.index t 0 * 1 + 1 * 0 = 0; rw [(idx t).2.2.2.2.2.2.1]; simp
    | ⟨1, _⟩ => show win0_6.index t 1 * 3 + 1 * b.val = b.val; rw [(idx t).2.2.2.2.2.2.1]; simp
    | ⟨2, _⟩ => show win0_6.index t 2 * 2048 + 1 * k.val = k.val; rw [(idx t).2.2.2.2.2.2.1]; simp
    | ⟨3, _⟩ => show win0_6.index t 3 * 512 + 1 * q.val = Q.val; rw [(idx t).2.2.2.2.2.2.1, hQ]; simp
  show V m c main_v0 _ = _
  rw [e]
  refine (congrFun (V_main_v0 m c) _).trans ?_
  pointwise []

/-- Branch `b`'s part of the staged weights, read at an index. -/
theorem ld_at (c : Dev nD) (t : Fin cfg0.N) (b : Fin 3) (inb) (k : Fin 2048) (q : Fin 512) :
    (View.ld (iblk m c 6 t : FVec Ideal S1x3x2048x512 .bf16) (Rect.unit ![0, b.val, 0, 0] ![1, 1, 2048, 512] inb) : FVec Ideal S1x1x2048x512 .bf16) (ix4 0 0 k q)
      = (iblk m c 6 t : FVec Ideal S1x3x2048x512 .bf16) (ix4 0 b k q) := by
  refine View.ld_unit_apply_of _ _ _ inb _ _ fun a => ?_
  match a with
  | ⟨0, _⟩ => rfl
  | ⟨1, _⟩ => rfl
  | ⟨2, _⟩ => exact (Nat.zero_add _).symm
  | ⟨3, _⟩ => exact (Nat.zero_add _).symm

/-- The product that a point stores, at an index, is the reference's term where the block lands. -/
theorem point (c : Dev nD) (t : Fin cfg0.N) (r : Fin 1024) (q : Fin 512) (R : Fin 8192) (Q : Fin 2048)
    (hR : R.val = t.val % 8 * 1024 + r.val) (hQ : Q.val = t.val / 8 * 512 + q.val) :
    k0_pay1 (F := Ideal) (X0_3 m c t) (iblk m c 0 t)
      (View.ld (iblk m c 6 t) (Rect.unit ![0, 0, 0, 0] ![1, 1, 2048, 512] inb_S1x3x2048x512_S1x1x2048x512_0_0_0_0))
      (X0_4 m c t) (iblk m c 1 t)
      (View.ld (iblk m c 6 t) (Rect.unit ![0, 1, 0, 0] ![1, 1, 2048, 512] inb_S1x3x2048x512_S1x1x2048x512_0_1_0_0))
      (X0_5 m c t) (iblk m c 2 t)
      (View.ld (iblk m c 6 t) (Rect.unit ![0, 2, 0, 0] ![1, 1, 2048, 512] inb_S1x3x2048x512_S1x1x2048x512_0_2_0_0)) (ix2 r q)
    = REF (m ((c : Thread nD τ).loc main_arg0)) (m ((c : Thread nD τ).loc main_arg1)) (m ((c : Thread nD τ).loc main_arg2))
        (m ((c : Thread nD τ).loc main_arg3)) (m ((c : Thread nD τ).loc main_arg4)) (ix2 R Q) := by
  rw [hpay, href,
    gate0 m c t r q ⟨R.val, by omega⟩ ⟨4096 + Q.val, by omega⟩ hR (by show 4096 + Q.val = _; rw [hQ]),
    gate1 m c t r q ⟨R.val, by omega⟩ ⟨4096 + (2048 + Q.val), by omega⟩ hR (by show 4096 + (2048 + Q.val) = _; omega),
    gate2 m c t r q ⟨R.val, by omega⟩ ⟨4096 + (4096 + Q.val), by omega⟩ hR (by show 4096 + (4096 + Q.val) = _; omega)]
  refine congrArg₂ (fun x y : EReal => x + y) (congrArg₂ (fun x y : EReal => x + y) ?_ ?_) ?_ <;>
    refine Ideal.mul_congr rfl (Finset.sum_congr rfl fun k _ => ?_)
  · exact Ideal.mul_congr (rows0 m c t r k R hR) ((ld_at m c t 0 _ k q).trans (wblk_at m c t 0 k q Q hQ))
  · exact Ideal.mul_congr (rows1 m c t r k R hR) ((ld_at m c t 1 _ k q).trans (wblk_at m c t 1 k q Q hQ))
  · exact Ideal.mul_congr (rows2 m c t r k R hR) ((ld_at m c t 2 _ k q).trans (wblk_at m c t 2 k q Q hQ))

/-- The result array after the run is the reference's term of the arguments. -/
theorem final (c : Dev nD) : (dats m 0 c).arrAt 7 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]
  unfold outsAt0
  frame_out
  have ht : t.val < 32 := lt_of_lt_of_eq t.isLt N_0
  have h0 : (y 0).val < 1024 := (y 0).isLt
  have h1 : (y 1).val < 512 := (y 1).isLt
  refine Eq.trans ?_ ((point m c t (y 0) (y 1) ⟨t.val % 8 * 1024 + (y 0).val, by omega⟩ ⟨t.val / 8 * 512 + (y 1).val, by omega⟩ rfl rfl).trans ?_)
  · exact congrArg _ (eq_ix2 y)
  · refine congrArg _ (funext fun a => Fin.ext ?_)
    match a with
    | ⟨0, _⟩ => show t.val % 8 * 1024 + (y 0).val = win0_7.index t 0 * 1024 + 1 * (y 0).val; rw [(idx t).2.2.2.2.2.2.2]; simp
    | ⟨1, _⟩ => show t.val / 8 * 512 + (y 1).val = win0_7.index t 1 * 512 + 1 * (y 1).val; rw [(idx t).2.2.2.2.2.2.2]; simp

end Cert.KernelMIdeal.Branch

end
-- ==== Proof.OutProj.lean ====
/- The value of the output projection: the kernel's column blocks, computed from row blocks of the merged branches and
   column blocks of layer 0's weights, are the rounded product of the whole matrices. -/
module

public import proofs.«01_k».proof.Proof.Gen.KernelOIdeal.Value
public import proofs.«01_k».proof.Proof.Gen.ReferenceOIdeal.Run
public import Idealize.ShloMosaic.Lib.Pipeline.ValueKit
public import Idealize.ShloMosaic.Lib.Pointwise

@[expose] public section

set_option maxRecDepth 16384

noncomputable section

namespace Cert.KernelOIdeal.OutProj

open Cert.KernelOIdeal Cert.KernelOIdeal.Gen Idealize.ShloMosaic Idealize.ShloMosaic.TcCoe Idealize.SL.Sem
open Idealize.ShloMosaic.Pipeline (Dat)

variable (m : (ℓ : Loc nD τ sig) → Buf (Elt Ideal) ℓ)

/-- The reference's term, over the two arguments: the merged rows times layer 0's output weights, rounded. -/
def REF (X : FVec Ideal S8192x2048 .bf16) (Wt : FVec Ideal S4x2048x2048 .f32) : FVec Ideal Cert.ReferenceOIdeal.S8192x2048 .bf16 :=
  truncf .bf16 (Host.dotGeneral Cert.ReferenceOIdeal.dot_S8192x2048_S2048x2048_S8192x2048_1_0_0_1_n_n none
    (extf .f32 X Cert.ReferenceOIdeal.Gen.bitsLt_bf16_f32)
    (shapeCast _ (extractStridedSlice Cert.ReferenceOIdeal.S1x2048x2048 ![0, 0, 0] Wt
      Cert.ReferenceOIdeal.Gen.slices_S4x2048x2048_S1x2048x2048_0_0_0) Cert.ReferenceOIdeal.Gen.shapeCasts_S1x2048x2048_S2048x2048))
    Cert.ReferenceOIdeal.Gen.bitsLt_bf16_f32

/-- The index maps of the three windows at every grid point. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- A staged row block: row `r` of point `t` is row `t % 8 * 1024 + r` of the merged branches. -/
theorem xblk_at (c : Dev nD) (t : Fin cfg0.N) (r : Fin 1024) (k : Fin 2048) (R : Fin 8192) (hR : R.val = t.val % 8 * 1024 + r.val) :
    (iblk m c 0 t : FVec Ideal S1024x2048 .bf16) (ix2 r k)
      = (m ((c : Thread nD τ).loc main_arg0) : FVec Ideal S8192x2048 .bf16) (ix2 R k) := by
  blk_point [iblk, V, idx t]

/-- A staged weight block: entry `(k, j)` of point `t` is layer 0's weight of input `k` and column `t / 8 * 1024 + j`. -/
theorem wblk_at (c : Dev nD) (t : Fin cfg0.N) (a : Fin 1) (k : Fin 2048) (j : Fin 1024) (J : Fin 2048) (hJ : J.val = t.val / 8 * 1024 + j.val) :
    (iblk m c 1 t : FVec Ideal S1x2048x1024 .f32) (ix3 a k j)
      = (m ((c : Thread nD τ).loc main_arg1) : FVec Ideal S4x2048x2048 .f32) (ix3 0 k J) := by
  blk_point [iblk, V, idx t]

/-- Two points of one run of eight stage the same weight block. -/
theorem wblk_eq (c : Dev nD) (t t' : Fin cfg0.N) (h : t.val / 8 = t'.val / 8) :
    (iblk m c 1 t : FVec Ideal S1x2048x1024 .f32) = iblk m c 1 t' := by
  funext y
  have ht : t.val < 16 := lt_of_lt_of_eq t.isLt N_0
  have hy : (y 2).val < 1024 := (y 2).isLt
  rw [eq_ix3 y]
  exact (wblk_at m c t _ _ _ ⟨t.val / 8 * 1024 + (y 2).val, by omega⟩ rfl).trans
    (wblk_at m c t' _ _ _ ⟨t.val / 8 * 1024 + (y 2).val, by omega⟩ (by show t.val / 8 * 1024 + (y 2).val = _; omega)).symm

/-- A point that is not the first of its run leaves the scratch as it found it. -/
theorem outsAt0_succ_B (c : Dev nD) (n : ℕ) (hn : n + 1 < cfg0.N) (h : ¬ (n + 1) % 8 = 0) :
    (outsAt0 m c (n + 1) hn).2 = (outsAt0 m c n (Nat.lt_of_succ_lt hn)).2 := by
  rw [outsAt0_B m c ⟨n + 1, hn⟩ h]
  rfl

/-- After every point the scratch holds the rounded weight block of that point. -/
theorem scratch_eq (c : Dev nD) : ∀ (n : ℕ) (hn : n < cfg0.N),
    (outsAt0 m c n hn).2 = k0_pay1 (F := Ideal) (iblk m c 1 ⟨n, hn⟩) := by
  intro n
  induction n with
  | zero =>
    intro hn
    rw [outsAt0_A m c ⟨0, hn⟩ rfl]; frame_out
  | succ n ih =>
    intro hn
    by_cases h : (n + 1) % 8 = 0
    · rw [outsAt0_A m c ⟨n + 1, hn⟩ h]; frame_out
    · rw [outsAt0_succ_B m c n hn h, ih, wblk_eq m c ⟨n, Nat.lt_of_succ_lt hn⟩ ⟨n + 1, hn⟩ (by show n / 8 = (n + 1) / 8; omega)]

/-- After every point the output buffer holds the row block times the rounded weight block. -/
theorem out_eq (c : Dev nD) (t : Fin cfg0.N) :
    (outsAt0 m c t.val t.isLt).1 = k0_pay2 (F := Ideal) (k0_pay1 (F := Ideal) (iblk m c 1 t)) (iblk m c 0 t) := by
  by_cases h : t.val % 8 = 0
  · rw [outsAt0_A m c t h]; frame_out
  · rw [outsAt0_B m c t h, scratch_eq, wblk_eq m c ⟨t.val - 1, Nat.lt_of_le_of_lt (Nat.sub_le _ _) t.isLt⟩ t (by show (t.val - 1) / 8 = t.val / 8; omega)]
    frame_out
    rw [(Memref.isWhole_whole _).read_unread]

/-- The stored product, read at an index, is the reference's term read where the block lands. -/
theorem point (c : Dev nD) (t : Fin cfg0.N) (r q : Fin 1024) (R : Fin 8192) (Q : Fin 2048)
    (hR : R.val = t.val % 8 * 1024 + r.val) (hQ : Q.val = t.val / 8 * 1024 + q.val) :
    k0_pay2 (F := Ideal) (k0_pay1 (F := Ideal) (iblk m c 1 t)) (iblk m c 0 t) (ix2 r q)
    = REF (m ((c : Thread nD τ).loc main_arg0)) (m ((c : Thread nD τ).loc main_arg1)) (ix2 R Q) := by
  have hw := fun k => wblk_at m c t 0 k q Q hQ
  have hx := fun k => xblk_at m c t r k R hR
  pointwise [k0_pay1, k0_pay2, REF]
  exact Finset.sum_congr rfl fun k _ => Ideal.mul_congr (hx k) (hw k)

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, out_eq]
  have ht : t.val < 16 := lt_of_lt_of_eq t.isLt N_0
  have h0 : (y 0).val < 1024 := (y 0).isLt
  have h1 : (y 1).val < 1024 := (y 1).isLt
  refine Eq.trans ?_ ((point m c t (y 0) (y 1) ⟨t.val % 8 * 1024 + (y 0).val, by omega⟩ ⟨t.val / 8 * 1024 + (y 1).val, by omega⟩ rfl rfl).trans ?_)
  · exact congrArg _ (eq_ix2 y)
  · refine congrArg _ (funext fun a => Fin.ext ?_)
    match a with
    | ⟨0, _⟩ => show t.val % 8 * 1024 + (y 0).val = win0_2.index t 0 * 1024 + 1 * (y 0).val; rw [(idx t).2.2]; simp
    | ⟨1, _⟩ => show t.val / 8 * 1024 + (y 1).val = win0_2.index t 1 * 1024 + 1 * (y 1).val; rw [(idx t).2.2]; simp

end Cert.KernelOIdeal.OutProj

end
-- ==== Proof.DenseFfn.lean ====
/- The value of the dense feed-forward: adding, block of 512 hidden units by block, the gated hidden units times their
   output weights gives the reference's product over all 5632 hidden units. -/
module

public import proofs.«01_k».proof.Proof.Gen.KernelFIdeal.Value
public import proofs.«01_k».proof.Proof.Gen.ReferenceFIdeal.Run
public import Idealize.ShloMosaic.Lib.Pipeline.ValueKit
public import Idealize.ShloMosaic.Lib.Pointwise

@[expose] public section

set_option maxRecDepth 16384

noncomputable section

namespace Cert.KernelFIdeal.DenseFfn

open Cert.KernelFIdeal Cert.KernelFIdeal.Gen Idealize.ShloMosaic Idealize.ShloMosaic.TcCoe Idealize.SL.Sem
open Idealize.ShloMosaic.Pipeline (Dat)

variable (m : (ℓ : Loc nD τ sig) → Buf (Elt Ideal) ℓ)

/-- The product of the activations with a matrix of layer `0`'s input weights (the gate's, or the other factor's). -/
def hidden (X : FVec Ideal S8192x2048 .bf16) (Wt : FVec Ideal S2x2048x5632 .f32) : FVec Ideal Cert.ReferenceFIdeal.S8192x5632 .f32 :=
  Host.dotGeneral Cert.ReferenceFIdeal.dot_S8192x2048_S2048x5632_S8192x5632_1_0_0_1_n_n none
    (extf .f32 X Cert.ReferenceFIdeal.Gen.bitsLt_bf16_f32)
    (shapeCast _ (extractStridedSlice Cert.ReferenceFIdeal.S1x2048x5632 ![0, 0, 0] Wt
      Cert.ReferenceFIdeal.Gen.slices_S2x2048x5632_S1x2048x5632_0_0_0) Cert.ReferenceFIdeal.Gen.shapeCasts_S1x2048x5632_S2048x5632)

/-- The reference's term, over the four arguments. -/
def REF (X : FVec Ideal S8192x2048 .bf16) (W1 W3 : FVec Ideal S2x2048x5632 .f32) (W2 : FVec Ideal S2x5632x2048 .f32) :
    FVec Ideal Cert.ReferenceFIdeal.S8192x2048 .bf16 :=
  truncf .bf16 (Host.dotGeneral Cert.ReferenceFIdeal.dot_S8192x5632_S5632x2048_S8192x2048_1_0_0_1_n_n none
    (mulf (mulf (hidden X W1) (Host.divf
        (broadcastInDim Cert.ReferenceFIdeal.S8192x5632 ![] Cert.ReferenceFIdeal.Gen.bcast_S_S8192x5632 (constant Cert.ReferenceFIdeal.S_ .f32 0x3F800000#32))
        (addf (broadcastInDim Cert.ReferenceFIdeal.S8192x5632 ![] Cert.ReferenceFIdeal.Gen.bcast_S_S8192x5632 (constant Cert.ReferenceFIdeal.S_ .f32 0x3F800000#32))
          (Host.exp (Host.negf (hidden X W1)))))) (hidden X W3))
    (shapeCast _ (extractStridedSlice Cert.ReferenceFIdeal.S1x5632x2048 ![0, 0, 0] W2
      Cert.ReferenceFIdeal.Gen.slices_S2x5632x2048_S1x5632x2048_0_0_0) Cert.ReferenceFIdeal.Gen.shapeCasts_S1x5632x2048_S5632x2048))
    Cert.ReferenceFIdeal.Gen.bitsLt_bf16_f32

/-- The index maps of the five windows at every grid point. -/
theorem idx : ∀ t : Fin cfg0.N, win0_0.index t = ![t.val / 11, 0] ∧ win0_1.index t = ![0, 0, t.val % 11]
    ∧ win0_2.index t = ![0, 0, t.val % 11] ∧ win0_3.index t = ![0, t.val % 11, 0] ∧ win0_4.index t = ![t.val / 11, 0] :=
  (by decide +kernel : ∀ t : Fin grid0.N, _)

/-- The first point of a run clears the accumulator. -/
theorem hzero (j) : k0_pay1 (F := Ideal) j = 0 := by pointwise [k0_pay1]

/-- What a hidden unit contributes: `s` times the logistic function of `s`, times `u`. -/
def unit (s u : EReal) : EReal := s * Ideal.logistic s * u

/-- What one block of 512 hidden units adds to entry `j` of the accumulator. -/
def part (x : Vec Ideal S1024x2048 .bf16) (w1 w3 : Vec Ideal S1x2048x512 .f32) (w2 : Vec Ideal S1x512x2048 .f32)
    (j : S1024x2048.Idx) : EReal :=
  ∑ f : Fin 512, unit (∑ k : Fin 2048, x (ix2 (j 0) k) * w1 (ix3 0 k f)) (∑ k : Fin 2048, x (ix2 (j 0) k) * w3 (ix3 0 k f))
    * w2 (ix3 0 f (j 1))

/-- The accumulating store adds `part` to what was there. -/
theorem hpay (x : Vec Ideal S1024x2048 .bf16) (w1 w3 : Vec Ideal S1x2048x512 .f32) (acc : Vec Ideal S1024x2048 .f32)
    (w2 : Vec Ideal S1x512x2048 .f32) (j) : k0_pay2 (F := Ideal) x w1 w3 acc w2 j = acc j + part x w1 w3 w2 j := by
  pointwise [k0_pay2, unit, part]

/-- The reference at an index: the sum over all the hidden units. -/
theorem href (X : FVec Ideal S8192x2048 .bf16) (W1 W3 : FVec Ideal S2x2048x5632 .f32) (W2 : FVec Ideal S2x5632x2048 .f32) (j) :
    REF X W1 W3 W2 j = ∑ f : Fin 5632,
      unit (∑ k : Fin 2048, X (ix2 (j 0) k) * W1 (ix3 0 k f)) (∑ k : Fin 2048, X (ix2 (j 0) k) * W3 (ix3 0 k f)) * W2 (ix3 0 f (j 1)) := by
  pointwise [REF, hidden, unit]
  rfl

/-- The store at the last point of a run rounds the accumulator. -/
theorem hround (acc : Vec Ideal S1024x2048 .f32) (j) : k0_pay3 (F := Ideal) acc j = acc j := by pointwise [k0_pay3]

/-- What point `p` adds to the accumulator. -/
def term (c : Dev nD) (p : Fin cfg0.N) (j : S1024x2048.Idx) : EReal :=
  part (iblk m c 0 p) (iblk m c 1 p) (iblk m c 2 p) (iblk m c 3 p) j

/-- The first point of a run leaves its own part in the accumulator. -/
theorem scratch_reset (c : Dev nD) (t : Fin cfg0.N) (h : t.val % 11 = 0) (j : S1024x2048.Idx) :
    (outsAt0 m c t.val t.isLt).2 j = (0 : EReal) + term m c t j := by
  rw [outsAt0_A m c t h (by omega)]; frame_out; rw [hpay, hzero]; rfl

/-- Every other point adds its part. -/
theorem scratch_step (c : Dev nD) (t : Fin cfg0.N) (h : ¬ t.val % 11 = 0) (j : S1024x2048.Idx) :
    (outsAt0 m c t.val t.isLt).2 j
      = ((outsAt0 m c (t.val - 1) (Nat.lt_of_le_of_lt (Nat.sub_le _ _) t.isLt)).2 j : EReal) + term m c t j := by
  by_cases h1 : t.val % 11 = 10
  · rw [outsAt0_C m c t h h1]; frame_out; rw [hpay, (Memref.isWhole_whole _).read_unread]; rfl
  · rw [outsAt0_B m c t h h1]; frame_out; rw [hpay, (Memref.isWhole_whole _).read_unread]; rfl

/-- The last point of a run leaves the rounded accumulator in the output buffer. -/
theorem out_eq (c : Dev nD) (t : Fin cfg0.N) (h : t.val % 11 = 10) (j : S1024x2048.Idx) :
    ((outsAt0 m c t.val t.isLt).1 j : EReal) = (outsAt0 m c t.val t.isLt).2 j := by
  rw [scratch_step m c t (by omega), outsAt0_C m c t (by omega) h]; frame_out; rw [hround, hpay, (Memref.isWhole_whole _).read_unread]; rfl

/-- The result array after the run is the reference's term of the arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have hl := (flush0_4 t).mp hf
  blk_simp
  rw [after0_4]
  refine (out_eq m c t hl _).trans ?_
  rw [Pipeline.eq_sum_fin_of_reset_step_apply_of_flush (fun n h => (outsAt0 m c n h).2) 11 (fun _ => (0 : EReal)) (term m c)
    (scratch_reset m c) (scratch_step m c) t hl _, zero_add, href]
  refine Fin.sum_mul_add_congr fun s k hl' => ?_
  have hi := idx ⟨_, Pipeline.run_point_lt_of_flush t hl s⟩
  blk_point [unit, iblk, V, idx t, hi]

end Cert.KernelFIdeal.DenseFfn

end
-- ==== Proof.Host.lean ====
/-
  The host's operations before the launch of the experts' kernel, cut where one of the tables' intermediate arrays is
  complete: what an array holds at the launch is what its own piece leaves in it.
-/
module

public import proofs.«01_k».proof.Proof.Gen.KernelE.Launch
public import Idealize.ShloMosaic.Lib.StableHlo.RunRead
public import Idealize.ShloMosaic.Lib.Pipeline.Frame

@[expose] public section

set_option maxRecDepth 100000

noncomputable section

namespace Cert.KernelE.Rows

open Idealize.ShloMosaic Idealize.ShloMosaic.TcCoe Idealize.ShloMosaic.Pipeline
open Gen

variable {F : FTy → Type} [FloatOps F]

/-- The host's operations before the launch, stretch by stretch. -/
abbrev hostOps : List (List (HloOp τ sig (Elt F))) :=
  [
    hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21]

abbrev to_v36 : List (HloOp τ sig (Elt F)) :=
  [ StableHlo.nullary main_v27 (iotaInDim S42 32 0),
    StableHlo.nullary main_c_5 (constantI S_ 32 512#32),
    StableHlo.unary main_c_5 main_v28 (broadcastInDim S42 ![] bcast_S_S42 : (⟨S_, .i32⟩ : BufTy).Contents (Elt F) → (⟨S42, .i32⟩ : BufTy).Contents (Elt F)),
    StableHlo.binary main_v27 main_v28 main_v29 (muli : (⟨S42, .i32⟩ : BufTy).Contents (Elt F) → (⟨S42, .i32⟩ : BufTy).Contents (Elt F) → (⟨S42, .i32⟩ : BufTy).Contents (Elt F)),
    StableHlo.unary main_v29 main_v30 (broadcastInDim S42x1 ![0] bcast_S42_S42x1_0 : (⟨S42, .i32⟩ : BufTy).Contents (Elt F) → (⟨S42x1, .i32⟩ : BufTy).Contents (Elt F)),
    StableHlo.unary main_v22 main_v31 (broadcastInDim S1x8 ![1] bcast_S8_S1x8_1 : (⟨S8, .i32⟩ : BufTy).Contents (Elt F) → (⟨S1x8, .i32⟩ : BufTy).Contents (Elt F)),
    StableHlo.unary main_v30 main_v32 (broadcastInDim S42x8 ![0, 1] bcast_S42x1_S42x8_0_1 : (⟨S42x1, .i32⟩ : BufTy).Contents (Elt F) → (⟨S42x8, .i32⟩ : BufTy).Contents (Elt F)),
    StableHlo.unary main_v31 main_v33 (broadcastInDim S42x8 ![0, 1] bcast_S1x8_S42x8_0_1 : (⟨S1x8, .i32⟩ : BufTy).Contents (Elt F) → (⟨S42x8, .i32⟩ : BufTy).Contents (Elt F)),
    StableHlo.binary main_v32 main_v33 main_v34 (cmpi .sge : (⟨S42x8, .i32⟩ : BufTy).Contents (Elt F) → (⟨S42x8, .i32⟩ : BufTy).Contents (Elt F) → (⟨S42x8, .i1⟩ : BufTy).Contents (Elt F)),
    StableHlo.unary main_v34 main_v35 ((extui 32 · natLt_1_32) : (⟨S42x8, .i1⟩ : BufTy).Contents (Elt F) → (⟨S42x8, .i32⟩ : BufTy).Contents (Elt F)),
    StableHlo.nullary main_c_6 (constantI S_ 32 0#32),
    StableHlo.binary main_v35 main_c_6 main_v36 ((fun x v => Host.reduce IntOp.addi x v reducesTo_S42x8_S42_d1 h_S_) : (⟨S42x8, .i32⟩ : BufTy).Contents (Elt F) → (⟨S_, .i32⟩ : BufTy).Contents (Elt F) → (⟨S42, .i32⟩ : BufTy).Contents (Elt F)) ]

abbrev to_v41 : List (HloOp τ sig (Elt F)) :=
  [ StableHlo.nullary main_c_7 (constantI S_ 32 1#32),
    StableHlo.binary main_v26 main_c_7 main_v37 (subi : (⟨S_, .i32⟩ : BufTy).Contents (Elt F) → (⟨S_, .i32⟩ : BufTy).Contents (Elt F) → (⟨S_, .i32⟩ : BufTy).Contents (Elt F)),
    StableHlo.nullary main_c_8 (constantI S_ 32 0#32),
    StableHlo.binary main_v37 main_c_8 main_v38 (maxsi : (⟨S_, .i32⟩ : BufTy).Contents (Elt F) → (⟨S_, .i32⟩ : BufTy).Contents (Elt F) → (⟨S_, .i32⟩ : BufTy).Contents (Elt F)),
    StableHlo.nullary main_c_9 (constantI S_ 32 0#32),
    StableHlo.binary main_v38 main_c_9 main_v39 (cmpi .slt : (⟨S_, .i32⟩ : BufTy).Contents (Elt F) → (⟨S_, .i32⟩ : BufTy).Contents (Elt F) → (⟨S_, .i1⟩ : BufTy).Contents (Elt F)),
    StableHlo.nullary main_c_10 (constantI S_ 32 42#32),
    StableHlo.binary main_v38 main_c_10 main_v40 (addi : (⟨S_, .i32⟩ : BufTy).Contents (Elt F) → (⟨S_, .i32⟩ : BufTy).Contents (Elt F) → (⟨S_, .i32⟩ : BufTy).Contents (Elt F)),
    StableHlo.ternary main_v39 main_v40 main_v38 main_v41 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

abbrev to_v45 : List (HloOp τ sig (Elt F)) :=
  [ StableHlo.unaryIndexed main_v36 ![main_v41] ⟨S_, .i32⟩ main_v42 ((fun x i => Host.dynamicSlice S1 x (fun k => (i k (Shape.Idx.first h_S_)).toInt) sliceFits_S42_S1) : (⟨S42, .i32⟩ : BufTy).Contents (Elt F) → (Fin 1 → (⟨S_, .i32⟩ : BufTy).Contents (Elt F)) → (⟨S1, .i32⟩ : BufTy).Contents (Elt F)),
    StableHlo.reshape main_v42 main_v43 (rfl : (.i32 : EltTy) = .i32) shapeCasts_S1_S_,
    StableHlo.unary main_v43 main_v44 (broadcastInDim S42 ![] bcast_S_S42 : (⟨S_, .i32⟩ : BufTy).Contents (Elt F) → (⟨S42, .i32⟩ : BufTy).Contents (Elt F)),
    StableHlo.binary main_v36 main_v44 main_v45 (minsi : (⟨S42, .i32⟩ : BufTy).Contents (Elt F) → (⟨S42, .i32⟩ : BufTy).Contents (Elt F) → (⟨S42, .i32⟩ : BufTy).Contents (Elt F)) ]

abbrev to_v47 : List (HloOp τ sig (Elt F)) :=
  [ StableHlo.unary main_v36 main_v46 (broadcastInDim S42x512 ![0] bcast_S42_S42x512_0 : (⟨S42, .i32⟩ : BufTy).Contents (Elt F) → (⟨S42x512, .i32⟩ : BufTy).Contents (Elt F)),
    StableHlo.reshape main_v46 main_v47 (rfl : (.i32 : EltTy) = .i32) shapeCasts_S42x512_S21504 ]

abbrev to_v50 : List (HloOp τ sig (Elt F)) :=
  [ StableHlo.nullary main_c_11 (constantI S_ 32 7#32),
    StableHlo.unary main_c_11 main_v48 (broadcastInDim S21504 ![] bcast_S_S21504 : (⟨S_, .i32⟩ : BufTy).Contents (Elt F) → (⟨S21504, .i32⟩ : BufTy).Contents (Elt F)),
    StableHlo.binary main_v47 main_v48 main_v49 (minsi : (⟨S21504, .i32⟩ : BufTy).Contents (Elt F) → (⟨S21504, .i32⟩ : BufTy).Contents (Elt F) → (⟨S21504, .i32⟩ : BufTy).Contents (Elt F)),
    StableHlo.nullary main_v50 (iotaInDim S21504 32 0) ]

abbrev to_v57 : List (HloOp τ sig (Elt F)) :=
  [ StableHlo.nullary main_c_12 (constantI S_ 32 0#32),
    StableHlo.unary main_c_12 main_v51 (broadcastInDim S21504 ![] bcast_S_S21504 : (⟨S_, .i32⟩ : BufTy).Contents (Elt F) → (⟨S21504, .i32⟩ : BufTy).Contents (Elt F)),
    StableHlo.binary main_v49 main_v51 main_v52 (cmpi .slt : (⟨S21504, .i32⟩ : BufTy).Contents (Elt F) → (⟨S21504, .i32⟩ : BufTy).Contents (Elt F) → (⟨S21504, .i1⟩ : BufTy).Contents (Elt F)),
    StableHlo.nullary main_c_13 (constantI S_ 32 8#32),
    StableHlo.unary main_c_13 main_v53 (broadcastInDim S21504 ![] bcast_S_S21504 : (⟨S_, .i32⟩ : BufTy).Contents (Elt F) → (⟨S21504, .i32⟩ : BufTy).Contents (Elt F)),
    StableHlo.binary main_v49 main_v53 main_v54 (addi : (⟨S21504, .i32⟩ : BufTy).Contents (Elt F) → (⟨S21504, .i32⟩ : BufTy).Contents (Elt F) → (⟨S21504, .i32⟩ : BufTy).Contents (Elt F)),
    StableHlo.ternary main_v52 main_v54 main_v49 main_v55 (select : (⟨S21504, .i1⟩ : BufTy).Contents (Elt F) → (⟨S21504, .i32⟩ : BufTy).Contents (Elt F) → (⟨S21504, .i32⟩ : BufTy).Contents (Elt F) → (⟨S21504, .i32⟩ : BufTy).Contents (Elt F)),
    StableHlo.unary main_v55 main_v56 (broadcastInDim S21504x1 ![0] bcast_S21504_S21504x1_0 : (⟨S21504, .i32⟩ : BufTy).Contents (Elt F) → (⟨S21504x1, .i32⟩ : BufTy).Contents (Elt F)),
    StableHlo.binary main_v23 main_v56 main_v57 ((fun x i => Host.gather gather_S8_S21504x1_S21504_n_0_n_n_0_1_1 x i) : (⟨S8, .i32⟩ : BufTy).Contents (Elt F) → (⟨S21504x1, .i32⟩ : BufTy).Contents (Elt F) → (⟨S21504, .i32⟩ : BufTy).Contents (Elt F)) ]

abbrev to_v60 : List (HloOp τ sig (Elt F)) :=
  [ StableHlo.binary main_v50 main_v57 main_v58 (subi : (⟨S21504, .i32⟩ : BufTy).Contents (Elt F) → (⟨S21504, .i32⟩ : BufTy).Contents (Elt F) → (⟨S21504, .i32⟩ : BufTy).Contents (Elt F)),
    StableHlo.nullary main_c_14 (constantI S_ 32 8#32),
    StableHlo.unary main_c_14 main_v59 (broadcastInDim S21504 ![] bcast_S_S21504 : (⟨S_, .i32⟩ : BufTy).Contents (Elt F) → (⟨S21504, .i32⟩ : BufTy).Contents (Elt F)),
    StableHlo.binary main_v47 main_v59 main_v60 (cmpi .slt : (⟨S21504, .i32⟩ : BufTy).Contents (Elt F) → (⟨S21504, .i32⟩ : BufTy).Contents (Elt F) → (⟨S21504, .i1⟩ : BufTy).Contents (Elt F)) ]

abbrev to_v67 : List (HloOp τ sig (Elt F)) :=
  [ StableHlo.nullary main_c_15 (constantI S_ 32 0#32),
    StableHlo.unary main_c_15 main_v61 (broadcastInDim S21504 ![] bcast_S_S21504 : (⟨S_, .i32⟩ : BufTy).Contents (Elt F) → (⟨S21504, .i32⟩ : BufTy).Contents (Elt F)),
    StableHlo.binary main_v49 main_v61 main_v62 (cmpi .slt : (⟨S21504, .i32⟩ : BufTy).Contents (Elt F) → (⟨S21504, .i32⟩ : BufTy).Contents (Elt F) → (⟨S21504, .i1⟩ : BufTy).Contents (Elt F)),
    StableHlo.nullary main_c_16 (constantI S_ 32 8#32),
    StableHlo.unary main_c_16 main_v63 (broadcastInDim S21504 ![] bcast_S_S21504 : (⟨S_, .i32⟩ : BufTy).Contents (Elt F) → (⟨S21504, .i32⟩ : BufTy).Contents (Elt F)),
    StableHlo.binary main_v49 main_v63 main_v64 (addi : (⟨S21504, .i32⟩ : BufTy).Contents (Elt F) → (⟨S21504, .i32⟩ : BufTy).Contents (Elt F) → (⟨S21504, .i32⟩ : BufTy).Contents (Elt F)),
    StableHlo.ternary main_v62 main_v64 main_v49 main_v65 (select : (⟨S21504, .i1⟩ : BufTy).Contents (Elt F) → (⟨S21504, .i32⟩ : BufTy).Contents (Elt F) → (⟨S21504, .i32⟩ : BufTy).Contents (Elt F) → (⟨S21504, .i32⟩ : BufTy).Contents (Elt F)),
    StableHlo.unary main_v65 main_v66 (broadcastInDim S21504x1 ![0] bcast_S21504_S21504x1_0 : (⟨S21504, .i32⟩ : BufTy).Contents (Elt F) → (⟨S21504x1, .i32⟩ : BufTy).Contents (Elt F)),
    StableHlo.binary main_v12 main_v66 main_v67 ((fun x i => Host.gather gather_S8_S21504x1_S21504_n_0_n_n_0_1_1 x i) : (⟨S8, .i32⟩ : BufTy).Contents (Elt F) → (⟨S21504x1, .i32⟩ : BufTy).Contents (Elt F) → (⟨S21504, .i32⟩ : BufTy).Contents (Elt F)) ]

abbrev to_v69 : List (HloOp τ sig (Elt F)) :=
  [ StableHlo.binary main_v58 main_v67 main_v68 (cmpi .slt : (⟨S21504, .i32⟩ : BufTy).Contents (Elt F) → (⟨S21504, .i32⟩ : BufTy).Contents (Elt F) → (⟨S21504, .i1⟩ : BufTy).Contents (Elt F)),
    StableHlo.binary main_v60 main_v68 main_v69 (andi : (⟨S21504, .i1⟩ : BufTy).Contents (Elt F) → (⟨S21504, .i1⟩ : BufTy).Contents (Elt F) → (⟨S21504, .i1⟩ : BufTy).Contents (Elt F)) ]

abbrev to_v76 : List (HloOp τ sig (Elt F)) :=
  [ StableHlo.nullary main_c_17 (constantI S_ 32 0#32),
    StableHlo.unary main_c_17 main_v70 (broadcastInDim S21504 ![] bcast_S_S21504 : (⟨S_, .i32⟩ : BufTy).Contents (Elt F) → (⟨S21504, .i32⟩ : BufTy).Contents (Elt F)),
    StableHlo.binary main_v49 main_v70 main_v71 (cmpi .slt : (⟨S21504, .i32⟩ : BufTy).Contents (Elt F) → (⟨S21504, .i32⟩ : BufTy).Contents (Elt F) → (⟨S21504, .i1⟩ : BufTy).Contents (Elt F)),
    StableHlo.nullary main_c_18 (constantI S_ 32 8#32),
    StableHlo.unary main_c_18 main_v72 (broadcastInDim S21504 ![] bcast_S_S21504 : (⟨S_, .i32⟩ : BufTy).Contents (Elt F) → (⟨S21504, .i32⟩ : BufTy).Contents (Elt F)),
    StableHlo.binary main_v49 main_v72 main_v73 (addi : (⟨S21504, .i32⟩ : BufTy).Contents (Elt F) → (⟨S21504, .i32⟩ : BufTy).Contents (Elt F) → (⟨S21504, .i32⟩ : BufTy).Contents (Elt F)),
    StableHlo.ternary main_v71 main_v73 main_v49 main_v74 (select : (⟨S21504, .i1⟩ : BufTy).Contents (Elt F) → (⟨S21504, .i32⟩ : BufTy).Contents (Elt F) → (⟨S21504, .i32⟩ : BufTy).Contents (Elt F) → (⟨S21504, .i32⟩ : BufTy).Contents (Elt F)),
    StableHlo.unary main_v74 main_v75 (broadcastInDim S21504x1 ![0] bcast_S21504_S21504x1_0 : (⟨S21504, .i32⟩ : BufTy).Contents (Elt F) → (⟨S21504x1, .i32⟩ : BufTy).Contents (Elt F)),
    StableHlo.binary main_v14 main_v75 main_v76 ((fun x i => Host.gather gather_S8_S21504x1_S21504_n_0_n_n_0_1_1 x i) : (⟨S8, .i32⟩ : BufTy).Contents (Elt F) → (⟨S21504x1, .i32⟩ : BufTy).Contents (Elt F) → (⟨S21504, .i32⟩ : BufTy).Contents (Elt F)) ]

abbrev to_c_20 : List (HloOp τ sig (Elt F)) :=
  [ StableHlo.binary main_v76 main_v58 main_v77 (addi : (⟨S21504, .i32⟩ : BufTy).Contents (Elt F) → (⟨S21504, .i32⟩ : BufTy).Contents (Elt F) → (⟨S21504, .i32⟩ : BufTy).Contents (Elt F)),
    StableHlo.nullary main_c_19 (constantI S_ 32 0#32),
    StableHlo.nullary main_c_20 (constantI S_ 32 17407#32) ]

abbrev to_v90 : List (HloOp τ sig (Elt F)) :=
  [ StableHlo.nullary main_v88 (iotaInDim S21504 32 0),
    StableHlo.nullary main_c_25 (constantI S_ 32 17408#32),
    StableHlo.unary main_c_25 main_v89 (broadcastInDim S21504 ![] bcast_S_S21504 : (⟨S_, .i32⟩ : BufTy).Contents (Elt F) → (⟨S21504, .i32⟩ : BufTy).Contents (Elt F)),
    StableHlo.binary main_v89 main_v88 main_v90 (addi : (⟨S21504, .i32⟩ : BufTy).Contents (Elt F) → (⟨S21504, .i32⟩ : BufTy).Contents (Elt F) → (⟨S21504, .i32⟩ : BufTy).Contents (Elt F)) ]

abbrev to_v91 : List (HloOp τ sig (Elt F)) :=
  [ StableHlo.binary main_v14 main_v12 main_v91 (addi : (⟨S8, .i32⟩ : BufTy).Contents (Elt F) → (⟨S8, .i32⟩ : BufTy).Contents (Elt F) → (⟨S8, .i32⟩ : BufTy).Contents (Elt F)) ]

abbrev to_v98 : List (HloOp τ sig (Elt F)) :=
  [ StableHlo.nullary main_c_26 (constantI S_ 32 0#32),
    StableHlo.unary main_c_26 main_v92 (broadcastInDim S21504 ![] bcast_S_S21504 : (⟨S_, .i32⟩ : BufTy).Contents (Elt F) → (⟨S21504, .i32⟩ : BufTy).Contents (Elt F)),
    StableHlo.binary main_v49 main_v92 main_v93 (cmpi .slt : (⟨S21504, .i32⟩ : BufTy).Contents (Elt F) → (⟨S21504, .i32⟩ : BufTy).Contents (Elt F) → (⟨S21504, .i1⟩ : BufTy).Contents (Elt F)),
    StableHlo.nullary main_c_27 (constantI S_ 32 8#32),
    StableHlo.unary main_c_27 main_v94 (broadcastInDim S21504 ![] bcast_S_S21504 : (⟨S_, .i32⟩ : BufTy).Contents (Elt F) → (⟨S21504, .i32⟩ : BufTy).Contents (Elt F)),
    StableHlo.binary main_v49 main_v94 main_v95 (addi : (⟨S21504, .i32⟩ : BufTy).Contents (Elt F) → (⟨S21504, .i32⟩ : BufTy).Contents (Elt F) → (⟨S21504, .i32⟩ : BufTy).Contents (Elt F)),
    StableHlo.ternary main_v93 main_v95 main_v49 main_v96 (select : (⟨S21504, .i1⟩ : BufTy).Contents (Elt F) → (⟨S21504, .i32⟩ : BufTy).Contents (Elt F) → (⟨S21504, .i32⟩ : BufTy).Contents (Elt F) → (⟨S21504, .i32⟩ : BufTy).Contents (Elt F)),
    StableHlo.unary main_v96 main_v97 (broadcastInDim S21504x1 ![0] bcast_S21504_S21504x1_0 : (⟨S21504, .i32⟩ : BufTy).Contents (Elt F) → (⟨S21504x1, .i32⟩ : BufTy).Contents (Elt F)),
    StableHlo.binary main_v91 main_v97 main_v98 ((fun x i => Host.gather gather_S8_S21504x1_S21504_n_0_n_n_0_1_1 x i) : (⟨S8, .i32⟩ : BufTy).Contents (Elt F) → (⟨S21504x1, .i32⟩ : BufTy).Contents (Elt F) → (⟨S21504, .i32⟩ : BufTy).Contents (Elt F)) ]

abbrev to_v101 : List (HloOp τ sig (Elt F)) :=
  [ StableHlo.binary main_v90 main_v98 main_v99 (subi : (⟨S21504, .i32⟩ : BufTy).Contents (Elt F) → (⟨S21504, .i32⟩ : BufTy).Contents (Elt F) → (⟨S21504, .i32⟩ : BufTy).Contents (Elt F)),
    StableHlo.nullary main_c_28 (constantI S_ 32 8#32),
    StableHlo.unary main_c_28 main_v100 (broadcastInDim S21504 ![] bcast_S_S21504 : (⟨S_, .i32⟩ : BufTy).Contents (Elt F) → (⟨S21504, .i32⟩ : BufTy).Contents (Elt F)),
    StableHlo.binary main_v47 main_v100 main_v101 (cmpi .slt : (⟨S21504, .i32⟩ : BufTy).Contents (Elt F) → (⟨S21504, .i32⟩ : BufTy).Contents (Elt F) → (⟨S21504, .i1⟩ : BufTy).Contents (Elt F)) ]

/-- The pieces. -/
abbrev pieces : List (List (HloOp τ sig (Elt F))) :=
  [
    hostOps0, hostOps0_1, hostOps0_2, hostOps0_3, hostOps0_4, hostOps0_5, hostOps0_6, hostOps0_7, hostOps0_8, hostOps0_9, to_v36, to_v41, to_v45, to_v47,
    to_v50, to_v57, to_v60, to_v67, to_v69, to_v76, to_c_20, hostOps0_11, hostOps0_12, hostOps0_13, hostOps0_14, hostOps0_15, to_v90, to_v91, to_v98, to_v101,
    hostOps0_17, hostOps0_18, hostOps0_19, hostOps0_20, hostOps0_21]

theorem pieces_eq : (hostOps (F := F)).flatten = pieces.flatten := rfl

/-- The arrays that each of them writes. -/
abbrev writtenBy : List (List (Ref sig .tc)) :=
  [ [main_v0, main_v1, main_v2, main_v3],
    [main_call0_v0, main_call0_v1_0, main_v4],
    [main_v5, main_v6, main_v7, main_v8, main_v9, main_v10, main_v11, main_c, main_v12],
    [main_call1_call0_c, main_call1_call0_v0, main_v13],
    [main_v14, main_c_0, main_v15, main_v16, main_c_1, main_v17, main_v18, main_c_2],
    [main_call2_v0, main_call2_v1, main_call2_v2, main_call2_v3, main_call2_v4, main_call2_v5, main_call2_v6, main_call2_v7, main_call2_v8, main_call2_c,
      main_call2_v9, main_call2_v10, main_call2_v11, main_call2_c_0, main_call2_v12, main_call2_v13, main_v19],
    [main_c_3, main_v20, main_v21],
    [main_call3_call0_c, main_call3_call0_v0, main_v22],
    [main_v23, main_v24, main_v25, main_c_4],
    [main_call4_v0, main_call4_v1, main_call4_v2, main_call4_v3, main_call4_v4, main_call4_v5, main_call4_c, main_call4_v6, main_call4_v7, main_call4_c_0,
      main_call4_v8, main_v26],
    [main_v27, main_c_5, main_v28, main_v29, main_v30, main_v31, main_v32, main_v33, main_v34, main_v35, main_c_6, main_v36],
    [main_c_7, main_v37, main_c_8, main_v38, main_c_9, main_v39, main_c_10, main_v40, main_v41],
    [main_v42, main_v43, main_v44, main_v45],
    [main_v46, main_v47],
    [main_c_11, main_v48, main_v49, main_v50],
    [main_c_12, main_v51, main_v52, main_c_13, main_v53, main_v54, main_v55, main_v56, main_v57],
    [main_v58, main_c_14, main_v59, main_v60],
    [main_c_15, main_v61, main_v62, main_c_16, main_v63, main_v64, main_v65, main_v66, main_v67],
    [main_v68, main_v69],
    [main_c_17, main_v70, main_v71, main_c_18, main_v72, main_v73, main_v74, main_v75, main_v76],
    [main_v77, main_c_19, main_c_20],
    [main_call5_v0, main_call5_v1, main_call5_v2, main_call5_v3, main_call5_v4, main_v78],
    [main_c_21, main_v79, main_v80, main_c_22, main_v81, main_v82, main_v83, main_v84, main_v85, main_c_23],
    [main_call6_v0, main_call6_c, main_call6_v1, main_call6_c_0, main_call6_v2, main_call6_v3, main_call6_v4, main_call6_c_1, main_call6_v5, main_call6_v6,
      main_call6_c_2, main_call6_v7, main_call6_v8, main_call6_c_3, main_call6_v9, main_call6_v10, main_call6_v11, main_call6_v12, main_call6_v13,
      main_call6_v14, main_v86],
    [main_c_24],
    [main_call7_v0, main_call7_v1, main_v87],
    [main_v88, main_c_25, main_v89, main_v90],
    [main_v91],
    [main_c_26, main_v92, main_v93, main_c_27, main_v94, main_v95, main_v96, main_v97, main_v98],
    [main_v99, main_c_28, main_v100, main_v101],
    [main_v102],
    [main_v103],
    [main_c_29, main_v104, main_v105, main_c_30, main_v106, main_v107, main_v108, main_v109, main_v110, main_cst],
    [main_call10_v0, main_call10_v1, main_v111],
    [main_v112, main_v113, main_v114, main_v115] ]

theorem pieces_writes : (pieces (F := F)).map (fun l => l.map HloOp.writes)
    = writtenBy.map fun l => l.map fun w => {Proc.devRef (τ := τ) .tc w} := rfl

/-- An array that none of some pieces writes is as it was. -/
theorem after_keep (L : List (List (HloOp τ sig (Elt F)))) (W : List (List (Ref sig .tc)))
    (h : L.map (fun l => l.map HloOp.writes) = W.map fun l => l.map fun w => {Proc.devRef (τ := τ) .tc w})
    (U : Valuation τ sig (Elt F)) (b : Ref sig .tc) (hb : b ∉ W.flatten) :
    StableHlo.after L.flatten U (Proc.devRef .tc b) = U (Proc.devRef .tc b) := by
  refine StableHlo.after_unwritten W.flatten ?_ hb U
  rw [List.map_flatten, List.map_flatten, h]

variable (m : (ℓ : Loc nD τ sig) → Buf (Elt F) ℓ)

/-- What a device's arrays hold at the launch: what the host's operations leave. -/
@[irreducible] def V (c : Dev nD) (b : Ref sig .tc) : Buf (Elt F) ((c : Thread nD τ).loc b) :=
  StableHlo.after hostOps.flatten (fun b => m (c, b)) b

theorem V_eq : V m = fun (c : Dev nD) (b : Ref sig .tc) => StableHlo.after hostOps.flatten (fun b => m (c, b)) b := by
  funext c b; unfold V; rfl

/-- What they hold after the first `k` pieces. -/
@[irreducible] def upTo (c : Dev nD) (k : ℕ) : Valuation τ sig (Elt F) :=
  StableHlo.after (pieces.take k).flatten (fun b => m (c, b))

theorem V_upTo (c : Dev nD) (k : ℕ) (b : Ref sig .tc) (hb : b ∉ (writtenBy.drop k).flatten) :
    V m c b = upTo m c k (Proc.devRef .tc b) := by
  rw [V_eq, pieces_eq]
  unfold upTo
  have h := StableHlo.after_append (pieces.take k).flatten (pieces.drop k).flatten (fun b => m (c, b))
  rw [← List.flatten_append, List.take_append_drop] at h
  show StableHlo.after pieces.flatten (fun b => m (c, b)) (Proc.devRef .tc b) = _
  rw [h]
  exact after_keep _ (writtenBy.drop k) (by rw [List.map_drop, List.map_drop, pieces_writes]) _ b hb

theorem upTo_succ (c : Dev nD) (k : ℕ) (p : List (HloOp τ sig (Elt F))) (h : pieces[k]? = some p) :
    upTo m c (k + 1) = StableHlo.after p (upTo m c k) := by
  unfold upTo
  rw [List.take_add_one, h, List.flatten_append, StableHlo.after_append]
  simp

/-- An array that piece `k` writes and no later one. -/
theorem V_piece (c : Dev nD) (k : ℕ) (p : List (HloOp τ sig (Elt F))) (h : pieces[k]? = some p) (b : Ref sig .tc)
    (hb : b ∉ (writtenBy.drop (k + 1)).flatten) : V m c b = StableHlo.after p (upTo m c k) (Proc.devRef .tc b) := by
  rw [V_upTo m c (k + 1) b hb, upTo_succ m c k p h]

/-- The host writes none of the arguments. -/
theorem V_arg (c : Dev nD) (b : Ref sig .tc) (h : b ∉ writtenBy.flatten) : V m c b = m ((c : Thread nD τ).loc b) := by
  rw [V_upTo m c 0 b h]
  unfold upTo
  rfl

end Cert.KernelE.Rows

end
-- ==== Proof.Rows.lean ====
/-
  The row copies of the experts' kernel: one trip row of each of its four copy loops, as lemmas over any row number.
  An issuing row reads a word of a table, checks it and starts a one-row copy; a waiting row reads the word again and
  takes one row's units off the semaphore.
-/
module

public import proofs.«01_k».proof.Proof.Gen.KernelE.Skeleton
public import proofs.«01_k».proof.Proof.Gen.KernelE.Launch
public import Idealize.ShloMosaic.Lib.Batch
public import Idealize.ShloMosaic.Lib.Ring
public import Idealize.ShloMosaic.Lib.Tactic
public import Idealize.ShloMosaic.Lib.Pipeline.FrameValue

@[expose] public section

noncomputable section

namespace Cert.KernelE.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## One row, whatever is copied -/

/-- The copies of one loop on the cell `sm`: `j` issued, `u` units consumed; copy `r` delivers `D r`, and credits `N`. -/
abbrev batch (c : Dev nD) (sm : SemLoc sig) (N : ℕ) (D : Fin 512 → sProp 𝕄) (j u : ℕ) : sProp 𝕄 :=
  Transfers.Batch (countersEmb (U := Pipeline.UD sig nD τ)) (c : Thread nD τ) sm () N D j u

/-- Before row `j` of an issuing loop: `j` copies issued, what copies `j`, … need still in hand, and the table of words. -/
def issued (c : Dev nD) (sm : SemLoc sig) (N : ℕ) (P D : Fin 512 → sProp 𝕄) (T : sProp 𝕄) (j : ℕ) : sProp 𝕄 :=
  iprop(batch c sm N D j 0 ∗ bigSep (Ring.rangeSet 512 j 512) P ∗ T)

/-- Before row `j` of a waiting loop: `j` rows' units consumed, or, after the last, every delivery and the cell at zero. -/
def waited (c : Dev nD) (sm : SemLoc sig) (N : ℕ) (D : Fin 512 → sProp 𝕄) (T : sProp 𝕄) (j : ℕ) : sProp 𝕄 :=
  iprop((∃ W, owes (c : Thread nD τ) 0 W) ∗ T
    ∗ (if j < 512 then batch c sm N D 512 (j * N) else iprop(semVal ((c : Thread nD τ), sm) 0 ∗ bigSep Finset.univ D)))

/-- The table of words `arg`, held at any share. -/
abbrev words (c : Dev nD) (arg : Memref sig .tc .smem S1x1x512 .i32) (q : PosShare TreeShare) (f : Buf (Elt F) (arg.view.loc (c : Thread nD τ))) : sProp 𝕄 :=
  arg.view.loc (c : Thread nD τ) ↦[arg.view.set]{q} f

/-- ONE ISSUING ROW: the word read is `w`, its check holds, what copy `j` needs is the two ends, and what the copy
    hands back is `D j`. -/
theorem issue_row (c : Dev nD) {sm : SemLoc sig} {N : ℕ} {P D : Fin 512 → sProp 𝕄} {spS spD : Space}
    {arg : Memref sig .tc .smem S1x1x512 .i32} {q4 : PosShare TreeShare} {f4 : Buf (Elt F) (arg.view.loc (c : Thread nD τ))}
    {r : Rect S1x1x512} {hl : (arg.access r).Loads} {x : r.shape.Idx}
    {chk : BitVec 32 → Prop} {dec : ∀ w, Decidable (chk w)}
    {src : ∀ w, chk w → Memref sig .tc spS S1x2048 .f32} {dst : ∀ w, chk w → Memref sig .tc spD S1x2048 .f32}
    {hsrc : ∀ w h, (src w h).view.WordExact} {hdst : ∀ w h, (dst w h).view.WordExact}
    {hsem : ∀ w h, DmaTarget.Typed spS sm (DmaTarget.here (nD := nD) (τ := τ) (p := .tc) (dst w h))}
    {k : PUnit → Prog (TpuEff nD τ sig (Elt F) Λ₀ .tc) PUnit} {Q : PUnit → sProp 𝕄} {j : ℕ} (hj : j < 512)
    (w : BitVec 32) (hw : (arg.access r).read (Elt F) f4 x = w) (hc : chk w)
    {q : PosShare TreeShare} {fs : Buf (Elt F) ((src w hc).view.loc (c : Thread nD τ))} {fd : Buf (Elt F) ((dst w hc).view.loc (c : Thread nD τ))}
    (hN : (dst w hc).view.amount sm = N)
    (hP : P ⟨j, hj⟩ ⊢ iprop(((src w hc).view.loc (c : Thread nD τ) ↦[(src w hc).view.set]{q} fs)
      ∗ ((dst w hc).view.loc (c : Thread nD τ) ↦[(dst w hc).view.set]{fullShare} fd)))
    (hD : iprop(((dst w hc).view.loc (c : Thread nD τ) ↦[(dst w hc).view.set]{fullShare}
          ((dst w hc).view.write (Elt F) fd (ReadAs.same.apply ((src w hc).view.read (Elt F) fs)) Finset.univ))
        ∗ ((src w hc).view.loc (c : Thread nD τ) ↦[(src w hc).view.set]{q} fs)) ⊢ D ⟨j, hj⟩)
    (hk : issued c sm N P D (words c arg q4 f4) (j + 1) ⊢ wp frame (wpE (defs₀ (F := F)) Variants.none (c : Thread nD τ) none) Set.univ (k ⟨⟩) Q) :
    issued c sm N P D (words c arg q4 f4) j ⊢ wp frame (wpE (defs₀ (F := F)) Variants.none (c : Thread nD τ) none) Set.univ
      (.op (.load arg r (View.loadsAt_rect hl)) fun f => .op (.assume (chk (f x)) (dec (f x))) fun h =>
        .op (.enqueueDmaAs (src (f x) h.down) (.here (dst (f x) h.down)) .same sm (hsrc _ _) (hdst _ _) (hsem _ _)) k) Q := by
  unfold issued words
  rw [Ring.bigSep_rangeSet_head hj hj]
  iintro ⟨HB, ⟨HP, HR⟩, HT⟩
  iapply (wp_load_rect Variants.none (c : Thread nD τ) none Set.univ (m := arg) (r := r) (q := q4) (f := f4) (S := arg.view.set) (View.set_slice_subset _ _)) $$ HT
  iintro HT
  subst hw
  iapply (wp_assume Variants.none (c : Thread nD τ) none Set.univ hc)
  ihave HP' := hP $$ HP
  icases HP' with ⟨Hs, Hd⟩
  iapply (Transfers.wp_dmaBatch (countersEmb (U := Pipeline.UD sig nD τ)) Variants.none (c : Thread nD τ) none () N hN (Finset.Subset.refl _) hj (Nat.zero_le _) hD) $$ [Hs Hd HB]
  · isplitl [Hs]; · iexact Hs
    isplitl [Hd]; · iexact Hd
    iexact HB
  iintro HB
  iapply hk
  unfold issued
  isplitl [HB]; · iexact HB
  isplitl [HR]; · iexact HR
  iexact HT

/-- ONE WAITING ROW: the word read is `w` and its check holds. -/
theorem wait_row (c : Dev nD) {sem : DmaSem sig} {N : ℕ} {D : Fin 512 → sProp 𝕄} {spS spD : Space}
    {arg : Memref sig .tc .smem S1x1x512 .i32} {q4 : PosShare TreeShare} {f4 : Buf (Elt F) (arg.view.loc (c : Thread nD τ))}
    {r : Rect S1x1x512} {hl : (arg.access r).Loads} {x : r.shape.Idx}
    {chk : BitVec 32 → Prop} {dec : ∀ w, Decidable (chk w)}
    {src : ∀ w, chk w → Memref sig .tc spS S1x2048 .f32} {dst : ∀ w, chk w → Memref sig .tc spD S1x2048 .f32}
    {hsrc : ∀ w h, (src w h).view.WordExact} {hdst : ∀ w h, (dst w h).view.WordExact}
    {k : PUnit → Prog (TpuEff nD τ sig (Elt F) Λ₀ .tc) PUnit} {Q : PUnit → sProp 𝕄} {j : ℕ} (hj : j < 512)
    (w : BitVec 32) (hw : (arg.access r).read (Elt F) f4 x = w) (hc : chk w)
    (hN : (dst w hc).view.dmaCredit = N) (hN0 : 0 < N)
    (hk : waited c (.dma sem) N D (words c arg q4 f4) (j + 1) ⊢ wp frame (wpE (defs₀ (F := F)) Variants.none (c : Thread nD τ) none) Set.univ (k ⟨⟩) Q) :
    waited c (.dma sem) N D (words c arg q4 f4) j ⊢ wp frame (wpE (defs₀ (F := F)) Variants.none (c : Thread nD τ) none) Set.univ
      (.op (.load arg r (View.loadsAt_rect hl)) fun f => .op (.assume (chk (f x)) (dec (f x))) fun h =>
        .op (.waitDma2 sem (src (f x) h.down) (dst (f x) h.down) (hsrc _ _) (hdst _ _)) k) Q := by
  unfold waited words
  rw [if_pos hj]
  iintro ⟨⟨%W, HO⟩, HT, HB⟩
  iapply (wp_load_rect Variants.none (c : Thread nD τ) none Set.univ (m := arg) (r := r) (q := q4) (f := f4) (S := arg.view.set) (View.set_slice_subset _ _)) $$ HT
  iintro HT
  subst hw
  iapply (wp_assume Variants.none (c : Thread nD τ) none Set.univ hc)
  rcases Nat.lt_or_ge (j + 1) 512 with h1 | h1
  · iapply (Transfers.wp_waitBatch (countersEmb (U := Pipeline.UD sig nD τ)) Variants.none (c : Thread nD τ) none () hN
      (show j * N + N < N * 512 by rw [← Nat.succ_mul, Nat.mul_comm N]; exact Nat.mul_lt_mul_of_pos_right h1 hN0)) $$ [HB HO]
    · isplitl [HB]; · iexact HB
      iexact HO
    iintro ⟨HB, HO⟩
    iapply hk
    unfold waited
    rw [if_pos h1]
    isplitl [HO]; · iexists _; iexact HO
    isplitl [HT]; · iexact HT
    rw [show (j + 1) * N = j * N + N from Nat.succ_mul j N]; iexact HB
  · iapply (Transfers.wp_waitBatchLast (countersEmb (U := Pipeline.UD sig nD τ)) Variants.none (c : Thread nD τ) none () hN hN0
      (show j * N + N = N * 512 by rw [← Nat.succ_mul, Nat.mul_comm N, show Nat.succ j = 512 by omega])) $$ [HB HO]
    · isplitl [HB]; · iexact HB
      iexact HO
    iintro ⟨HD, Hc, HO⟩
    iapply hk
    unfold waited
    rw [if_neg (by omega)]
    isplitl [HO]; · iexists _; iexact HO
    isplitl [HT]; · iexact HT
    isplitl [Hc]; · iexact Hc
    iexact HD

/-! ## Rows of a buffer -/

/-- The elements of row `j` of an array of rows of 2048. -/
def row {n : ℕ} (j : ℕ) : Finset (Shape.Idx ⟨2, ![n, 2048]⟩) := Finset.univ.filter fun y => (y 0).val = j

theorem mem_row {n : ℕ} (j : ℕ) (y : Shape.Idx ⟨2, ![n, 2048]⟩) : y ∈ row (n := n) j ↔ (y 0).val = j := by
  unfold row; simp

theorem row_eq {n : ℕ} (j : ℕ) (h : ∀ a, (![j, 0] : Fin 2 → ℕ) a + S1x2048.size a ≤ (⟨2, ![n, 2048]⟩ : Shape).size a) :
    (Rect.unit (s := ⟨2, ![n, 2048]⟩) ![j, 0] S1x2048.size h).set = row j := by
  ext y
  rw [Rect.mem_set_unit, mem_row]
  have h1 : (y 1).val < 2048 := (y 1).isLt
  constructor
  · intro H; have a0 : j ≤ (y 0).val ∧ (y 0).val < j + 1 := H 0; omega
  · intro H a; fin_cases a
    · show j ≤ (y 0).val ∧ (y 0).val < j + 1; omega
    · show 0 ≤ (y 1).val ∧ (y 1).val < 0 + 2048; omega

theorem row_disjoint {n : ℕ} {i j : ℕ} (h : i ≠ j) : Disjoint (row (n := n) i) (row (n := n) j) := by
  rw [Finset.disjoint_left]; intro y hy hy'; rw [mem_row] at hy hy'; omega

/-! ## The words of a table, the rows gathered and scattered -/

/-- The index of word `j` of a table of 512. -/
def wix (j : Fin 512) : S1x1x512.Idx := fun a => match a with
  | 0 => (0 : Fin 1)
  | 1 => (0 : Fin 1)
  | 2 => j
/-- Row `j`, column `k` of an array of rows of 2048. -/
def rix {n : ℕ} (j : Fin n) (k : Fin 2048) : Shape.Idx ⟨2, ![n, 2048]⟩ := fun a => match a with
  | 0 => j
  | 1 => k

/-- The `j`-th word of a table. -/
def word (d : S1x1x512.Idx → BitVec 32) (j : Fin 512) : BitVec 32 := d (wix j)

/-- A one-word read at offset `j` is the table's `j`-th word. -/
theorem read_word {c : Dev nD} {arg : Memref sig .tc .smem S1x1x512 .i32} {f4 : Buf (Elt F) (arg.view.loc (c : Thread nD τ))}
    {o : Fin 3 → ℕ} {h : ∀ a, o a + S1x1x1.size a ≤ S1x1x512.size a} {x : (Rect.unit (s := S1x1x512) o S1x1x1.size h).shape.Idx}
    {j : ℕ} (hj : j < 512) (ho : o = ![0, 0, j]) :
    (arg.access (Rect.unit (s := S1x1x512) o S1x1x1.size h)).read (Elt F) f4 x = word (arg.view.read (Elt F) f4) ⟨j, hj⟩ := by
  subst ho
  show arg.view.read (Elt F) f4 ((Rect.unit (s := S1x1x512) ![0, 0, j] S1x1x1.size h).idx x) = arg.view.read (Elt F) f4 (wix ⟨j, hj⟩)
  congr 1
  funext a
  apply Fin.ext
  have hx : (x a).val < 1 := lt_of_lt_of_eq (x a).isLt (by fin_cases a <;> rfl)
  fin_cases a
  · show 0 + 1 * (x 0).val = 0; have : (x 0).val < 1 := hx; omega
  · show 0 + 1 * (x 1).val = 0; have : (x 1).val < 1 := hx; omega
  · show j + 1 * (x 2).val = j; have : (x 2).val < 1 := hx; omega

/-- An element of a one-row slice is the row's at its column. -/
theorem row_idx {n j : ℕ} (hj : j < n) (h : ∀ a, (![j, 0] : Fin 2 → ℕ) a + S1x2048.size a ≤ (⟨2, ![n, 2048]⟩ : Shape).size a)
    (z : (Rect.unit (s := ⟨2, ![n, 2048]⟩) ![j, 0] S1x2048.size h).shape.Idx) :
    (Rect.unit (s := ⟨2, ![n, 2048]⟩) ![j, 0] S1x2048.size h).idx z = rix ⟨j, hj⟩ (z 1) := by
  funext a
  apply Fin.ext
  fin_cases a
  · show j + 1 * (z 0).val = j; have : (z 0).val < 1 := (z 0).isLt; omega
  · show 0 + 1 * (z 1).val = (z 1).val; omega

/-- and every element of the row is one. -/
theorem exists_row_idx {n j : ℕ} (h : ∀ a, (![j, 0] : Fin 2 → ℕ) a + S1x2048.size a ≤ (⟨2, ![n, 2048]⟩ : Shape).size a)
    (y : Shape.Idx ⟨2, ![n, 2048]⟩) (hy : y ∈ row (n := n) j) :
    ∃ z : S1x2048.Idx, z 1 = y 1 ∧ (Rect.unit (s := ⟨2, ![n, 2048]⟩) ![j, 0] S1x2048.size h).idx z = y := by
  rw [mem_row] at hy
  have hj : j < n := hy ▸ (y 0).isLt
  refine ⟨rix (n := 1) 0 (y 1), rfl, ?_⟩
  rw [row_idx hj]
  funext a
  apply Fin.ext
  fin_cases a
  · exact hy.symm
  · rfl

/-- The units one row credits. -/
abbrev NN : ℕ := ((Memref.whole cc0_scratch0).slice (Rect.unit (s := S512x2048) ![0, 0] S1x2048.size (by decide)) (fun _ => rfl) : Memref sig .tc .vmem S1x2048 .f32).view.dmaCredit

abbrev xgRow (o : Fin 2 → ℕ) (h : ∀ a, o a + S1x2048.size a ≤ S512x2048.size a) : Memref sig .tc .vmem S1x2048 .f32 :=
  (Memref.whole cc0_scratch0).slice (Rect.unit (s := S512x2048) o S1x2048.size h) (fun _ => rfl)
abbrev hRow (o : Fin 2 → ℕ) (h : ∀ a, o a + S1x2048.size a ≤ S8704x2048.size a) : Memref sig .tc .hbm S1x2048 .f32 :=
  (Memref.whole main_arg2).slice (Rect.unit (s := S8704x2048) o S1x2048.size h) (fun _ => rfl)
abbrev yRow (o : Fin 2 → ℕ) (h : ∀ a, o a + S1x2048.size a ≤ S21504x2048.size a) : Memref sig .tc .hbm S1x2048 .f32 :=
  (Memref.whole main_v116).slice (Rect.unit (s := S21504x2048) o S1x2048.size h) (fun _ => rfl)

/-- Some elements of the activations, of the gathered tile and of the result, held at a share. -/
abbrev hPt (c : Dev nD) (I : Finset S8704x2048.Idx) (q : PosShare TreeShare) (f : S8704x2048.Idx → Elt F .f32) : sProp 𝕄 :=
  ((c : Thread nD τ).loc main_arg2) ↦[I]{q} f
abbrev xPt (c : Dev nD) (I : Finset S512x2048.Idx) (f : S512x2048.Idx → Elt F .f32) : sProp 𝕄 :=
  ((c : Thread nD τ).loc cc0_scratch0) ↦[I]{fullShare} f
abbrev yPt (c : Dev nD) (I : Finset S21504x2048.Idx) (f : S21504x2048.Idx → Elt F .f32) : sProp 𝕄 :=
  ((c : Thread nD τ).loc main_v116) ↦[I]{fullShare} f

variable (c : Dev nD) (d : S1x1x512.Idx → BitVec 32)

/-- The tile gathered: row `r` is the activations' row named by word `r`. -/
def gath (fh : S8704x2048.Idx → Elt F .f32) : S512x2048.Idx → Elt F .f32 :=
  fun y => fh (rix ⟨(word d (y 0)).toNat % 8704, Nat.mod_lt _ (by decide)⟩ (y 1))

/-- What the copy into row `r` needs: the activations' row under read token `r`, the tile's row. -/
def inP (fh : S8704x2048.Idx → Elt F .f32) (fx : S512x2048.Idx → Elt F .f32) (r : Fin 512) : sProp 𝕄 :=
  iprop(hPt c (row (word d r).toNat) (Transfers.shareTok fullShare 512 r) fh ∗ xPt c (row r.val) fx)
/-- What it delivers: the token back, the tile's row gathered. -/
def inD (fh : S8704x2048.Idx → Elt F .f32) (r : Fin 512) : sProp 𝕄 :=
  iprop(hPt c (row (word d r).toNat) (Transfers.shareTok fullShare 512 r) fh ∗ xPt c (row r.val) (gath d fh))
instance inD_storable (fh : S8704x2048.Idx → Elt F .f32) (r : Fin 512) : BI.Storable (upEmb : UEmb _ 𝕄) (inD c d fh r) := by
  unfold inD; infer_instance

/-- What the copy out of row `r` needs: the tile's row, the result's row named by word `r`. -/
def outP (fx : S512x2048.Idx → Elt F .f32) (fy : S21504x2048.Idx → Elt F .f32) (r : Fin 512) : sProp 𝕄 :=
  iprop(xPt c (row r.val) fx ∗ yPt c (row (word d r).toNat) fy)

/-- A row copied is the source's row: contents `g` that hold the source's row `i` at row `j` are what landing it leaves there. -/
theorem landed_x {fh : S8704x2048.Idx → Elt F .f32} {fx g : S512x2048.Idx → Elt F .f32} {i j : ℕ} (hi : i < 8704) (hj : j < 512)
    (hI : ∀ a, (![i, 0] : Fin 2 → ℕ) a + S1x2048.size a ≤ S8704x2048.size a) (hJ : ∀ a, (![j, 0] : Fin 2 → ℕ) a + S1x2048.size a ≤ S512x2048.size a)
    (hg : ∀ k, g (rix ⟨j, hj⟩ k) = fh (rix ⟨i, hi⟩ k)) (y : S512x2048.Idx) (hy : y ∈ row (n := 512) j) :
    (xgRow ![j, 0] hJ).view.write (Elt F) fx (ReadAs.same.apply ((hRow ![i, 0] hI).view.read (Elt F) fh)) Finset.univ y = g y := by
  obtain ⟨z, hz, rfl⟩ := exists_row_idx hJ y hy
  refine ((xgRow ![j, 0] hJ).view.write_emb_of_mem fx _ (x := z) (Finset.mem_univ _)).trans ?_
  show fh ((Rect.unit (s := S8704x2048) ![i, 0] S1x2048.size hI).idx z) = _
  rw [row_idx hi, row_idx hj]
  exact (hg _).symm

theorem landed_y {fx : S512x2048.Idx → Elt F .f32} {fy g : S21504x2048.Idx → Elt F .f32} {i j : ℕ} (hi : i < 512) (hj : j < 21504)
    (hI : ∀ a, (![i, 0] : Fin 2 → ℕ) a + S1x2048.size a ≤ S512x2048.size a) (hJ : ∀ a, (![j, 0] : Fin 2 → ℕ) a + S1x2048.size a ≤ S21504x2048.size a)
    (hg : ∀ k, g (rix ⟨j, hj⟩ k) = fx (rix ⟨i, hi⟩ k)) (y : S21504x2048.Idx) (hy : y ∈ row (n := 21504) j) :
    (yRow ![j, 0] hJ).view.write (Elt F) fy (ReadAs.same.apply ((xgRow ![i, 0] hI).view.read (Elt F) fx)) Finset.univ y = g y := by
  obtain ⟨z, hz, rfl⟩ := exists_row_idx hJ y hy
  refine ((yRow ![j, 0] hJ).view.write_emb_of_mem fy _ (x := z) (Finset.mem_univ _)).trans ?_
  show fx ((Rect.unit (s := S512x2048) ![i, 0] S1x2048.size hI).idx z) = _
  rw [row_idx hi, row_idx hj]
  exact (hg _).symm

theorem xset (j : ℕ) (h) : (xgRow ![j, 0] h).view.set = row j := (View.set_slice_whole _ _).trans (row_eq j h)
theorem hset (j : ℕ) (h) : (hRow ![j, 0] h).view.set = row j := (View.set_slice_whole _ _).trans (row_eq j h)
theorem yset (j : ℕ) (h) : (yRow ![j, 0] h).view.set = row j := (View.set_slice_whole _ _).trans (row_eq j h)

/-! ## A row of each loop -/

/-- The units one row of the tile, and one of the result, credits. -/
abbrev NX : ℕ := (xgRow ![0, 0] (by decide)).view.dmaCredit
abbrev NY : ℕ := (yRow ![0, 0] (by decide)).view.dmaCredit

abbrev WP (c : Dev nD) (p : Prog (TpuEff nD τ sig (Elt F) Λ₀ .tc) PUnit) (Q : PUnit.{1} → sProp 𝕄) : sProp 𝕄 :=
  wp frame (wpE (defs₀ (F := F)) Variants.none (c : Thread nD τ) none) Set.univ p Q

/-- The same at an offset that is a row's. -/
theorem hset' {o : Fin 2 → ℕ} {j : ℕ} (e : o = ![j, 0]) (h) : (hRow o h).view.set = row j := by subst e; exact hset j h
theorem yset' {o : Fin 2 → ℕ} {j : ℕ} (e : o = ![j, 0]) (h) : (yRow o h).view.set = row j := by subst e; exact yset j h

theorem landed_x' {o : Fin 2 → ℕ} {fh : S8704x2048.Idx → Elt F .f32} {fx g : S512x2048.Idx → Elt F .f32} {i j : ℕ} (e : o = ![i, 0]) (hi : i < 8704) (hj : j < 512)
    (hI : ∀ a, o a + S1x2048.size a ≤ S8704x2048.size a) (hJ : ∀ a, (![j, 0] : Fin 2 → ℕ) a + S1x2048.size a ≤ S512x2048.size a)
    (hg : ∀ k, g (rix ⟨j, hj⟩ k) = fh (rix ⟨i, hi⟩ k)) (y : S512x2048.Idx) (hy : y ∈ row (n := 512) j) :
    (xgRow ![j, 0] hJ).view.write (Elt F) fx (ReadAs.same.apply ((hRow o hI).view.read (Elt F) fh)) Finset.univ y = g y := by
  subst e; exact landed_x hi hj hI hJ hg y hy

theorem landed_y' {o : Fin 2 → ℕ} {fx : S512x2048.Idx → Elt F .f32} {fy g : S21504x2048.Idx → Elt F .f32} {i j : ℕ} (e : o = ![j, 0]) (hi : i < 512) (hj : j < 21504)
    (hI : ∀ a, (![i, 0] : Fin 2 → ℕ) a + S1x2048.size a ≤ S512x2048.size a) (hJ : ∀ a, o a + S1x2048.size a ≤ S21504x2048.size a)
    (hg : ∀ k, g (rix ⟨j, hj⟩ k) = fx (rix ⟨i, hi⟩ k)) (y : S21504x2048.Idx) (hy : y ∈ row (n := 21504) j) :
    (yRow o hJ).view.write (Elt F) fy (ReadAs.same.apply ((xgRow ![i, 0] hI).view.read (Elt F) fx)) Finset.univ y = g y := by
  subst e; exact landed_y hi hj hI hJ hg y hy

variable {c} {d} {arg : Memref sig .tc .smem S1x1x512 .i32} {q4 : PosShare TreeShare} {f4 : Buf (Elt F) (arg.view.loc (c : Thread nD τ))}
  (hd : arg.view.read (Elt F) f4 = d)
  {oS : Fin 3 → ℕ} {hS : ∀ a, oS a + S1x1x1.size a ≤ S1x1x512.size a} {x : (Rect.unit (s := S1x1x512) oS S1x1x1.size hS).shape.Idx}
  {hl : (arg.access (Rect.unit (s := S1x1x512) oS S1x1x1.size hS)).Loads}
  {chk : BitVec 32 → Prop} {dec : ∀ w, Decidable (chk w)}
  {oX : Fin 2 → ℕ} {hX : ∀ a, oX a + S1x2048.size a ≤ S512x2048.size a}
  {oW : BitVec 32 → Fin 2 → ℕ} {k : PUnit → Prog (TpuEff nD τ sig (Elt F) Λ₀ .tc) PUnit}
  {j : ℕ} (hj : j < 512) (eS : oS = ![0, 0, j]) (eX : oX = ![j, 0]) (eW : ∀ w, oW w = ![w.toNat, 0])

set_option maxHeartbeats 1000000 in
include hd eS eX eW in
/-- Issuing the copy into row `j` of the tile. -/
theorem issue_in {hH : ∀ w, chk w → ∀ a, oW w a + S1x2048.size a ≤ S8704x2048.size a}
    {hsrc : ∀ w h, (hRow (oW w) (hH w h)).view.WordExact} {hdst : (xgRow oX hX).view.WordExact}
    {hsem : DmaTarget.Typed .hbm (.dma cc0_scratch3.sem) (DmaTarget.here (nD := nD) (τ := τ) (p := .tc) (xgRow oX hX))}
    {fh : S8704x2048.Idx → Elt F .f32} {fx : S512x2048.Idx → Elt F .f32} {Q : PUnit → sProp 𝕄}
    (hw : (word d ⟨j, hj⟩).toNat < 8704) (hc : ∀ w : BitVec 32, w.toNat < 8704 → chk w)
    (hk : issued c (.dma cc0_scratch3.sem) NX (inP c d fh fx) (inD c d fh) (words c arg q4 f4) (j + 1) ⊢ WP c (k ⟨⟩) Q) :
    issued c (.dma cc0_scratch3.sem) NX (inP c d fh fx) (inD c d fh) (words c arg q4 f4) j ⊢ WP c
      (.op (.load arg (Rect.unit (s := S1x1x512) oS S1x1x1.size hS) (View.loadsAt_rect hl)) fun f => .op (.assume (chk (f x)) (dec (f x))) fun h =>
        .op (.enqueueDmaAs (hRow (oW (f x)) (hH (f x) h.down)) (.here (xgRow oX hX)) .same (.dma cc0_scratch3.sem) (hsrc _ h.down) hdst hsem) k) Q := by
  subst eX
  have e := eW (word d ⟨j, hj⟩)
  refine issue_row (hl := hl) (src := fun w h => hRow (oW w) (hH w h)) (dst := fun _ _ => xgRow ![j, 0] hX) (hsrc := hsrc) (hdst := fun _ _ => hdst) (hsem := fun _ _ => hsem) (fs := fh) (fd := fx)
    (q := Transfers.shareTok fullShare 512 ⟨j, hj⟩) c hj (word d ⟨j, hj⟩) ((read_word hj eS).trans (by rw [hd])) (hc _ hw) rfl ?_ ?_ hk
  · unfold inP
    rw [hset' e, xset]
  · unfold inD
    rw [hset' e, xset]
    rw [pointsTo_congr (landed_x' (g := gath d fh) e hw hj _ hX fun k => by
      unfold gath; congr 2; exact Fin.ext (Nat.mod_eq_of_lt hw))]
    iintro ⟨H1, H2⟩
    isplitl [H2]; · iexact H2
    iexact H1

set_option maxHeartbeats 1000000 in
include hd eS in
/-- Waiting for the copy into row `j` of the tile. -/
theorem wait_in {hH : ∀ w, chk w → ∀ a, oW w a + S1x2048.size a ≤ S8704x2048.size a}
    {hsrc : ∀ w h, (hRow (oW w) (hH w h)).view.WordExact} {hdst : (xgRow oX hX).view.WordExact}
    {D : Fin 512 → sProp 𝕄} {Q : PUnit → sProp 𝕄}
    (hw : (word d ⟨j, hj⟩).toNat < 8704) (hc : ∀ w : BitVec 32, w.toNat < 8704 → chk w)
    (hk : waited c (.dma cc0_scratch3.sem) NX D (words c arg q4 f4) (j + 1) ⊢ WP c (k ⟨⟩) Q) :
    waited c (.dma cc0_scratch3.sem) NX D (words c arg q4 f4) j ⊢ WP c
      (.op (.load arg (Rect.unit (s := S1x1x512) oS S1x1x1.size hS) (View.loadsAt_rect hl)) fun f => .op (.assume (chk (f x)) (dec (f x))) fun h =>
        .op (.waitDma2 cc0_scratch3.sem (hRow (oW (f x)) (hH (f x) h.down)) (xgRow oX hX) (hsrc _ h.down) hdst) k) Q :=
  wait_row (hl := hl) (src := fun w h => hRow (oW w) (hH w h)) (dst := fun _ _ => xgRow oX hX) (hsrc := hsrc) (hdst := fun _ _ => hdst)
    c hj (word d ⟨j, hj⟩) ((read_word hj eS).trans (by rw [hd])) (hc _ hw) rfl (by decide) hk

/-- What the copy out of row `r` delivers: the tile's row back, and the result's row named by word `r` with the
    contents `fy`. -/
def outD (c : Dev nD) (d : S1x1x512.Idx → BitVec 32) (fx : S512x2048.Idx → Elt F .f32) (fy : S21504x2048.Idx → Elt F .f32) (r : Fin 512) : sProp 𝕄 :=
  iprop(xPt c (row r.val) fx ∗ yPt c (row (word d r).toNat) fy)
instance outD_storable (fx : S512x2048.Idx → Elt F .f32) (fy : S21504x2048.Idx → Elt F .f32) (r : Fin 512) :
    BI.Storable (upEmb : UEmb _ 𝕄) (outD c d fx fy r) := by
  unfold outD; infer_instance

set_option maxHeartbeats 1000000 in
include hd eS eX eW in
/-- Issuing the copy out of row `j` of the tile. -/
theorem issue_out {hH : ∀ w, chk w → ∀ a, oW w a + S1x2048.size a ≤ S21504x2048.size a}
    {hdst : ∀ w h, (DmaTarget.here (nD := nD) (τ := τ) (p := .tc) (yRow (oW w) (hH w h))).view.WordExact} {hsrc : (xgRow oX hX).view.WordExact}
    {hsem : ∀ w h, DmaTarget.Typed .vmem (.dma cc0_scratch4.sem) (DmaTarget.here (nD := nD) (τ := τ) (p := .tc) (yRow (oW w) (hH w h)))}
    {fx : S512x2048.Idx → Elt F .f32} {fy fy' : S21504x2048.Idx → Elt F .f32} {Q : PUnit → sProp 𝕄}
    (hw : (word d ⟨j, hj⟩).toNat < 21504) (hc : ∀ w : BitVec 32, w.toNat < 21504 → chk w)
    (hy : ∀ k, fy' (rix ⟨(word d ⟨j, hj⟩).toNat, hw⟩ k) = fx (rix ⟨j, hj⟩ k))
    (hk : issued c (.dma cc0_scratch4.sem) NY (outP c d fx fy) (outD c d fx fy') (words c arg q4 f4) (j + 1) ⊢ WP c (k ⟨⟩) Q) :
    issued c (.dma cc0_scratch4.sem) NY (outP c d fx fy) (outD c d fx fy') (words c arg q4 f4) j ⊢ WP c
      (.op (.load arg (Rect.unit (s := S1x1x512) oS S1x1x1.size hS) (View.loadsAt_rect hl)) fun f => .op (.assume (chk (f x)) (dec (f x))) fun h =>
        .op (.enqueueDmaAs (xgRow oX hX) (.here (yRow (oW (f x)) (hH (f x) h.down))) .same (.dma cc0_scratch4.sem) hsrc (hdst (f x) h.down) (hsem (f x) h.down)) k) Q := by
  subst eX
  have e := eW (word d ⟨j, hj⟩)
  refine issue_row (hl := hl) (src := fun _ _ => xgRow ![j, 0] hX) (dst := fun w h => yRow (oW w) (hH w h)) (hsrc := fun _ _ => hsrc) (hdst := hdst) (hsem := hsem) (fs := fx) (fd := fy)
    (q := fullShare) c hj (word d ⟨j, hj⟩) ((read_word hj eS).trans (by rw [hd])) (hc _ hw) rfl ?_ ?_ hk
  · unfold outP
    rw [yset' e, xset]
  · unfold outD
    rw [yset' e, xset]
    rw [pointsTo_congr (landed_y' e hj hw hX _ hy)]
    iintro ⟨H1, H2⟩
    isplitl [H2]; · iexact H2
    iexact H1

set_option maxHeartbeats 1000000 in
include hd eS in
/-- Waiting for the copy out of row `j` of the tile. -/
theorem wait_out {hH : ∀ w, chk w → ∀ a, oW w a + S1x2048.size a ≤ S21504x2048.size a}
    {hdst : ∀ w h, (yRow (oW w) (hH w h)).view.WordExact} {hsrc : (xgRow oX hX).view.WordExact}
    {D : Fin 512 → sProp 𝕄} {Q : PUnit → sProp 𝕄}
    (hw : (word d ⟨j, hj⟩).toNat < 21504) (hc : ∀ w : BitVec 32, w.toNat < 21504 → chk w)
    (hk : waited c (.dma cc0_scratch4.sem) NY D (words c arg q4 f4) (j + 1) ⊢ WP c (k ⟨⟩) Q) :
    waited c (.dma cc0_scratch4.sem) NY D (words c arg q4 f4) j ⊢ WP c
      (.op (.load arg (Rect.unit (s := S1x1x512) oS S1x1x1.size hS) (View.loadsAt_rect hl)) fun f => .op (.assume (chk (f x)) (dec (f x))) fun h =>
        .op (.waitDma2 cc0_scratch4.sem (xgRow oX hX) (yRow (oW (f x)) (hH (f x) h.down)) hsrc (hdst _ h.down)) k) Q :=
  wait_row (hl := hl) (src := fun _ _ => xgRow oX hX) (dst := fun w h => yRow (oW w) (hH w h)) (hsrc := fun _ _ => hsrc) (hdst := hdst)
    c hj (word d ⟨j, hj⟩) ((read_word hj eS).trans (by rw [hd])) (hc _ hw) rfl (by decide) hk

end Cert.KernelE.Rows

end
-- ==== Proof.Trips.lean ====
/-
  The trips of the four copy loops of the experts' kernel: each is eight rows of `Rows`.
-/
module

public import proofs.«01_k».proof.Proof.Rows

@[expose] public section

noncomputable section

namespace Cert.KernelE.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Gen

variable {F : FTy → Type} [FloatOps F]

local notation "𝕄" => MT nD τ sig Unit (Elt F) ℕ (Pipeline.UD sig nD τ) ℕ

variable {c : Dev nD} {d : S1x1x512.Idx → BitVec 32} {q4 : PosShare TreeShare} {i : grid0.Coords}
  {arg2 : Memref sig .tc .smem S42 .i32} {harg2 : arg2.IsWhole} {arg3 : Memref sig .tc .smem S1 .i32} {harg3 : arg3.IsWhole} {arg4 : Memref sig .tc .smem S1x1x512 .i32} {harg4 : arg4.IsWhole} {arg5 : Memref sig .tc .smem S1x1x512 .i32} {harg5 : arg5.IsWhole} {arg6 : Memref sig .tc .vmem S512x1 .f32} {harg6 : arg6.IsWhole} {arg8 : Memref sig .tc .vmem S1x1x2048x512 .f32} {harg8 : arg8.IsWhole} {arg9 : Memref sig .tc .vmem S1x1x2048x512 .f32} {harg9 : arg9.IsWhole} {arg10 : Memref sig .tc .vmem S1x1x512x2048 .f32} {harg10 : arg10.IsWhole} {arg13 : Memref sig .tc .vmem S512x2048 .bf16} {harg13 : arg13.IsWhole} {arg14 : Memref sig .tc .vmem S512x2048 .f32} {harg14 : arg14.IsWhole}

/-- A trip ends at what it has. -/
theorem done {P : sProp 𝕄} (u : PUnit) : P ⊢ WP (F := F) c (.ret u) (fun _ => P) := by
  unfold WP; rw [wp_ret]; iintro H; imodintro; iexact H

set_option maxRecDepth 100000 in
set_option maxHeartbeats 4000000 in
/-- One trip of the loop that gathers: eight rows more are issued. -/
theorem trip1 {f4 : Buf (Elt F) (arg4.view.loc (c : Thread nD τ))} (hd : arg4.view.read (Elt F) f4 = d)
    (hw : ∀ r, (word d r).toNat < 8704) {v0 : BitVec 32} (h1 : k0_cond1 i v0 = 1#1)
    {fh : S8704x2048.Idx → Elt F .f32} {fx : S512x2048.Idx → Elt F .f32} (k : Fin k0_t1_loop.trips) (acc : Unit) :
    issued c (.dma cc0_scratch3.sem) NX (inP c d fh fx) (inD c d fh) (words c arg4 q4 f4) (8 * k) ⊢
      WP c (k0_t1_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 v0 h1 k acc)
        (fun _ => issued c (.dma cc0_scratch3.sem) NX (inP c d fh fx) (inD c d fh) (words c arg4 q4 f4) (8 * (k + 1))) := by
  have hk : k.val < 64 := k.isLt
  have hc : ∀ w : BitVec 32, w.toNat < 8704 → ∀ (_ : k0_cond1 i v0 = 1#1) a, (![w.toNat, 0] : Fin 2 → ℕ) a + S1x2048.size a ≤ S8704x2048.size a := by
    intro w hw _ a; fin_cases a
    · show w.toNat + 1 ≤ 8704; omega
    · show 0 + 2048 ≤ 2048; omega
  have hl := fun o h => View.loads_smem_one (v := arg4.access (Rect.unit (s := S1x1x512) o S1x1x1.size h)) rfl numel1_S1x1x1
  unfold k0_t1_body
  rw [k0_part1_eq_skeleton]
  unfold k0_part1_skel
  refine issue_in hd (hl := hl _ _) (j := 8 * k) (by omega) (chk := k0_chk1 i v0) (dec := k0_chk1.dec i v0) (oW := k0_off4) (by revert k; decide) (by revert k; decide) (fun _ => rfl) (hw _) hc ?_
  refine issue_in hd (hl := hl _ _) (by omega) (chk := k0_chk2 i v0) (dec := k0_chk2.dec i v0) (oW := k0_off7) (by revert k; decide) (by revert k; decide) (fun _ => rfl) (hw _) hc ?_
  refine issue_in hd (hl := hl _ _) (by omega) (chk := k0_chk3 i v0) (dec := k0_chk3.dec i v0) (oW := k0_off10) (by revert k; decide) (by revert k; decide) (fun _ => rfl) (hw _) hc ?_
  refine issue_in hd (hl := hl _ _) (by omega) (chk := k0_chk4 i v0) (dec := k0_chk4.dec i v0) (oW := k0_off13) (by revert k; decide) (by revert k; decide) (fun _ => rfl) (hw _) hc ?_
  refine issue_in hd (hl := hl _ _) (by omega) (chk := k0_chk5 i v0) (dec := k0_chk5.dec i v0) (oW := k0_off16) (by revert k; decide) (by revert k; decide) (fun _ => rfl) (hw _) hc ?_
  refine issue_in hd (hl := hl _ _) (by omega) (chk := k0_chk6 i v0) (dec := k0_chk6.dec i v0) (oW := k0_off19) (by revert k; decide) (by revert k; decide) (fun _ => rfl) (hw _) hc ?_
  refine issue_in hd (hl := hl _ _) (by omega) (chk := k0_chk7 i v0) (dec := k0_chk7.dec i v0) (oW := k0_off22) (by revert k; decide) (by revert k; decide) (fun _ => rfl) (hw _) hc ?_
  refine issue_in hd (hl := hl _ _) (by omega) (chk := k0_chk8 i v0) (dec := k0_chk8.dec i v0) (oW := k0_off25) (by revert k; decide) (by revert k; decide) (fun _ => rfl) (hw _) hc ?_
  exact done _

set_option maxRecDepth 100000 in
set_option maxHeartbeats 4000000 in
/-- One trip of the loop that waits for the gathered rows: eight rows' units more are consumed. -/
theorem trip2 {f4 : Buf (Elt F) (arg4.view.loc (c : Thread nD τ))} (hd : arg4.view.read (Elt F) f4 = d)
    (hw : ∀ r, (word d r).toNat < 8704) {v0 : BitVec 32} (h1 : k0_cond1 i v0 = 1#1)
    {D : Fin 512 → sProp 𝕄} (k : Fin k0_t2_loop.trips) (acc : Unit) :
    waited c (.dma cc0_scratch3.sem) NX D (words c arg4 q4 f4) (8 * k) ⊢
      WP c (k0_t2_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 v0 h1 k acc)
        (fun _ => waited c (.dma cc0_scratch3.sem) NX D (words c arg4 q4 f4) (8 * (k + 1))) := by
  have hk : k.val < 64 := k.isLt
  have hc : ∀ w : BitVec 32, w.toNat < 8704 → ∀ (_ : k0_cond1 i v0 = 1#1) a, (![w.toNat, 0] : Fin 2 → ℕ) a + S1x2048.size a ≤ S8704x2048.size a := by
    intro w hw _ a; fin_cases a
    · show w.toNat + 1 ≤ 8704; omega
    · show 0 + 2048 ≤ 2048; omega
  have hl := fun o h => View.loads_smem_one (v := arg4.access (Rect.unit (s := S1x1x512) o S1x1x1.size h)) rfl numel1_S1x1x1
  unfold k0_t2_body
  rw [k0_part2_eq_skeleton]
  unfold k0_part2_skel
  refine wait_in hd (hl := hl _ _) (j := 8 * k) (by omega) (chk := k0_chk9 i v0) (dec := k0_chk9.dec i v0) (oW := k0_off28) (by revert k; decide) (hw _) hc ?_
  refine wait_in hd (hl := hl _ _) (by omega) (chk := k0_chk10 i v0) (dec := k0_chk10.dec i v0) (oW := k0_off31) (by revert k; decide) (hw _) hc ?_
  refine wait_in hd (hl := hl _ _) (by omega) (chk := k0_chk11 i v0) (dec := k0_chk11.dec i v0) (oW := k0_off34) (by revert k; decide) (hw _) hc ?_
  refine wait_in hd (hl := hl _ _) (by omega) (chk := k0_chk12 i v0) (dec := k0_chk12.dec i v0) (oW := k0_off37) (by revert k; decide) (hw _) hc ?_
  refine wait_in hd (hl := hl _ _) (by omega) (chk := k0_chk13 i v0) (dec := k0_chk13.dec i v0) (oW := k0_off40) (by revert k; decide) (hw _) hc ?_
  refine wait_in hd (hl := hl _ _) (by omega) (chk := k0_chk14 i v0) (dec := k0_chk14.dec i v0) (oW := k0_off43) (by revert k; decide) (hw _) hc ?_
  refine wait_in hd (hl := hl _ _) (by omega) (chk := k0_chk15 i v0) (dec := k0_chk15.dec i v0) (oW := k0_off46) (by revert k; decide) (hw _) hc ?_
  refine wait_in hd (hl := hl _ _) (by omega) (chk := k0_chk16 i v0) (dec := k0_chk16.dec i v0) (oW := k0_off49) (by revert k; decide) (hw _) hc ?_
  exact done _

set_option maxRecDepth 100000 in
set_option maxHeartbeats 4000000 in
/-- One trip of the loop that scatters: eight rows more are issued. -/
theorem trip3 {f4 : Buf (Elt F) (arg5.view.loc (c : Thread nD τ))} (hd : arg5.view.read (Elt F) f4 = d)
    (hw : ∀ r, (word d r).toNat < 21504) (h3 : k0_cond3 i = 1#1)
    {fx : S512x2048.Idx → Elt F .f32} {fy fy' : S21504x2048.Idx → Elt F .f32}
    (hy : ∀ r k, fy' (rix ⟨(word d r).toNat, hw r⟩ k) = fx (rix r k)) (k : Fin k0_t3_loop.trips) (acc : Unit) :
    issued c (.dma cc0_scratch4.sem) NY (outP c d fx fy) (outD c d fx fy') (words c arg5 q4 f4) (8 * k) ⊢
      WP c (k0_t3_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 h3 k acc)
        (fun _ => issued c (.dma cc0_scratch4.sem) NY (outP c d fx fy) (outD c d fx fy') (words c arg5 q4 f4) (8 * (k + 1))) := by
  have hk : k.val < 64 := k.isLt
  have hc : ∀ w : BitVec 32, w.toNat < 21504 → ∀ (_ : k0_cond3 i = 1#1) a, (![w.toNat, 0] : Fin 2 → ℕ) a + S1x2048.size a ≤ S21504x2048.size a := by
    intro w hw _ a; fin_cases a
    · show w.toNat + 1 ≤ 21504; omega
    · show 0 + 2048 ≤ 2048; omega
  have hl := fun o h => View.loads_smem_one (v := arg5.access (Rect.unit (s := S1x1x512) o S1x1x1.size h)) rfl numel1_S1x1x1
  unfold k0_t3_body
  rw [k0_part3_eq_skeleton]
  unfold k0_part3_skel
  refine issue_out hd (hl := hl _ _) (j := 8 * k) (by omega) (chk := k0_chk17 i) (dec := k0_chk17.dec i) (oW := k0_off51) (by revert k; decide) (by revert k; decide) (fun _ => rfl) (hw _) hc (hy _) ?_
  refine issue_out hd (hl := hl _ _) (by omega) (chk := k0_chk18 i) (dec := k0_chk18.dec i) (oW := k0_off54) (by revert k; decide) (by revert k; decide) (fun _ => rfl) (hw _) hc (hy _) ?_
  refine issue_out hd (hl := hl _ _) (by omega) (chk := k0_chk19 i) (dec := k0_chk19.dec i) (oW := k0_off57) (by revert k; decide) (by revert k; decide) (fun _ => rfl) (hw _) hc (hy _) ?_
  refine issue_out hd (hl := hl _ _) (by omega) (chk := k0_chk20 i) (dec := k0_chk20.dec i) (oW := k0_off60) (by revert k; decide) (by revert k; decide) (fun _ => rfl) (hw _) hc (hy _) ?_
  refine issue_out hd (hl := hl _ _) (by omega) (chk := k0_chk21 i) (dec := k0_chk21.dec i) (oW := k0_off63) (by revert k; decide) (by revert k; decide) (fun _ => rfl) (hw _) hc (hy _) ?_
  refine issue_out hd (hl := hl _ _) (by omega) (chk := k0_chk22 i) (dec := k0_chk22.dec i) (oW := k0_off66) (by revert k; decide) (by revert k; decide) (fun _ => rfl) (hw _) hc (hy _) ?_
  refine issue_out hd (hl := hl _ _) (by omega) (chk := k0_chk23 i) (dec := k0_chk23.dec i) (oW := k0_off69) (by revert k; decide) (by revert k; decide) (fun _ => rfl) (hw _) hc (hy _) ?_
  refine issue_out hd (hl := hl _ _) (by omega) (chk := k0_chk24 i) (dec := k0_chk24.dec i) (oW := k0_off72) (by revert k; decide) (by revert k; decide) (fun _ => rfl) (hw _) hc (hy _) ?_
  exact done _

set_option maxRecDepth 100000 in
set_option maxHeartbeats 4000000 in
/-- One trip of the loop that waits for the scattered rows: eight rows' units more are consumed. -/
theorem trip4 {f4 : Buf (Elt F) (arg5.view.loc (c : Thread nD τ))} (hd : arg5.view.read (Elt F) f4 = d)
    (hw : ∀ r, (word d r).toNat < 21504) (h3 : k0_cond3 i = 1#1)
    {D : Fin 512 → sProp 𝕄} (k : Fin k0_t4_loop.trips) (acc : Unit) :
    waited c (.dma cc0_scratch4.sem) NY D (words c arg5 q4 f4) (8 * k) ⊢
      WP c (k0_t4_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 h3 k acc)
        (fun _ => waited c (.dma cc0_scratch4.sem) NY D (words c arg5 q4 f4) (8 * (k + 1))) := by
  have hk : k.val < 64 := k.isLt
  have hc : ∀ w : BitVec 32, w.toNat < 21504 → ∀ (_ : k0_cond3 i = 1#1) a, (![w.toNat, 0] : Fin 2 → ℕ) a + S1x2048.size a ≤ S21504x2048.size a := by
    intro w hw _ a; fin_cases a
    · show w.toNat + 1 ≤ 21504; omega
    · show 0 + 2048 ≤ 2048; omega
  have hl := fun o h => View.loads_smem_one (v := arg5.access (Rect.unit (s := S1x1x512) o S1x1x1.size h)) rfl numel1_S1x1x1
  unfold k0_t4_body
  rw [k0_part4_eq_skeleton]
  unfold k0_part4_skel
  refine wait_out hd (hl := hl _ _) (j := 8 * k) (by omega) (chk := k0_chk25 i) (dec := k0_chk25.dec i) (oW := k0_off75) (by revert k; decide) (hw _) hc ?_
  refine wait_out hd (hl := hl _ _) (by omega) (chk := k0_chk26 i) (dec := k0_chk26.dec i) (oW := k0_off78) (by revert k; decide) (hw _) hc ?_
  refine wait_out hd (hl := hl _ _) (by omega) (chk := k0_chk27 i) (dec := k0_chk27.dec i) (oW := k0_off81) (by revert k; decide) (hw _) hc ?_
  refine wait_out hd (hl := hl _ _) (by omega) (chk := k0_chk28 i) (dec := k0_chk28.dec i) (oW := k0_off84) (by revert k; decide) (hw _) hc ?_
  refine wait_out hd (hl := hl _ _) (by omega) (chk := k0_chk29 i) (dec := k0_chk29.dec i) (oW := k0_off87) (by revert k; decide) (hw _) hc ?_
  refine wait_out hd (hl := hl _ _) (by omega) (chk := k0_chk30 i) (dec := k0_chk30.dec i) (oW := k0_off90) (by revert k; decide) (hw _) hc ?_
  refine wait_out hd (hl := hl _ _) (by omega) (chk := k0_chk31 i) (dec := k0_chk31.dec i) (oW := k0_off93) (by revert k; decide) (hw _) hc ?_
  refine wait_out hd (hl := hl _ _) (by omega) (chk := k0_chk32 i) (dec := k0_chk32.dec i) (oW := k0_off96) (by revert k; decide) (hw _) hc ?_
  exact done _

end Cert.KernelE.Rows

end
-- ==== Proof.Loops.lean ====
/-
  The two pairs of copy loops of the experts' kernel as a whole: the first pair gathers a tile of rows of the activations,
  the second scatters a tile of rows into the result.
-/
module

public import proofs.«01_k».proof.Proof.Trips

@[expose] public section

noncomputable section

namespace Cert.KernelE.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Gen

variable {F : FTy → Type} [FloatOps F]

local notation "𝕄" => MT nD τ sig Unit (Elt F) ℕ (Pipeline.UD sig nD τ) ℕ

variable {c : Dev nD} {d : S1x1x512.Idx → BitVec 32} {q4 : PosShare TreeShare} {i : grid0.Coords}
  {arg2 : Memref sig .tc .smem S42 .i32} {harg2 : arg2.IsWhole} {arg3 : Memref sig .tc .smem S1 .i32} {harg3 : arg3.IsWhole} {arg4 : Memref sig .tc .smem S1x1x512 .i32} {harg4 : arg4.IsWhole} {arg5 : Memref sig .tc .smem S1x1x512 .i32} {harg5 : arg5.IsWhole} {arg6 : Memref sig .tc .vmem S512x1 .f32} {harg6 : arg6.IsWhole} {arg8 : Memref sig .tc .vmem S1x1x2048x512 .f32} {harg8 : arg8.IsWhole} {arg9 : Memref sig .tc .vmem S1x1x2048x512 .f32} {harg9 : arg9.IsWhole} {arg10 : Memref sig .tc .vmem S1x1x512x2048 .f32} {harg10 : arg10.IsWhole} {arg13 : Memref sig .tc .vmem S512x2048 .bf16} {harg13 : arg13.IsWhole} {arg14 : Memref sig .tc .vmem S512x2048 .f32} {harg14 : arg14.IsWhole}

/-! ## The buffers as rows -/

/-- Equal assertions entail each other: -/
theorem to_of {P Q : sProp 𝕄} (h : P = Q) : P ⊢ Q := h ▸ .rfl

/-- and back. -/
theorem from_of {P Q : sProp 𝕄} (h : P = Q) : Q ⊢ P := h ▸ .rfl

/-- The activations held whole are, for each row of the tile, a read token of the row that its word names, and the rest. -/
theorem h_eq (c : Dev nD) (d : S1x1x512.Idx → BitVec 32) (fh : S8704x2048.Idx → Elt F .f32) :
    (hPt c Finset.univ fullShare fh : sProp 𝕄) = iprop(hPt c Finset.univ (Transfers.shareDrop fullShare 512) fh
      ∗ (bigSep Finset.univ fun r : Fin 512 => hPt c (row (word d r).toNat) (Transfers.shareTok fullShare 512 r) fh)
      ∗ bigSep Finset.univ fun r : Fin 512 => hPt c (Finset.univ \ row (word d r).toNat) (Transfers.shareTok fullShare 512 r) fh) := by
  have e := Idealize.SL.BI.Entails.antisymm (Transfers.pointsTo_toks (f := fh) (S := Finset.univ) (ℓ := (c : Thread nD τ).loc main_arg2)
    (Ix := Unit) (Name := ℕ) (U := Pipeline.UD sig nD τ) (Lvl := ℕ) fullShare 512).1 (Transfers.pointsTo_toks fullShare 512).2
  refine e.trans ?_
  congr 1
  rw [← bigSep_sep']
  refine bigSep_congr fun r _ => ?_
  exact Idealize.SL.BI.Entails.antisymm (pointsTo_split_subset (Finset.subset_univ _)).1 (pointsTo_split_subset (Finset.subset_univ _)).2

/-- Every element of a two-dimensional buffer lies in a row. -/
theorem rows_cover : (Finset.univ.biUnion fun r : Fin 512 => row (n := 512) r.val) = Finset.univ := by
  refine Finset.eq_univ_of_forall fun y => Finset.mem_biUnion.2 ⟨y 0, Finset.mem_univ _, (mem_row _ _).2 rfl⟩

/-- The tile held whole is its rows. -/
theorem x_eq (c : Dev nD) (fx : S512x2048.Idx → Elt F .f32) :
    (xPt c Finset.univ fx : sProp 𝕄) = bigSep Finset.univ fun r : Fin 512 => xPt c (row r.val) fx :=
  Ring.pointsTo_blocks (ℓ := (c : Thread nD τ).loc cc0_scratch0) (fun r : Fin 512 => row (n := 512) r.val)
    (fun _ _ h => row_disjoint fun e => h (Fin.ext e)) rows_cover fx

/-- The result held whole is the rows that the words name, where they are distinct, and the rest. -/
theorem y_eq (c : Dev nD) {d : S1x1x512.Idx → BitVec 32} (hinj : ∀ r r', (word d r).toNat = (word d r').toNat → r = r')
    (fy : S21504x2048.Idx → Elt F .f32) :
    (yPt c Finset.univ fy : sProp 𝕄) = iprop((bigSep Finset.univ fun r : Fin 512 => yPt c (row (word d r).toNat) fy)
      ∗ yPt c (Finset.univ \ Finset.univ.biUnion fun r : Fin 512 => row (n := 21504) (word d r).toNat) fy) := by
  refine (Idealize.SL.BI.Entails.antisymm (pointsTo_split_subset (Finset.subset_univ (Finset.univ.biUnion fun r : Fin 512 => row (n := 21504) (word d r).toNat))).1
    (pointsTo_split_subset (Finset.subset_univ _)).2).trans ?_
  rw [pointsTo_biUnion Finset.univ _ fun r _ r' _ h => row_disjoint fun e => h (hinj r r' e)]

/-- The result after a tile `fx` is scattered into it: each row that a word names is the tile's, every other as it was. -/
def scat (d : S1x1x512.Idx → BitVec 32) (fx : S512x2048.Idx → Elt F .f32) (fy : S21504x2048.Idx → Elt F .f32) : S21504x2048.Idx → Elt F .f32 :=
  fun y => if h : ∃ r : Fin 512, (word d r).toNat = (y 0).val then fx (rix h.choose (y 1)) else fy y

theorem scat_row {d : S1x1x512.Idx → BitVec 32} (hinj : ∀ r r', (word d r).toNat = (word d r').toNat → r = r')
    (fx : S512x2048.Idx → Elt F .f32) (fy : S21504x2048.Idx → Elt F .f32) (r : Fin 512) (hw : (word d r).toNat < 21504) (k : Fin 2048) :
    scat d fx fy (rix ⟨(word d r).toNat, hw⟩ k) = fx (rix r k) := by
  unfold scat
  have h : ∃ r' : Fin 512, (word d r').toNat = ((rix (n := 21504) ⟨(word d r).toNat, hw⟩ k) 0).val := ⟨r, rfl⟩
  rw [dif_pos h]
  rw [hinj _ _ h.choose_spec]; rfl

/-- What all the gathering rows deliver: the read tokens of the activations' rows, and the tile's rows filled. -/
theorem inD_eq (c : Dev nD) (d : S1x1x512.Idx → BitVec 32) (fh : S8704x2048.Idx → Elt F .f32) :
    (bigSep Finset.univ (inD c d fh) : sProp 𝕄)
      = iprop((bigSep Finset.univ fun r : Fin 512 => hPt c (row (word d r).toNat) (Transfers.shareTok fullShare 512 r) fh)
        ∗ bigSep Finset.univ fun r : Fin 512 => xPt c (row r.val) (gath d fh)) := by
  rw [← bigSep_sep']; rfl

/-- What all the scattering rows deliver: the tile's rows, and the result's named rows filled. -/
theorem outD_eq (c : Dev nD) (d : S1x1x512.Idx → BitVec 32) (fx : S512x2048.Idx → Elt F .f32) (fy' : S21504x2048.Idx → Elt F .f32) :
    (bigSep Finset.univ (outD c d fx fy') : sProp 𝕄)
      = iprop((bigSep Finset.univ fun r : Fin 512 => xPt c (row r.val) fx)
        ∗ bigSep Finset.univ fun r : Fin 512 => yPt c (row (word d r).toNat) fy') := by
  rw [← bigSep_sep']; rfl

/-- Off the rows named, scattering changes nothing. -/
theorem rest_eq (c : Dev nD) (d : S1x1x512.Idx → BitVec 32) (fx : S512x2048.Idx → Elt F .f32) (fy : S21504x2048.Idx → Elt F .f32) :
    (yPt c (Finset.univ \ Finset.univ.biUnion fun r : Fin 512 => row (n := 21504) (word d r).toNat) (scat d fx fy) : sProp 𝕄)
      = yPt c (Finset.univ \ Finset.univ.biUnion fun r : Fin 512 => row (n := 21504) (word d r).toNat) fy := by
  refine pointsTo_congr fun y hy => ?_
  unfold scat
  rw [dif_neg]
  rintro ⟨r, hr⟩
  exact (Finset.mem_sdiff.1 hy).2 (Finset.mem_biUnion.2 ⟨r, Finset.mem_univ _, (mem_row _ _).2 hr.symm⟩)

/-! ## The pairs of loops -/

set_option maxHeartbeats 1000000 in
/-- GATHERING A TILE: the two loops leave in the tile the rows of the activations that the words name, everything else as it was. -/
theorem gather {f4 : Buf (Elt F) (arg4.view.loc (c : Thread nD τ))} (hd : arg4.view.read (Elt F) f4 = d)
    (hw : ∀ r, (word d r).toNat < 8704) {v0 : BitVec 32} (h1 : k0_cond1 i v0 = 1#1)
    {fh : S8704x2048.Idx → Elt F .f32} {fx : S512x2048.Idx → Elt F .f32}
    {k : PUnit → Prog (TpuEff nD τ sig (Elt F) Λ₀ .tc) PUnit} {Q : PUnit → sProp 𝕄} :
    iprop(hPt c Finset.univ fullShare fh ∗ xPt c Finset.univ fx ∗ semVal ((c : Thread nD τ), .dma cc0_scratch3.sem) 0 ∗ words c arg4 q4 f4
      ∗ (∃ W, owes (c : Thread nD τ) 0 W)
      ∗ (iprop(hPt c Finset.univ fullShare fh ∗ xPt c Finset.univ (gath d fh) ∗ semVal ((c : Thread nD τ), .dma cc0_scratch3.sem) 0 ∗ words c arg4 q4 f4
          ∗ (∃ W, owes (c : Thread nD τ) 0 W)) -∗ WP c (k ⟨⟩) Q))
      ⊢ WP c (Scf.Loop.for k0_t1_loop k0_t1_ok ⟨⟩ (k0_t1_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 v0 h1) >>= fun _ =>
          Scf.Loop.for k0_t2_loop k0_t2_ok ⟨⟩ (k0_t2_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 v0 h1) >>= k) Q := by
  iintro ⟨Hh, Hx, Hs, Ht, HO, Hk⟩
  icases (to_of (h_eq c d fh)) $$ Hh with ⟨Hh0, Hh1, Hh2⟩
  ihave Hx := (to_of (x_eq c fx)) $$ Hx
  imod (Transfers.batch_alloc' (Lvl := ℕ) (countersEmb (U := Pipeline.UD sig nD τ)) (c : Thread nD τ) () NX (inD c d fh)
    (sm := .dma cc0_scratch3.sem) (E := Set.univ)) $$ Hs with HB
  iapply (Scf.wp_for_bind frame (wpE (defs₀ (F := F)) Variants.none (c : Thread nD τ) none) Set.univ _ _ _ k0_t1_ok _ _
    (fun j _ => issued c (.dma cc0_scratch3.sem) NX (inP c d fh fx) (inD c d fh) (words c arg4 q4 f4) (8 * j)) (fun j acc => trip1 hd hw h1 j acc)) $$ [HB Hh1 Hx Ht]
  · unfold issued inP
    rw [Ring.rangeSet_univ, bigSep_sep']
    isplitl [HB]; · iexact HB
    isplitl [Hh1 Hx]
    · isplitl [Hh1] <;> iassumption
    iexact Ht
  iintro %_ HI
  unfold issued
  icases HI with ⟨HB, -, Ht⟩
  iapply (Scf.wp_for_bind frame (wpE (defs₀ (F := F)) Variants.none (c : Thread nD τ) none) Set.univ _ _ _ k0_t2_ok _ _
    (fun j _ => waited c (.dma cc0_scratch3.sem) NX (inD c d fh) (words c arg4 q4 f4) (8 * j)) (fun j acc => trip2 hd hw h1 j acc)) $$ [HB HO Ht]
  · unfold waited
    isplitl [HO]; · iexact HO
    isplitl [Ht]; · iexact Ht
    rw [if_pos (by decide), Nat.mul_zero, Nat.zero_mul]
    iexact HB
  iintro %_ HI
  unfold waited
  rw [if_neg (show ¬ 8 * Scf.trips k0_t2_loop.lb k0_t2_loop.ub k0_t2_loop.st < 512 by decide)]
  icases HI with ⟨HO, Ht, Hs, HD⟩
  icases (to_of (inD_eq c d fh)) $$ HD with ⟨Hh1, Hx⟩
  iapply Hk
  isplitl [Hh0 Hh1 Hh2]
  · iapply (from_of (h_eq c d fh))
    isplitl [Hh0]; · iexact Hh0
    isplitl [Hh1]; · iexact Hh1
    iexact Hh2
  isplitl [Hx]; · iapply (from_of (x_eq c (gath d fh))); iexact Hx
  isplitl [Hs]; · iexact Hs
  isplitl [Ht]; · iexact Ht
  iexact HO

set_option maxHeartbeats 1000000 in
/-- SCATTERING A TILE: the two loops leave in the rows of the result that the words name the rows of the tile, everything else as it was. -/
theorem scatter {f5 : Buf (Elt F) (arg5.view.loc (c : Thread nD τ))} (hd : arg5.view.read (Elt F) f5 = d)
    (hw : ∀ r, (word d r).toNat < 21504) (hinj : ∀ r r', (word d r).toNat = (word d r').toNat → r = r') (h3 : k0_cond3 i = 1#1)
    {fx : S512x2048.Idx → Elt F .f32} {fy : S21504x2048.Idx → Elt F .f32}
    {k : PUnit → Prog (TpuEff nD τ sig (Elt F) Λ₀ .tc) PUnit} {Q : PUnit → sProp 𝕄} :
    iprop(yPt c Finset.univ fy ∗ xPt c Finset.univ fx ∗ semVal ((c : Thread nD τ), .dma cc0_scratch4.sem) 0 ∗ words c arg5 q4 f5
      ∗ (∃ W, owes (c : Thread nD τ) 0 W)
      ∗ (iprop(yPt c Finset.univ (scat d fx fy) ∗ xPt c Finset.univ fx ∗ semVal ((c : Thread nD τ), .dma cc0_scratch4.sem) 0 ∗ words c arg5 q4 f5
          ∗ (∃ W, owes (c : Thread nD τ) 0 W)) -∗ WP c (k ⟨⟩) Q))
      ⊢ WP c (Scf.Loop.for k0_t3_loop (k0_t3_ok i h3) ⟨⟩ (k0_t3_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 h3) >>= fun _ =>
          Scf.Loop.for k0_t4_loop (k0_t4_ok i h3) ⟨⟩ (k0_t4_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 h3) >>= k) Q := by
  iintro ⟨Hy, Hx, Hs, Ht, HO, Hk⟩
  icases (to_of (y_eq c hinj fy)) $$ Hy with ⟨Hy1, Hy2⟩
  ihave Hx := (to_of (x_eq c fx)) $$ Hx
  imod (Transfers.batch_alloc' (Lvl := ℕ) (countersEmb (U := Pipeline.UD sig nD τ)) (c : Thread nD τ) () NY (outD c d fx (scat d fx fy))
    (sm := .dma cc0_scratch4.sem) (E := Set.univ)) $$ Hs with HB
  iapply (Scf.wp_for_bind frame (wpE (defs₀ (F := F)) Variants.none (c : Thread nD τ) none) Set.univ _ _ _ (k0_t3_ok i h3) _ _
    (fun j _ => issued c (.dma cc0_scratch4.sem) NY (outP c d fx fy) (outD c d fx (scat d fx fy)) (words c arg5 q4 f5) (8 * j))
    (fun j acc => trip3 hd hw h3 (fun r k => scat_row hinj fx fy r (hw r) k) j acc)) $$ [HB Hy1 Hx Ht]
  · unfold issued outP
    rw [Ring.rangeSet_univ, bigSep_sep']
    isplitl [HB]; · iexact HB
    isplitl [Hy1 Hx]
    · isplitl [Hx] <;> iassumption
    iexact Ht
  iintro %_ HI
  unfold issued
  icases HI with ⟨HB, -, Ht⟩
  iapply (Scf.wp_for_bind frame (wpE (defs₀ (F := F)) Variants.none (c : Thread nD τ) none) Set.univ _ _ _ (k0_t4_ok i h3) _ _
    (fun j _ => waited c (.dma cc0_scratch4.sem) NY (outD c d fx (scat d fx fy)) (words c arg5 q4 f5) (8 * j)) (fun j acc => trip4 hd hw h3 j acc)) $$ [HB HO Ht]
  · unfold waited
    isplitl [HO]; · iexact HO
    isplitl [Ht]; · iexact Ht
    rw [if_pos (by decide), Nat.mul_zero, Nat.zero_mul]
    iexact HB
  iintro %_ HI
  unfold waited
  rw [if_neg (show ¬ 8 * Scf.trips k0_t4_loop.lb k0_t4_loop.ub k0_t4_loop.st < 512 by decide)]
  icases HI with ⟨HO, Ht, Hs, HD⟩
  icases (to_of (outD_eq c d fx (scat d fx fy))) $$ HD with ⟨Hx, Hy1⟩
  iapply Hk
  isplitl [Hy1 Hy2]
  · iapply (from_of (y_eq c hinj (scat d fx fy)))
    isplitl [Hy1]; · iexact Hy1
    iapply (from_of (rest_eq c d fx fy)); iexact Hy2
  isplitl [Hx]; · iapply (from_of (x_eq c fx)); iexact Hx
  isplitl [Hs]; · iexact Hs
  isplitl [Ht]; · iexact Ht
  iexact HO

end Cert.KernelE.Rows

end
-- ==== Proof.Body.lean ====
/-
  One grid point of the experts' kernel: its three conditional stages one by one, then the whole body.
-/
module

public import proofs.«01_k».proof.Proof.Loops

@[expose] public section

noncomputable section

namespace Cert.KernelE.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Gen

variable {F : FTy → Type} [FloatOps F]

local notation "𝕄" => MT nD τ sig Unit (Elt F) ℕ (Pipeline.UD sig nD τ) ℕ

variable {c : Dev nD} {d : S1x1x512.Idx → BitVec 32} {q4 : PosShare TreeShare} {i : grid0.Coords}
  {arg2 : Memref sig .tc .smem S42 .i32} {harg2 : arg2.IsWhole} {arg3 : Memref sig .tc .smem S1 .i32} {harg3 : arg3.IsWhole} {arg4 : Memref sig .tc .smem S1x1x512 .i32} {harg4 : arg4.IsWhole} {arg5 : Memref sig .tc .smem S1x1x512 .i32} {harg5 : arg5.IsWhole} {arg6 : Memref sig .tc .vmem S512x1 .f32} {harg6 : arg6.IsWhole} {arg8 : Memref sig .tc .vmem S1x1x2048x512 .f32} {harg8 : arg8.IsWhole} {arg9 : Memref sig .tc .vmem S1x1x2048x512 .f32} {harg9 : arg9.IsWhole} {arg10 : Memref sig .tc .vmem S1x1x512x2048 .f32} {harg10 : arg10.IsWhole} {arg13 : Memref sig .tc .vmem S512x2048 .bf16} {harg13 : arg13.IsWhole} {arg14 : Memref sig .tc .vmem S512x2048 .f32} {harg14 : arg14.IsWhole}

/-! ## Whole-block loads and stores -/

/-- A load of a whole block yields its contents. -/
theorem ld_whole {s : Shape} {e : EltTy} {M : Memref sig .tc .vmem s e} {off : Fin s.rank → ℕ} (h : off = fun _ => 0)
    {inb : ∀ a, off a + s.size a ≤ s.size a} {hl : M.view.LoadsAt (Rect.unit off s.size inb).toLoadRect} {q : PosShare TreeShare}
    {X : s.Idx → Elt F e} {k : (s.Idx → Elt F e) → Prog (TpuEff nD τ sig (Elt F) Λ₀ .tc) PUnit} {Q : PUnit → sProp 𝕄} :
    owns (c : Thread nD τ) M q X ⊢ iprop((owns (c : Thread nD τ) M q X -∗ WP c (k X) Q)
      -∗ WP c (.op (.load M (Rect.unit off s.size inb).toLoadRect hl) k) Q) := by
  subst h
  unfold owns
  iintro ⟨%f, %hf, H⟩ Hk
  iapply (wp_load_rect Variants.none (c : Thread nD τ) none Set.univ (m := M) (r := Rect.unit (fun _ => 0) s.size inb) (q := q) (f := f)
    (S := M.view.set) (View.set_slice_subset _ _)) $$ H
  iintro H
  have e : (M.access (Rect.unit (fun _ => 0) s.size inb)).read (Elt F) f = X := by
    rw [← hf]; funext x
    show M.view.read (Elt F) f ((Rect.whole s).emb x) = _
    rw [Rect.emb_whole_apply]
  rw [e]
  iapply Hk
  iexists f
  isplitr; · ipureintro; exact hf
  iexact H

/-- A store of a whole block leaves the stored contents. -/
theorem st_whole {s : Shape} {e : EltTy} {M : Memref sig .tc .vmem s e} {off : Fin s.rank → ℕ} (h : off = fun _ => 0)
    {inb : ∀ a, off a + s.size a ≤ s.size a} {w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {X : s.Idx → Elt F e} {k : PUnit → Prog (TpuEff nD τ sig (Elt F) Λ₀ .tc) PUnit} {Q : PUnit → sProp 𝕄} :
    owns (c : Thread nD τ) M fullShare X ⊢ iprop((owns (c : Thread nD τ) M fullShare w -∗ WP c (k ⟨⟩) Q)
      -∗ WP c (.op (.store M (Rect.unit off s.size inb) w Finset.univ hx hm) k) Q) := by
  subst h
  unfold owns
  iintro ⟨%f, %hf, H⟩ Hk
  iapply (wp_store Variants.none (c : Thread nD τ) none Set.univ (m := M) (r := Rect.unit (fun _ => 0) s.size inb) (f := f)
    (S := M.view.set) (View.set_slice_subset _ _)) $$ H
  iintro H
  iapply Hk
  iexists _
  isplitr; swap; · iexact H
  ipureintro
  funext x
  have := View.read_slice_write_emb (v := M.view) (Val := Elt F) (Rect.unit (fun _ => 0) s.size inb) f w (x := x) (Finset.mem_univ x)
  rwa [show (Rect.unit (fun _ => 0) s.size inb).emb x = x from Rect.emb_whole_apply s x] at this

/-- Owning a table at its words, unfolded: -/
theorem owns_out {M : Memref sig .tc .smem S1x1x512 .i32} {q : PosShare TreeShare} {X : S1x1x512.Idx → BitVec 32} :
    (owns (c : Thread nD τ) M q X : sProp 𝕄) ⊢ iprop(∃ f, ⌜M.view.read (Elt F) f = X⌝ ∗ words c M q f) := .rfl

/-- and folded. -/
theorem owns_in {M : Memref sig .tc .smem S1x1x512 .i32} {q : PosShare TreeShare} {X : S1x1x512.Idx → BitVec 32} :
    iprop(∃ f, ⌜M.view.read (Elt F) f = X⌝ ∗ words c M q f) ⊢ (owns (c : Thread nD τ) M q X : sProp 𝕄) := .rfl

/-! ## The stages -/

/-- THE MIDDLE STAGE: on a valid tile one step of the accumulation, otherwise nothing. -/
theorem stage_mid {b : BitVec 1} {gb : S512x2048.Idx → Elt F .bf16} {ga : S512x2048.Idx → Elt F .f32}
    {x1 x3 : S1x1x2048x512.Idx → Elt F .f32} {x2 : S1x1x512x2048.Idx → Elt F .f32}
    {k : Prog (TpuEff nD τ sig (Elt F) Λ₀ .tc) PUnit} {Q : PUnit → sProp 𝕄} :
    iprop(owns (c : Thread nD τ) arg13 fullShare gb ∗ owns (c : Thread nD τ) arg14 fullShare ga ∗ owns (c : Thread nD τ) arg8 fullShare x1
      ∗ owns (c : Thread nD τ) arg9 fullShare x3 ∗ owns (c : Thread nD τ) arg10 fullShare x2
      ∗ (iprop(owns (c : Thread nD τ) arg13 fullShare gb ∗ owns (c : Thread nD τ) arg14 fullShare (if b = 1#1 then k0_pay3 gb x1 x3 ga x2 else ga)
          ∗ owns (c : Thread nD τ) arg8 fullShare x1 ∗ owns (c : Thread nD τ) arg9 fullShare x3 ∗ owns (c : Thread nD τ) arg10 fullShare x2) -∗ WP c k Q))
      ⊢ WP c (if b = 1#1 then do
          let v11 : Vec F S512x2048 .bf16 ← Prog.lift (.load arg13 (Rect.unit (s := S512x2048) ![0, 0] S512x2048.size inb_S512x2048_S512x2048_0_0).toLoadRect (View.loadsAt_vmem h_S512x2048))
          let v12 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v18 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v23 : Vec F S512x2048 .f32 ← Prog.lift (.load arg14 (Rect.unit (s := S512x2048) ![0, 0] S512x2048.size inb_S512x2048_S512x2048_0_0).toLoadRect (View.loadsAt_vmem h_S512x2048))
          let v25 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let _v30 : Vec F S512x2048 .f32 ← Prog.lift (.load arg14 (Rect.unit (s := S512x2048) ![0, 0] S512x2048.size inb_S512x2048_S512x2048_0_0).toLoadRect (View.loadsAt_vmem h_S512x2048))
          Prog.lift (.store arg14 (Rect.unit (s := S512x2048) ![0, 0] S512x2048.size inb_S512x2048_S512x2048_0_0) (k0_pay3 v11 v12 v18 v23 v25) Finset.univ (View.stores_vmem_bits_univ h_S512x2048 rfl) (.inl rfl))
          k
        else k) Q := by
  have z2 : (![0, 0] : Fin 2 → ℕ) = fun _ => 0 := by decide
  have z4 : (![0, 0, 0, 0] : Fin 4 → ℕ) = fun _ => 0 := by decide
  by_cases hb : b = 1#1
  · rw [if_pos hb, if_pos hb]
    iintro ⟨Hb, Ha, H8, H9, H10, Hk⟩
    iapply (ld_whole z2) $$ Hb; iintro Hb
    iapply (ld_whole z4) $$ H8; iintro H8
    iapply (ld_whole z4) $$ H9; iintro H9
    iapply (ld_whole z2) $$ Ha; iintro Ha
    iapply (ld_whole z4) $$ H10; iintro H10
    iapply (ld_whole z2) $$ Ha; iintro Ha
    iapply (st_whole z2) $$ Ha; iintro Ha
    iapply Hk
    isplitl [Hb]; · iexact Hb
    isplitl [Ha]; · iexact Ha
    isplitl [H8]; · iexact H8
    isplitl [H9]; · iexact H9
    iexact H10
  · rw [if_neg hb, if_neg hb]
    iintro ⟨Hb, Ha, H8, H9, H10, Hk⟩
    iapply Hk
    isplitl [Hb]; · iexact Hb
    isplitl [Ha]; · iexact Ha
    isplitl [H8]; · iexact H8
    isplitl [H9]; · iexact H9
    iexact H10

/-- THE FIRST STAGE: at a valid tile's first step the tile's rows are gathered and cast, and the accumulator is zeroed. -/
theorem stage_first {v0 : BitVec 32} {fh : S8704x2048.Idx → Elt F .f32} {fx : S512x2048.Idx → Elt F .f32}
    {gb : S512x2048.Idx → Elt F .bf16} {ga : S512x2048.Idx → Elt F .f32} (hw : ∀ r, (word d r).toNat < 8704)
    {k : Prog (TpuEff nD τ sig (Elt F) Λ₀ .tc) PUnit} {Q : PUnit → sProp 𝕄} :
    iprop(hPt c Finset.univ fullShare fh ∗ xPt c Finset.univ fx ∗ semVal ((c : Thread nD τ), .dma cc0_scratch3.sem) 0
      ∗ owns (c : Thread nD τ) arg4 q4 d ∗ (∃ W, owes (c : Thread nD τ) 0 W)
      ∗ owns (c : Thread nD τ) arg13 fullShare gb ∗ owns (c : Thread nD τ) arg14 fullShare ga
      ∗ (iprop(hPt c Finset.univ fullShare fh ∗ xPt c Finset.univ (if k0_cond1 i v0 = 1#1 then gath d fh else fx)
          ∗ semVal ((c : Thread nD τ), .dma cc0_scratch3.sem) 0 ∗ owns (c : Thread nD τ) arg4 q4 d ∗ (∃ W, owes (c : Thread nD τ) 0 W)
          ∗ owns (c : Thread nD τ) arg13 fullShare (if k0_cond1 i v0 = 1#1 then k0_pay1 (gath d fh) else gb)
          ∗ owns (c : Thread nD τ) arg14 fullShare (if k0_cond1 i v0 = 1#1 then k0_pay2 else ga)) -∗ WP c k Q))
      ⊢ WP c (if h1 : k0_cond1 i v0 = 1#1 then do
          Scf.Loop.for k0_t1_loop k0_t1_ok ⟨⟩ (k0_t1_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 v0 h1)
          Scf.Loop.for k0_t2_loop k0_t2_ok ⟨⟩ (k0_t2_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 v0 h1)
          let v13 : Vec F S512x2048 .f32 ← Prog.lift (.load (Memref.whole cc0_scratch0) (Rect.unit (s := S512x2048) ![0, 0] S512x2048.size inb_S512x2048_S512x2048_0_0).toLoadRect (View.loadsAt_vmem h_S512x2048))
          let _v15 : Vec F S512x2048 .bf16 ← Prog.lift (.load arg13 (Rect.unit (s := S512x2048) ![0, 0] S512x2048.size inb_S512x2048_S512x2048_0_0).toLoadRect (View.loadsAt_vmem h_S512x2048))
          Prog.lift (.store arg13 (Rect.unit (s := S512x2048) ![0, 0] S512x2048.size inb_S512x2048_S512x2048_0_0) (k0_pay1 v13) Finset.univ (View.stores_vmem h_S512x2048 (harg13.storeExact_slice rfl _ packedbf16_S512x2048_S512x2048_0_0) (fun _ => rfl)) (.inl rfl))
          let _v19 : Vec F S512x2048 .f32 ← Prog.lift (.load arg14 (Rect.unit (s := S512x2048) ![0, 0] S512x2048.size inb_S512x2048_S512x2048_0_0).toLoadRect (View.loadsAt_vmem h_S512x2048))
          Prog.lift (.store arg14 (Rect.unit (s := S512x2048) ![0, 0] S512x2048.size inb_S512x2048_S512x2048_0_0) (k0_pay2 (F := F)) Finset.univ (View.stores_vmem_bits_univ h_S512x2048 rfl) (.inl rfl))
          k
        else k) Q := by
  have z2 : (![0, 0] : Fin 2 → ℕ) = fun _ => 0 := by decide
  by_cases h1 : k0_cond1 i v0 = 1#1
  · rw [dif_pos h1, if_pos h1, if_pos h1, if_pos h1]
    iintro ⟨Hh, Hx, Hs, H4, HO, Hb, Ha, Hk⟩
    icases owns_out $$ H4 with ⟨%f4, %hd, H4⟩
    iapply (gather hd hw h1)
    isplitl [Hh]; · iexact Hh
    isplitl [Hx]; · iexact Hx
    isplitl [Hs]; · iexact Hs
    isplitl [H4]; · iexact H4
    isplitl [HO]; · iexact HO
    iintro ⟨Hh, Hx, Hs, H4, HO⟩
    ihave Hx := (from_of (owns_whole (c : Thread nD τ) cc0_scratch0 fullShare (gath d fh))) $$ Hx
    iapply (ld_whole z2) $$ Hx; iintro Hx
    iapply (ld_whole z2) $$ Hb; iintro Hb
    iapply (st_whole z2) $$ Hb; iintro Hb
    iapply (ld_whole z2) $$ Ha; iintro Ha
    iapply (st_whole z2) $$ Ha; iintro Ha
    iapply Hk
    isplitl [Hh]; · iexact Hh
    isplitl [Hx]; · iapply (to_of (owns_whole (c : Thread nD τ) cc0_scratch0 fullShare (gath d fh))); iexact Hx
    isplitl [Hs]; · iexact Hs
    isplitl [H4]
    · iapply owns_in; iexists f4; isplitr; · ipureintro; exact hd
      iexact H4
    isplitl [HO]; · iexact HO
    isplitl [Hb]; · iexact Hb
    iexact Ha
  · rw [dif_neg h1, if_neg h1, if_neg h1, if_neg h1]
    iintro ⟨Hh, Hx, Hs, H4, HO, Hb, Ha, Hk⟩
    iapply Hk
    isplitl [Hh]; · iexact Hh
    isplitl [Hx]; · iexact Hx
    isplitl [Hs]; · iexact Hs
    isplitl [H4]; · iexact H4
    isplitl [HO]; · iexact HO
    isplitl [Hb]; · iexact Hb
    iexact Ha

/-- THE LAST STAGE: at a tile's last step the weighted accumulator (zeros on a tile that is not valid) is scattered into the result. -/
theorem stage_last {v0 : BitVec 32} {fy : S21504x2048.Idx → Elt F .f32} {fx ga : S512x2048.Idx → Elt F .f32} {xw : S512x1.Idx → Elt F .f32}
    (hw : ∀ r, (word d r).toNat < 21504) (hinj : ∀ r r', (word d r).toNat = (word d r').toNat → r = r')
    {k : Prog (TpuEff nD τ sig (Elt F) Λ₀ .tc) PUnit} {Q : PUnit → sProp 𝕄} :
    iprop(yPt c Finset.univ fy ∗ xPt c Finset.univ fx ∗ semVal ((c : Thread nD τ), .dma cc0_scratch4.sem) 0
      ∗ owns (c : Thread nD τ) arg5 q4 d ∗ (∃ W, owes (c : Thread nD τ) 0 W)
      ∗ owns (c : Thread nD τ) arg14 fullShare ga ∗ owns (c : Thread nD τ) arg6 fullShare xw
      ∗ (iprop(yPt c Finset.univ (if k0_cond3 i = 1#1 then scat d (k0_pay4 i v0 ga xw) fy else fy)
          ∗ xPt c Finset.univ (if k0_cond3 i = 1#1 then k0_pay4 i v0 ga xw else fx)
          ∗ semVal ((c : Thread nD τ), .dma cc0_scratch4.sem) 0 ∗ owns (c : Thread nD τ) arg5 q4 d ∗ (∃ W, owes (c : Thread nD τ) 0 W)
          ∗ owns (c : Thread nD τ) arg14 fullShare ga ∗ owns (c : Thread nD τ) arg6 fullShare xw) -∗ WP c k Q))
      ⊢ WP c (if h3 : k0_cond3 i = 1#1 then do
          let v11 : Vec F S512x2048 .f32 ← Prog.lift (.load arg14 (Rect.unit (s := S512x2048) ![0, 0] S512x2048.size inb_S512x2048_S512x2048_0_0).toLoadRect (View.loadsAt_vmem h_S512x2048))
          let v12 : Vec F S512x1 .f32 ← Prog.lift (.load arg6 (Rect.unit (s := S512x1) ![0, 0] S512x1.size inb_S512x1_S512x1_0_0).toLoadRect (View.loadsAt_vmem h_S512x1))
          let _v17 : Vec F S512x2048 .f32 ← Prog.lift (.load (Memref.whole cc0_scratch0) (Rect.unit (s := S512x2048) ![0, 0] S512x2048.size inb_S512x2048_S512x2048_0_0).toLoadRect (View.loadsAt_vmem h_S512x2048))
          Prog.lift (.store (Memref.whole cc0_scratch0) (Rect.unit (s := S512x2048) ![0, 0] S512x2048.size inb_S512x2048_S512x2048_0_0) (k0_pay4 i v0 v11 v12) Finset.univ (View.stores_vmem_bits_univ h_S512x2048 rfl) (.inl rfl))
          Scf.Loop.for k0_t3_loop (k0_t3_ok i h3) ⟨⟩ (k0_t3_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 h3)
          Scf.Loop.for k0_t4_loop (k0_t4_ok i h3) ⟨⟩ (k0_t4_body i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4 h3)
          k
        else k) Q := by
  have z2 : (![0, 0] : Fin 2 → ℕ) = fun _ => 0 := by decide
  by_cases h3 : k0_cond3 i = 1#1
  · rw [dif_pos h3, if_pos h3, if_pos h3]
    iintro ⟨Hy, Hx, Hs, H5, HO, Ha, H6, Hk⟩
    ihave Hx := (from_of (owns_whole (c : Thread nD τ) cc0_scratch0 fullShare fx)) $$ Hx
    iapply (ld_whole z2) $$ Ha; iintro Ha
    iapply (ld_whole z2) $$ H6; iintro H6
    iapply (ld_whole z2) $$ Hx; iintro Hx
    iapply (st_whole z2) $$ Hx; iintro Hx
    ihave Hx := (to_of (owns_whole (c : Thread nD τ) cc0_scratch0 fullShare (k0_pay4 i v0 ga xw))) $$ Hx
    icases owns_out $$ H5 with ⟨%f5, %hd, H5⟩
    iapply (scatter hd hw hinj h3)
    isplitl [Hy]; · iexact Hy
    isplitl [Hx]; · iexact Hx
    isplitl [Hs]; · iexact Hs
    isplitl [H5]; · iexact H5
    isplitl [HO]; · iexact HO
    iintro ⟨Hy, Hx, Hs, H5, HO⟩
    iapply Hk
    isplitl [Hy]; · iexact Hy
    isplitl [Hx]; · iexact Hx
    isplitl [Hs]; · iexact Hs
    isplitl [H5]
    · iapply owns_in; iexists f5; isplitr; · ipureintro; exact hd
      iexact H5
    isplitl [HO]; · iexact HO
    isplitl [Ha]; · iexact Ha
    iexact H6
  · rw [dif_neg h3, if_neg h3, if_neg h3]
    iintro ⟨Hy, Hx, Hs, H5, HO, Ha, H6, Hk⟩
    iapply Hk
    isplitl [Hy]; · iexact Hy
    isplitl [Hx]; · iexact Hx
    isplitl [Hs]; · iexact Hs
    isplitl [H5]; · iexact H5
    isplitl [HO]; · iexact HO
    isplitl [Ha]; · iexact Ha
    iexact H6

/-! ## The body -/

/-- The number of valid tiles, as the table of one word holds it. -/
abbrev nval (n : S1.Idx → BitVec 32) : BitVec 32 := n (Shape.Idx.first (numel1_S1.symm ▸ Nat.one_pos))

/-- A load of the one word of a table yields that word. -/
theorem ld_word {off : Fin 1 → ℕ} (h : off = fun _ => 0) {inb : ∀ a, off a + S1.size a ≤ S1.size a} {q : PosShare TreeShare}
    {n : S1.Idx → BitVec 32} {hr : (Rect.unit (s := S1) off S1.size inb).shape.numel = 1} {hp : EltTy.i32.packing = 1}
    {k : BitVec 32 → Prog (TpuEff nD τ sig (Elt F) Λ₀ .tc) PUnit} {Q : PUnit → sProp 𝕄} :
    owns (c : Thread nD τ) arg3 q n ⊢ iprop((owns (c : Thread nD τ) arg3 q n -∗ WP c (k (nval n)) Q)
      -∗ WP c (smemLoad arg3 (Rect.unit off S1.size inb) hr hp >>= k) Q) := by
  subst h
  unfold owns
  iintro ⟨%f, %hf, H⟩ Hk
  iapply (wp_load_rect Variants.none (c : Thread nD τ) none Set.univ (m := arg3) (r := Rect.unit (fun _ => 0) S1.size inb) (q := q) (f := f)
    (S := arg3.view.set) (View.set_slice_subset _ _)) $$ H
  iintro H
  have e : (arg3.access (Rect.unit (fun _ => 0) S1.size inb)).read (Elt F) f = n := by
    rw [← hf]; funext x
    show arg3.view.read (Elt F) f ((Rect.whole S1).emb x) = _
    rw [Rect.emb_whole_apply]
  rw [e]
  iapply Hk
  iexists f
  isplitr; · ipureintro; exact hf
  iexact H

/-- Whether the point's tile is one of the valid ones. -/
abbrev vld (i : grid0.Coords) (v0 : BitVec 32) : BitVec 1 :=
  Scalar.cmpi .ne (Scalar.extui (Scalar.cmpi .slt (BitVec.ofNat 32 (i 0).val) v0) : BitVec 32) 0#32

/-- The cast tile after the body, -/
def bAfter (i : grid0.Coords) (v0 : BitVec 32) (ds : S1x1x512.Idx → BitVec 32) (fh : S8704x2048.Idx → Elt F .f32)
    (gb : S512x2048.Idx → Elt F .bf16) : S512x2048.Idx → Elt F .bf16 :=
  if k0_cond1 i v0 = 1#1 then k0_pay1 (gath ds fh) else gb

/-- the accumulator, -/
def aAfter (i : grid0.Coords) (v0 : BitVec 32) (ds : S1x1x512.Idx → BitVec 32) (fh : S8704x2048.Idx → Elt F .f32)
    (gb : S512x2048.Idx → Elt F .bf16) (ga : S512x2048.Idx → Elt F .f32)
    (x1 x3 : S1x1x2048x512.Idx → Elt F .f32) (x2 : S1x1x512x2048.Idx → Elt F .f32) : S512x2048.Idx → Elt F .f32 :=
  if vld i v0 = 1#1 then k0_pay3 (bAfter i v0 ds fh gb) x1 x3 (if k0_cond1 i v0 = 1#1 then k0_pay2 else ga) x2
  else if k0_cond1 i v0 = 1#1 then k0_pay2 else ga

/-- and the result, with `ga` the accumulator after the body. -/
def yAfter (i : grid0.Coords) (v0 : BitVec 32) (dd : S1x1x512.Idx → BitVec 32) (ga : S512x2048.Idx → Elt F .f32)
    (xw : S512x1.Idx → Elt F .f32) (fy : S21504x2048.Idx → Elt F .f32) : S21504x2048.Idx → Elt F .f32 :=
  if k0_cond3 i = 1#1 then scat dd (k0_pay4 i v0 ga xw) fy else fy

set_option maxHeartbeats 2000000 in
/-- THE BODY of one grid point, over any contents of the windows' blocks, the carried buffers and the arrays left in place. -/
theorem body {n : S1.Idx → BitVec 32} {ds dd : S1x1x512.Idx → BitVec 32} {qn q5 : PosShare TreeShare}
    {fh : S8704x2048.Idx → Elt F .f32} {fx : S512x2048.Idx → Elt F .f32} {fy : S21504x2048.Idx → Elt F .f32}
    {gb : S512x2048.Idx → Elt F .bf16} {ga : S512x2048.Idx → Elt F .f32} {xw : S512x1.Idx → Elt F .f32}
    {x1 x3 : S1x1x2048x512.Idx → Elt F .f32} {x2 : S1x1x512x2048.Idx → Elt F .f32}
    (hs : ∀ r, (word ds r).toNat < 8704) (hw : ∀ r, (word dd r).toNat < 21504)
    (hinj : ∀ r r', (word dd r).toNat = (word dd r').toNat → r = r') {Q : PUnit → sProp 𝕄} :
    iprop(owns (c : Thread nD τ) arg3 qn n
      ∗ owns (c : Thread nD τ) arg4 q4 ds ∗ owns (c : Thread nD τ) arg5 q5 dd ∗ owns (c : Thread nD τ) arg6 fullShare xw
      ∗ owns (c : Thread nD τ) arg8 fullShare x1 ∗ owns (c : Thread nD τ) arg9 fullShare x3 ∗ owns (c : Thread nD τ) arg10 fullShare x2
      ∗ hPt c Finset.univ fullShare fh ∗ yPt c Finset.univ fy ∗ xPt c Finset.univ fx
      ∗ owns (c : Thread nD τ) arg13 fullShare gb ∗ owns (c : Thread nD τ) arg14 fullShare ga
      ∗ semVal ((c : Thread nD τ), .dma cc0_scratch3.sem) 0 ∗ semVal ((c : Thread nD τ), .dma cc0_scratch4.sem) 0
      ∗ (∃ W, owes (c : Thread nD τ) 0 W)
      ∗ (iprop(owns (c : Thread nD τ) arg3 qn n
          ∗ owns (c : Thread nD τ) arg4 q4 ds ∗ owns (c : Thread nD τ) arg5 q5 dd ∗ owns (c : Thread nD τ) arg6 fullShare xw
          ∗ owns (c : Thread nD τ) arg8 fullShare x1 ∗ owns (c : Thread nD τ) arg9 fullShare x3 ∗ owns (c : Thread nD τ) arg10 fullShare x2
          ∗ hPt c Finset.univ fullShare fh
          ∗ yPt c Finset.univ (yAfter i (nval n) dd (aAfter i (nval n) ds fh gb ga x1 x3 x2) xw fy)
          ∗ (∃ fx', xPt c Finset.univ fx')
          ∗ owns (c : Thread nD τ) arg13 fullShare (bAfter i (nval n) ds fh gb)
          ∗ owns (c : Thread nD τ) arg14 fullShare (aAfter i (nval n) ds fh gb ga x1 x3 x2)
          ∗ semVal ((c : Thread nD τ), .dma cc0_scratch3.sem) 0 ∗ semVal ((c : Thread nD τ), .dma cc0_scratch4.sem) 0
          ∗ (∃ W, owes (c : Thread nD τ) 0 W)) -∗ Q ⟨⟩))
      ⊢ WP c (cc0_ffn_experts i arg2 harg2 arg3 harg3 arg4 harg4 arg5 harg5 arg6 harg6 (Memref.whole main_arg2) (Memref.isWhole_whole _) arg8 harg8 arg9 harg9 arg10 harg10 (Memref.whole main_v116) (Memref.isWhole_whole _) (Memref.whole cc0_scratch0) (Memref.isWhole_whole _) arg13 harg13 arg14 harg14 cc0_scratch3 cc0_scratch4) Q := by
  rw [cc0_ffn_experts_eq_skeleton]
  unfold cc0_ffn_experts_skel
  iintro ⟨H3, H4, H5, H6, H8, H9, H10, Hh, Hy, Hx, Hb, Ha, Hs, Hs', HO, Hk⟩
  iapply (ld_word (by decide)) $$ H3; iintro H3
  iapply (stage_first (d := ds) hs (fh := fh) (fx := fx) (gb := gb) (ga := ga) (v0 := nval n))
  isplitl [Hh]; · iexact Hh
  isplitl [Hx]; · iexact Hx
  isplitl [Hs]; · iexact Hs
  isplitl [H4]; · iexact H4
  isplitl [HO]; · iexact HO
  isplitl [Hb]; · iexact Hb
  isplitl [Ha]; · iexact Ha
  iintro ⟨Hh, Hx, Hs, H4, HO, Hb, Ha⟩
  iapply stage_mid
  isplitl [Hb]; · iexact Hb
  isplitl [Ha]; · iexact Ha
  isplitl [H8]; · iexact H8
  isplitl [H9]; · iexact H9
  isplitl [H10]; · iexact H10
  iintro ⟨Hb, Ha, H8, H9, H10⟩
  iapply (stage_last (d := dd) hw hinj (v0 := nval n))
  isplitl [Hy]; · iexact Hy
  isplitl [Hx]; · iexact Hx
  isplitl [Hs']; · iexact Hs'
  isplitl [H5]; · iexact H5
  isplitl [HO]; · iexact HO
  isplitl [Ha]; · iexact Ha
  isplitl [H6]; · iexact H6
  iintro ⟨Hy, Hx, Hs', H5, HO, Ha, H6⟩
  iapply (done (P := Q ⟨⟩) ⟨⟩)
  iapply Hk
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [Hh]; · iexact Hh
  isplitl [Hy]; · iexact Hy
  isplitl [Hx]; · iexists _; iexact Hx
  isplitl [Hb]; · iexact Hb
  isplitl [Ha]; · iexact Ha
  isplitl [Hs]; · iexact Hs
  isplitl [Hs']; · iexact Hs'
  iexact HO

end Cert.KernelE.Rows

end
-- ==== Proof.Carry.lean ====
/-
  What the experts' kernel's carried buffers and its result hold after any number of grid points.
-/
module

public import proofs.«01_k».proof.Proof.Host
public import proofs.«01_k».proof.Proof.Body
public import Idealize.ShloMosaic.Lib.Pipeline.FrameBody
public import Idealize.ShloMosaic.Lib.WordCmp
public import Idealize.ShloMosaic.Lib.Pipeline.Value

@[expose] public section

noncomputable section

namespace Cert.KernelE.Rows

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

open Gen

variable {F : FTy → Type} [FloatOps F]

local notation "𝕄" => MT nD τ sig Unit (Elt F) ℕ (Pipeline.UD sig nD τ) ℕ

variable (m : (ℓ : Loc nD τ sig) → Buf (Elt F) ℓ)

/-- The two tables at the launch: the experts of the tiles, and the number of valid tiles. -/
abbrev tbl : pre0.Contents (Elt F) := fun k => V m 0 (pre0.ref k)

/-- Word `r` of tile `T`. -/
def tix (T : Fin 42) (r : Fin 512) : S42x1x512.Idx := fun a => match a with
  | 0 => T
  | 1 => (0 : Fin 1)
  | 2 => r

/-- The tables as arrays of words. -/
abbrev te : S42.Idx → BitVec 32 := V m 0 main_v45
abbrev nt : S1.Idx → BitVec 32 := V m 0 main_v112

/-- The words of a device's index arrays name rows that exist, no two words of one tile name the same row of the
    result, and each tile's expert exists. -/
structure Good : Prop where
  ok : ok0 (tbl m)
  src : ∀ (c : Dev nD) (T : Fin 42) (r : Fin 512), (V m c main_v113 (tix T r) : BitVec 32).toNat < 8704
  dst : ∀ (c : Dev nD) (T : Fin 42) (r : Fin 512), (V m c main_v114 (tix T r) : BitVec 32).toNat < 21504
  inj : ∀ (c : Dev nD) (T T' : Fin 42) (r r' : Fin 512), (V m c main_v114 (tix T r) : BitVec 32).toNat
    = (V m c main_v114 (tix T' r') : BitVec 32).toNat → T = T' ∧ r = r'

variable (g : Good m)

/-- The tables, admissible. -/
abbrev ad : (p : Fin 1) → (pcfgs (F := F) p).Adm := fun _ => ⟨tbl m, g.ok⟩

/-- The pipeline at them. -/
abbrev cf : Cfg sig Λ₀ := cfg0 (ad m g 0)

/-- Window `w`'s block of its array at point `t`. -/
def iblk (c : Dev nD) (w : Fin (cf m g).W) (t : Fin (cf m g).N) : ((cf m g).win w).block.Idx → Elt F ((cf m g).win w).elt :=
  (((cf m g).win w).blk t).view.read (Elt F) (V m c (arrRef spec0 w))

abbrev bS (c : Dev nD) (t : Fin (cf m g).N) : S1x1x512.Idx → BitVec 32 := iblk m g c 0 t
abbrev bD (c : Dev nD) (t : Fin (cf m g).N) : S1x1x512.Idx → BitVec 32 := iblk m g c 1 t
abbrev bW (c : Dev nD) (t : Fin (cf m g).N) : S512x1.Idx → Elt F .f32 := iblk m g c 2 t
abbrev b1 (c : Dev nD) (t : Fin (cf m g).N) : S1x1x2048x512.Idx → Elt F .f32 := iblk m g c 3 t
abbrev b3 (c : Dev nD) (t : Fin (cf m g).N) : S1x1x2048x512.Idx → Elt F .f32 := iblk m g c 4 t
abbrev b2 (c : Dev nD) (t : Fin (cf m g).N) : S1x1x512x2048.Idx → Elt F .f32 := iblk m g c 5 t

/-- The number of valid tiles. -/
abbrev nv : BitVec 32 := nval (nt m)

/-- The activations. -/
abbrev hh (c : Dev nD) : S8704x2048.Idx → Elt F .f32 := V m c main_arg2

/-- The carried state: the cast tile, the accumulator, the result. -/
abbrev St (F : FTy → Type) : Type := (S512x2048.Idx → Elt F .bf16) × (S512x2048.Idx → Elt F .f32) × (S21504x2048.Idx → Elt F .f32)

/-- One point's step of the carried state. -/
def stp (c : Dev nD) (t : Fin (cf m g).N) (s : St F) : St F :=
  let a := aAfter (grid0.coords t) (nv m) (bS m g c t) (hh m c) s.1 s.2.1 (b1 m g c t) (b3 m g c t) (b2 m g c t)
  (bAfter (grid0.coords t) (nv m) (bS m g c t) (hh m c) s.1, a, yAfter (grid0.coords t) (nv m) (bD m g c t) a (bW m g c t) s.2.2)

/-- The carried state after `n` points, from what the two scratch buffers held before the first. -/
def st (c : Dev nD) (s : St F) : ℕ → St F
  | 0 => s
  | n + 1 => if h : n < (cf m g).N then stp m g c ⟨n, h⟩ (st c s n) else st c s n

theorem st_succ (c : Dev nD) (s : St F) (t : Fin (cf m g).N) : st m g c s (t.val + 1) = stp m g c t (st m g c s t.val) := by
  rw [st, dif_pos t.isLt]

/-- The state before the first point, the scratch buffers holding `gb` and `ga`. -/
abbrev s0 (c : Dev nD) (gb : S512x2048.Idx → Elt F .bf16) (ga : S512x2048.Idx → Elt F .f32) : St F := (gb, ga, V m c main_v116)

/-- A point's two coordinates: the tile and the step in it. -/
theorem coords_val : ∀ t : Fin grid0.N, (grid0.coords t 0).val = t.val / 8 ∧ (grid0.coords t 1).val = t.val % 8 := by decide

theorem ofNat_toNat {n : ℕ} (h : n < 4096) : (BitVec.ofNat 32 n).toNat = n := by
  rw [BitVec.toNat_ofNat]; exact Nat.mod_eq_of_lt (by omega)

/-- A block of an index array is a row of it. -/
theorem bS_word (c : Dev nD) (t : Fin (cf m g).N) (r : Fin 512) : word (bS m g c t) r = V m c main_v113 (tix (grid0.coords t 0) r) := by
  have h0 : (grid0.coords t 0).val < 42 := (grid0.coords t 0).isLt
  show V m c main_v113 ((((cf m g).win 0).rect t).emb (wix r)) = _
  have key : ∀ a : Fin 3, ((((cf m g).win 0).rect t).emb (wix r) a).val = (tix (grid0.coords t 0) r a).val := fun a => by
    refine (Window.rect_emb_val ((cf m g).win 0) t (wix r) a).trans ?_
    match a with
    | 0 => exact (Nat.mul_one _).trans (ofNat_toNat (lt_trans h0 (by decide)))
    | 1 => rfl
    | 2 => exact Nat.zero_add _
  exact congrArg _ (funext fun a => Fin.ext (key a))

theorem bD_word (c : Dev nD) (t : Fin (cf m g).N) (r : Fin 512) : word (bD m g c t) r = V m c main_v114 (tix (grid0.coords t 0) r) := by
  have h0 : (grid0.coords t 0).val < 42 := (grid0.coords t 0).isLt
  show V m c main_v114 ((((cf m g).win 1).rect t).emb (wix r)) = _
  have key : ∀ a : Fin 3, ((((cf m g).win 1).rect t).emb (wix r) a).val = (tix (grid0.coords t 0) r a).val := fun a => by
    refine (Window.rect_emb_val ((cf m g).win 1) t (wix r) a).trans ?_
    match a with
    | 0 => exact (Nat.mul_one _).trans (ofNat_toNat (lt_trans h0 (by decide)))
    | 1 => rfl
    | 2 => exact Nat.zero_add _
  exact congrArg _ (funext fun a => Fin.ext (key a))

/-! ## The carried state in closed form -/

theorem ne_ext (b : BitVec 1) : Scalar.cmpi .ne (Scalar.extui b : BitVec 32) 0#32 = b := by revert b; decide

/-- Whether tile `T` is one of the valid ones. -/
def vT (T : Fin 42) : BitVec 1 := Scalar.cmpi .slt (BitVec.ofNat 32 T.val) (nv m)

/-- The grid point of step `j` of tile `T`. -/
def pt (T : Fin 42) (j : Fin 8) : Fin (cf m g).N := ⟨8 * T.val + j.val, by show 8 * T.val + j.val < 336; omega⟩

theorem pt0 (T : Fin 42) (j : Fin 8) : grid0.coords (pt m g T j) 0 = T := by
  refine Fin.ext ((coords_val (pt m g T j)).1.trans ?_)
  show (8 * T.val + j.val) / 8 = T.val
  omega

theorem pt1 (T : Fin 42) (j : Fin 8) : grid0.coords (pt m g T j) 1 = j := by
  refine Fin.ext ((coords_val (pt m g T j)).2.trans ?_)
  show (8 * T.val + j.val) % 8 = j.val
  omega

theorem vld_pt (T : Fin 42) (j : Fin 8) : vld (grid0.coords (pt m g T j)) (nv m) = vT m T := by
  unfold vld vT; rw [ne_ext, pt0]

theorem step_first : ∀ j : Fin 8, Scalar.cmpi .eq (BitVec.ofNat 32 j.val) 0#32 = if j = 0 then 1#1 else 0#1 := by decide
theorem step_last : ∀ j : Fin 8, Scalar.cmpi .eq (BitVec.ofNat 32 j.val) 7#32 = if j = 7 then 1#1 else 0#1 := by decide
theorem and_first (b : BitVec 1) : Scalar.andi b 1#1 = b := by revert b; decide
theorem and_later (b : BitVec 1) : Scalar.andi b 0#1 = 0#1 := by revert b; decide

theorem cond1_pt (T : Fin 42) (j : Fin 8) : k0_cond1 (grid0.coords (pt m g T j)) (nv m) = if j = 0 then vT m T else 0#1 := by
  unfold k0_cond1 vT
  dsimp only
  rw [ne_ext, pt0, pt1, step_first]
  by_cases h : j = 0
  · rw [if_pos h, if_pos h, and_first]
  · rw [if_neg h, if_neg h, and_later]

theorem cond3_pt (T : Fin 42) (j : Fin 8) : k0_cond3 (grid0.coords (pt m g T j)) = if j = 7 then 1#1 else 0#1 := by
  unfold k0_cond3
  dsimp only
  rw [ne_ext, pt1, step_last]

/-- Tile `T` of the activations gathered and cast. -/
def xb (c : Dev nD) (T : Fin 42) : S512x2048.Idx → Elt F .bf16 := k0_pay1 (gath (bS m g c (pt m g T 0)) (hh m c))

/-- Tile `T`'s accumulator after `n` steps. -/
def accT (c : Dev nD) (T : Fin 42) : ℕ → S512x2048.Idx → Elt F .f32
  | 0 => k0_pay2
  | n + 1 => if h : n < 8 then k0_pay3 (xb m g c T) (b1 m g c (pt m g T ⟨n, h⟩)) (b3 m g c (pt m g T ⟨n, h⟩)) (accT c T n)
      (b2 m g c (pt m g T ⟨n, h⟩)) else accT c T n

/-- A valid tile's carried buffers after each of its steps. -/
theorem st_tile (c : Dev nD) (s : St F) (T : Fin 42) (hv : vT m T = 1#1) :
    ∀ n, n < 8 → (st m g c s (8 * T.val + n + 1)).1 = xb m g c T ∧ (st m g c s (8 * T.val + n + 1)).2.1 = accT m g c T (n + 1)
  | 0, hn => by
    have e := st_succ m g c s (pt m g T ⟨0, hn⟩)
    have c1 := cond1_pt m g T ⟨0, hn⟩
    rw [if_pos (show (⟨0, hn⟩ : Fin 8) = 0 from rfl), hv] at c1
    have v1 := (vld_pt m g T ⟨0, hn⟩).trans hv
    rw [show 8 * T.val + 0 + 1 = (pt m g T ⟨0, hn⟩).val + 1 from rfl, e]
    unfold stp aAfter bAfter
    dsimp only
    rw [if_pos c1, if_pos v1, if_pos c1, accT, dif_pos hn]
    exact ⟨rfl, rfl⟩
  | n + 1, hn => by
    have ih := st_tile c s T hv n (by omega)
    have e := st_succ m g c s (pt m g T ⟨n + 1, hn⟩)
    have c1 := cond1_pt m g T ⟨n + 1, hn⟩
    rw [if_neg (fun h => by have := congrArg Fin.val h; simp at this)] at c1
    have c1' : ¬ k0_cond1 (grid0.coords (pt m g T ⟨n + 1, hn⟩)) (nv m) = 1#1 := by rw [c1]; decide
    have v1 := (vld_pt m g T ⟨n + 1, hn⟩).trans hv
    rw [show 8 * T.val + (n + 1) + 1 = (pt m g T ⟨n + 1, hn⟩).val + 1 from rfl, e]
    unfold stp aAfter bAfter
    dsimp only
    rw [if_neg c1', if_pos v1, if_neg c1', accT, dif_pos hn]
    rw [show (pt m g T ⟨n + 1, hn⟩).val = 8 * T.val + n + 1 from rfl, ih.1, ih.2]
    exact ⟨rfl, rfl⟩

/-- The rows of tile `T` as they are scattered. -/
def outT (c : Dev nD) (T : Fin 42) : S512x2048.Idx → Elt F .f32 :=
  k0_pay4 (grid0.coords (pt m g T 7)) (nv m) (accT m g c T 8) (bW m g c (pt m g T 7))

/-- Of a tile that is not valid the accumulator is not looked at. -/
theorem pay4_not_valid (i : grid0.Coords) (v0 : BitVec 32) (h : ¬ vld i v0 = 1#1) (a a' : S512x2048.Idx → Elt F .f32) (w : S512x1.Idx → Elt F .f32) :
    k0_pay4 i v0 a w = k0_pay4 i v0 a' w := by
  unfold vld at h
  rw [ne_ext] at h
  unfold k0_pay4
  dsimp only
  unfold Scalar.select
  rw [if_neg (show ¬ Scalar.cmpi .slt (BitVec.ofNat 32 (i 0).val) v0 = 1 from h), if_neg (show ¬ Scalar.cmpi .slt (BitVec.ofNat 32 (i 0).val) v0 = 1 from h)]

theorem payload (c : Dev nD) (s : St F) (T : Fin 42) :
    k0_pay4 (grid0.coords (pt m g T 7)) (nv m) (st m g c s ((pt m g T 7).val + 1)).2.1 (bW m g c (pt m g T 7)) = outT m g c T := by
  unfold outT
  by_cases hv : vT m T = 1#1
  · rw [show (pt m g T 7).val + 1 = 8 * T.val + 7 + 1 from rfl, (st_tile m g c s T hv 7 (by omega)).2]
  · exact pay4_not_valid _ _ (by rw [vld_pt]; exact hv) _ _ _

/-- The row of the result that word `r` of tile `T` names. -/
def drow (c : Dev nD) (T : Fin 42) (r : Fin 512) : Fin 21504 := ⟨(V m c main_v114 (tix T r) : BitVec 32).toNat, g.dst c T r⟩

theorem scat_other {d : S1x1x512.Idx → BitVec 32} (fx : S512x2048.Idx → Elt F .f32) (fy : S21504x2048.Idx → Elt F .f32) (y : S21504x2048.Idx)
    (h : ∀ r, (word d r).toNat ≠ (y 0).val) : scat d fx fy y = fy y := by
  unfold scat
  rw [dif_neg fun ⟨r, hr⟩ => h r hr]

/-- A tile's rows of the result, once the tile is done. -/
theorem st_rows (c : Dev nD) (s : St F) : ∀ n, n ≤ 336 → ∀ (T : Fin 42) (r : Fin 512) (k : Fin 2048), 8 * T.val + 8 ≤ n →
    (st m g c s n).2.2 (rix (drow m g c T r) k) = outT m g c T (rix r k)
  | 0, _, T, r, k, h => by omega
  | n + 1, hn, T, r, k, h => by
    have ih := st_rows c s n (by omega)
    obtain ⟨T', j, e⟩ : ∃ T' j, n = (pt m g T' j).val :=
      ⟨⟨n / 8, by omega⟩, ⟨n % 8, by omega⟩, by show n = 8 * (n / 8) + n % 8; omega⟩
    have e' : n = 8 * T'.val + j.val := e
    have es := st_succ m g c s (pt m g T' j)
    rw [← e] at es
    have ey : (st m g c s (n + 1)).2.2 = yAfter (grid0.coords (pt m g T' j)) (nv m) (bD m g c (pt m g T' j)) (st m g c s (n + 1)).2.1
        (bW m g c (pt m g T' j)) (st m g c s n).2.2 := by rw [es]; rfl
    rw [ey]
    unfold yAfter
    rw [cond3_pt]
    by_cases hj : j = 7
    · subst hj
      rw [if_pos rfl, if_pos rfl, e, payload]
      have hw (r' : Fin 512) : (word (bD m g c (pt m g T' 7)) r').toNat = (drow m g c T' r').val := by rw [bD_word, pt0]; rfl
      by_cases hT : T = T'
      · subst hT
        rw [show drow m g c T r = ⟨(word (bD m g c (pt m g T 7)) r).toNat, by rw [hw]; exact (drow m g c T r).isLt⟩ from Fin.ext (hw r).symm]
        exact scat_row (fun a b hab => (g.inj c T T a b (by rw [hw, hw] at hab; exact hab)).2) _ _ r _ k
      · rw [scat_other _ _ _ fun r' hr' => hT (g.inj c T' T r' r (by rw [hw] at hr'; exact hr')).1.symm, ← e]
        refine ih T r k ?_
        have : T.val ≠ T'.val := fun h => hT (Fin.ext h)
        have : (7 : Fin 8).val = 7 := rfl
        omega
    · rw [if_neg hj, if_neg (by decide)]
      refine ih T r k ?_
      have : j.val ≠ 7 := fun h => hj (Fin.ext h)
      omega

/-- Every row of the result is named by a word. -/
theorem drow_surj (c : Dev nD) (R : Fin 21504) : ∃ T r, drow m g c T r = R := by
  have hi : Function.Injective fun p : Fin 42 × Fin 512 => drow m g c p.1 p.2 := fun p q h => by
    have e : (drow m g c p.1 p.2).val = (drow m g c q.1 q.2).val := congrArg Fin.val h
    exact Prod.ext (g.inj c p.1 q.1 p.2 q.2 e).1 (g.inj c p.1 q.1 p.2 q.2 e).2
  have hb := (Fintype.bijective_iff_injective_and_card _).2 ⟨hi, by rw [Fintype.card_prod, Fintype.card_fin, Fintype.card_fin, Fintype.card_fin]⟩
  obtain ⟨p, hp⟩ := hb.2 R
  exact ⟨p.1, p.2, hp⟩

theorem N_eq : (cf m g).N = 336 := rfl

/-- What the result holds at the end. -/
def fin (c : Dev nD) : S21504x2048.Idx → Elt F .f32 := (st m g c (s0 m c (k0_pay1 k0_pay2) k0_pay2) (cf m g).N).2.2

/-- In it the row that word `r` of tile `T` names is row `r` of what the tile scatters. -/
theorem fin_row (c : Dev nD) (T : Fin 42) (r : Fin 512) (k : Fin 2048) : fin m g c (rix (drow m g c T r) k) = outT m g c T (rix r k) := by
  unfold fin
  exact st_rows m g c _ (cf m g).N (Nat.le_of_eq (N_eq m g)) T r k (by rw [N_eq]; omega)

/-- What the result holds after the last point does not depend on what the scratch buffers held before the first. -/
theorem st_end (c : Dev nD) (s : St F) : (st m g c s (cf m g).N).2.2 = fin m g c := by
  funext y
  obtain ⟨T, r, h⟩ := drow_surj m g c (y 0)
  have ey : y = rix (drow m g c T r) (y 1) := by
    rw [h]; funext a; match a with
    | 0 => rfl
    | 1 => rfl
  rw [ey]
  exact (st_rows m g c s (cf m g).N (Nat.le_of_eq (N_eq m g)) T r _ (by rw [N_eq]; omega)).trans (fin_row m g c T r _).symm

end Cert.KernelE.Rows

end
-- ==== Proof.Run.lean ====
/-
  The experts' kernel launched: the invariant between its grid points, and the run of the whole program.
-/
module

public import proofs.«01_k».proof.Proof.Carry
public import Idealize.ShloMosaic.Lib.Pipeline.FrameBody
public import Idealize.ShloMosaic.Lib.WordCmp
public import Idealize.ShloMosaic.Lib.Pipeline.Value

@[expose] public section

noncomputable section

namespace Cert.KernelE.Rows

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

open Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (g : Good m)

/-! ## The invariant -/

/-- The kernel's own two semaphores. -/
abbrev osem0 : Fin 2 → SemLoc sig := fun j => (![SemLoc.dma 12, SemLoc.dma 13] : Fin 2 → SemLoc sig) j
theorem ownSemFacts0 : OwnSemFacts spec0 osem0 := by decide
theorem ownSems00_eq (c : Dev nD) :
    (ownSems0 (Ix := Unit) (Name := ℕ) (U := Pipeline.UD sig nD τ) (Lvl := ℕ) (Val := Elt F) (τ := τ) osem0 c : sProp 𝕄)
      = iprop(semVal ((c : Thread nD τ), .dma cc0_scratch3.sem) 0 ∗ semVal ((c : Thread nD τ), .dma cc0_scratch4.sem) 0) := by
  rw [Pipeline.ownSems0_eq_of_list c osem0 [0, 1] (by decide) (by decide)]; rfl

/-- The array the kernel reads by itself, and the one it writes. -/
def H0 : Finset (Ref sig .tc) := {main_arg2}
def R0 : Finset (Ref sig .tc) := {main_v116}
theorem H0_sub : H0 ⊆ restRefsP sig pre0 spec0 := by decide
theorem R0_sub : R0 ⊆ restRefsP sig pre0 spec0 \ H0 := by decide
theorem H0_eq (c : Dev nD) :
    (bigSep H0 (fun b => ((c : Thread nD τ).loc b) ↦{fullShare} V m c b) : sProp 𝕄) = hPt c Finset.univ fullShare (hh m c) := by
  rw [BI.bigSep_eq_bigSepL_of_eq [main_arg2] (by decide) (by decide)]; rfl
theorem R0_eq (c : Dev nD) (G : (b : Ref sig .tc) → Buf (Elt F) ((c : Thread nD τ).loc b)) :
    (routed R0 c G : sProp 𝕄) = yPt c Finset.univ (G main_v116) := by
  unfold routed; rw [BI.bigSep_eq_bigSepL_of_eq [main_v116] (by decide) (by decide)]; rfl
theorem tbl_eq (c : Dev nD) :
    (ΦT pre0 (tbl m) c : sProp 𝕄) = iprop(owns (c : Thread nD τ) (Memref.whole main_v45) fullShare.right (te m)
      ∗ owns (c : Thread nD τ) (Memref.whole main_v112) fullShare.right (nt m)) := by
  have e0 : (owns (c : Thread nD τ) (Memref.whole main_v45) fullShare.right (te m) : sProp 𝕄) = (((c : Thread nD τ).loc main_v45) ↦{fullShare.right} te m) := owns_whole _ _ _ _
  have e1 : (owns (c : Thread nD τ) (Memref.whole main_v112) fullShare.right (nt m) : sProp 𝕄) = (((c : Thread nD τ).loc main_v112) ↦{fullShare.right} nt m) := owns_whole _ _ _ _
  rw [e0, e1]
  unfold ΦT prefHeld
  rw [BI.bigSep_univ_eq_bigSepL [(0 : Fin 2), (1 : Fin 2)] (by decide) (by decide)]
  rfl

/-- What the body is handed before point `n` and hands on: its buffers at the state carried there. -/
def inv (c : Dev nD) (n : ℕ) : sProp 𝕄 :=
  iprop(∃ gb ga, (∃ fx, xPt c Finset.univ fx)
    ∗ owns (c : Thread nD τ) (Memref.whole cc0_scratch1) fullShare (st m g c (s0 m c gb ga) n).1
    ∗ owns (c : Thread nD τ) (Memref.whole cc0_scratch2) fullShare (st m g c (s0 m c gb ga) n).2.1
    ∗ (∃ r, prngReg c r)
    ∗ semVal ((c : Thread nD τ), .dma cc0_scratch3.sem) 0 ∗ semVal ((c : Thread nD τ), .dma cc0_scratch4.sem) 0
    ∗ hPt c Finset.univ fullShare (hh m c) ∗ yPt c Finset.univ (st m g c (s0 m c gb ga) n).2.2
    ∗ owns (c : Thread nD τ) (Memref.whole main_v45) fullShare.right (te m)
    ∗ owns (c : Thread nD τ) (Memref.whole main_v112) fullShare.right (nt m))

/-- The pipeline's data: every window's block in place, the invariant between the points. -/
def dats (_ : Fin 1) (c : Dev nD) : Dat τ (Elt F) Unit ℕ (Pipeline.UD sig nD τ) ℕ (cf m g) c where
  A w := V m c (arrRef spec0 w)
  after w t := iblk m g c w t
  Φ t := inv m g c t.val
  q _ := fullShare
  owed _ := 0

theorem before_eq (c : Dev nD) (w : Fin (cf m g).W) (t : Fin (cf m g).N) (d) : (dats m g 0 c).before w t d = iblk m g c w t := by
  refine ((dats m g 0 c).before_in_eq_fetched w ?_ (fun _ => rfl) (fun _ _ _ => rfl) (fun t => rfl) t d).trans ?_
  · match w with | 0 => rfl | 1 => rfl | 2 => rfl | 3 => rfl | 4 => rfl | 5 => rfl
  · unfold Dat.fetched Dat.blockOf iblk
    match w with | 0 => rfl | 1 => rfl | 2 => rfl | 3 => rfl | 4 => rfl | 5 => rfl

/-- The body at point `t`, as the pipeline calls it. -/
abbrev bodyAt (t : Fin (cf m g).N) : Prog (TpuEff nD τ sig (Elt F) Λ₀ .tc) PUnit :=
  cc0_ffn_experts (grid0.coords t) (Memref.whole main_v45) (Memref.isWhole_whole _) (Memref.whole main_v112) (Memref.isWhole_whole _)
    (spec0_0.stage ((cf m g).slots t 0)) (hstage0_0 (((cf m g).slots t 0).cast nbuf0_0))
    (spec0_1.stage ((cf m g).slots t 1)) (hstage0_1 (((cf m g).slots t 1).cast nbuf0_1))
    (spec0_2.stage ((cf m g).slots t 2)) (hstage0_2 (((cf m g).slots t 2).cast nbuf0_2))
    (Memref.whole main_arg2) (Memref.isWhole_whole _)
    (spec0_3.stage ((cf m g).slots t 3)) (hstage0_3 (((cf m g).slots t 3).cast nbuf0_3))
    (spec0_4.stage ((cf m g).slots t 4)) (hstage0_4 (((cf m g).slots t 4).cast nbuf0_4))
    (spec0_5.stage ((cf m g).slots t 5)) (hstage0_5 (((cf m g).slots t 5).cast nbuf0_5))
    (Memref.whole main_v116) (Memref.isWhole_whole _) (Memref.whole cc0_scratch0) (Memref.isWhole_whole _)
    (Memref.whole cc0_scratch1) (Memref.isWhole_whole _) (Memref.whole cc0_scratch2) (Memref.isWhole_whole _) cc0_scratch3 cc0_scratch4

theorem defs₀_row (t : Fin (cf m g).N) : defs₀ .tc (cf m g).body ((cf m g).bodyArgs t ((cf m g).slots t)) = bodyAt m g t := by
  unfold defs₀; rw [Defs.onTc_tc]

/-- What the body is handed at point `t`, -/
def bodyPre (c : Dev nD) (t : Fin (cf m g).N) : sProp 𝕄 :=
  iprop(inv m g c t.val ∗ (∃ W, owes (c : Thread nD τ) 0 W)
    ∗ owns (c : Thread nD τ) (spec0_0.stage ((cf m g).slots t 0)) fullShare (bS m g c t)
    ∗ owns (c : Thread nD τ) (spec0_1.stage ((cf m g).slots t 1)) fullShare (bD m g c t)
    ∗ owns (c : Thread nD τ) (spec0_2.stage ((cf m g).slots t 2)) fullShare (bW m g c t)
    ∗ owns (c : Thread nD τ) (spec0_3.stage ((cf m g).slots t 3)) fullShare (b1 m g c t)
    ∗ owns (c : Thread nD τ) (spec0_4.stage ((cf m g).slots t 4)) fullShare (b3 m g c t)
    ∗ owns (c : Thread nD τ) (spec0_5.stage ((cf m g).slots t 5)) fullShare (b2 m g c t))

/-- and what it hands on. -/
def bodyPost (c : Dev nD) (t : Fin (cf m g).N) : sProp 𝕄 :=
  iprop(inv m g c (t.val + 1) ∗ (∃ W, owes (c : Thread nD τ) 0 W)
    ∗ owns (c : Thread nD τ) (spec0_0.stage ((cf m g).slots t 0)) fullShare (bS m g c t)
    ∗ owns (c : Thread nD τ) (spec0_1.stage ((cf m g).slots t 1)) fullShare (bD m g c t)
    ∗ owns (c : Thread nD τ) (spec0_2.stage ((cf m g).slots t 2)) fullShare (bW m g c t)
    ∗ owns (c : Thread nD τ) (spec0_3.stage ((cf m g).slots t 3)) fullShare (b1 m g c t)
    ∗ owns (c : Thread nD τ) (spec0_4.stage ((cf m g).slots t 4)) fullShare (b3 m g c t)
    ∗ owns (c : Thread nD τ) (spec0_5.stage ((cf m g).slots t 5)) fullShare (b2 m g c t))

theorem sound_body (c : Dev nD) (t : Fin (cf m g).N) : bodyPre m g c t ⊢ WP c (bodyAt m g t) (fun _ => bodyPost m g c t) := by
  unfold bodyPre bodyPost inv
  iintro ⟨⟨%gb, %ga, ⟨%fx, Hx⟩, Hb, Ha, Hr, Hs, Hs', Hh, Hy, Ht, Hn⟩, HO, H4, H5, H6, H8, H9, H10⟩
  iapply (body (n := nt m) (ds := bS m g c t) (dd := bD m g c t)
    (fun r => by rw [bS_word]; exact g.src c _ r) (fun r => by rw [bD_word]; exact g.dst c _ r)
    (fun r r' h => by rw [bD_word, bD_word] at h; exact (g.inj c _ _ _ _ h).2))
  isplitl [Hn]; · iexact Hn
  isplitl [H4]; · iexact H4
  isplitl [H5]; · iexact H5
  isplitl [H6]; · iexact H6
  isplitl [H8]; · iexact H8
  isplitl [H9]; · iexact H9
  isplitl [H10]; · iexact H10
  isplitl [Hh]; · iexact Hh
  isplitl [Hy]; · iexact Hy
  isplitl [Hx]; · iexact Hx
  isplitl [Hb]; · iexact Hb
  isplitl [Ha]; · iexact Ha
  isplitl [Hs]; · iexact Hs
  isplitl [Hs']; · iexact Hs'
  isplitl [HO]; · iexact HO
  iintro ⟨Hn, H4, H5, H6, H8, H9, H10, Hh, Hy, Hx, Hb, Ha, Hs, Hs', HO⟩
  isplitl [Hn Hh Hy Hx Hb Ha Hs Hs' Hr Ht]
  · iexists gb, ga
    isplitl [Hx]; · iexact Hx
    isplitl [Hb]; · iapply (from_of (congrArg (owns (c : Thread nD τ) (Memref.whole cc0_scratch1) fullShare) (congrArg Prod.fst (st_succ m g c _ t)))); iexact Hb
    isplitl [Ha]; · iapply (from_of (congrArg (owns (c : Thread nD τ) (Memref.whole cc0_scratch2) fullShare) (congrArg (fun s => s.2.1) (st_succ m g c _ t)))); iexact Ha
    isplitl [Hr]; · iexact Hr
    isplitl [Hs]; · iexact Hs
    isplitl [Hs']; · iexact Hs'
    isplitl [Hh]; · iexact Hh
    isplitl [Hy]; · iapply (from_of (congrArg (yPt c Finset.univ) (congrArg (fun s => s.2.2) (st_succ m g c _ t)))); iexact Hy
    isplitl [Ht]; · iexact Ht
    iexact Hn
  isplitl [HO]; · iexact HO
  isplitl [H4]; · iexact H4
  isplitl [H5]; · iexact H5
  isplitl [H6]; · iexact H6
  isplitl [H8]; · iexact H8
  isplitl [H9]; · iexact H9
  iexact H10

theorem Phi_eq (c : Dev nD) (j : Fin ((cf m g).N + 1)) : (dats m g 0 c).Φ j = inv m g c j.val := by dsimp only [dats]

/-- THE BODY OBLIGATION of the pipeline. -/
theorem body_obligation (c : Dev nD) : BodyObligation (dats m g 0 c) (defs₀ (F := F)) Variants.none () Set.univ := fun t => by
  rw [bigSep_W0, bigSep_W0, defs₀_row]
  refine triple_restated (sound_body m g c t) rfl ?_ fun _ => ?_
  · unfold bodyPre Dat.owesAt Pipeline.owesWithin
    iintro ⟨HI, ⟨%W, -, HW⟩, ⟨%d0, H0⟩, ⟨%d1, H1⟩, ⟨%d2, H2⟩, ⟨%d3, H3⟩, ⟨%d4, H4⟩, ⟨%d5, H5⟩⟩
    isplitl [HI]; · iapply (to_of (Phi_eq m g c t.castSucc)); iexact HI
    isplitl [HW]; · iexists W; iexact HW
    isplitl [H0]; · iapply (to_of (congrArg (owns (c : Thread nD τ) (spec0_0.stage ((cf m g).slots t 0)) fullShare) (before_eq m g c 0 t d0))); iexact H0
    isplitl [H1]; · iapply (to_of (congrArg (owns (c : Thread nD τ) (spec0_1.stage ((cf m g).slots t 1)) fullShare) (before_eq m g c 1 t d1))); iexact H1
    isplitl [H2]; · iapply (to_of (congrArg (owns (c : Thread nD τ) (spec0_2.stage ((cf m g).slots t 2)) fullShare) (before_eq m g c 2 t d2))); iexact H2
    isplitl [H3]; · iapply (to_of (congrArg (owns (c : Thread nD τ) (spec0_3.stage ((cf m g).slots t 3)) fullShare) (before_eq m g c 3 t d3))); iexact H3
    isplitl [H4]; · iapply (to_of (congrArg (owns (c : Thread nD τ) (spec0_4.stage ((cf m g).slots t 4)) fullShare) (before_eq m g c 4 t d4))); iexact H4
    iapply (to_of (congrArg (owns (c : Thread nD τ) (spec0_5.stage ((cf m g).slots t 5)) fullShare) (before_eq m g c 5 t d5))); iexact H5
  · unfold bodyPost Dat.owesAt Pipeline.owesWithin
    iintro ⟨HI, ⟨%W, HW⟩, H0, H1, H2, H3, H4, H5⟩
    isplitl [HI]; · iapply (from_of (Phi_eq m g c t.succ)); iexact HI
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

/-- The arrays at the end. -/
def Gf (c : Dev nD) (b : Ref sig .tc) : Buf (Elt F) ((c : Thread nD τ).loc b) :=
  if h : b = main_v116 then h ▸ fin m g c else V m c b

theorem Gf_v0 (c : Dev nD) : Gf m g c main_v116 = fin m g c := by unfold Gf; rw [dif_pos rfl]

theorem inv_in (c : Dev nD) : iprop(ΦDRG osem0 spec0 H0 R0 (V m) (V m) c ∗ ΦT pre0 (tbl m) c) ⊢ inv m g c 0 := by
  rw [ΦDRG_eq, scopedRest0_eq, ownSems00_eq, H0_eq, R0_eq, tbl_eq]
  unfold inv
  iintro ⟨⟨⟨Hx, ⟨%gb, Hb⟩, ⟨%ga, Ha⟩⟩, Hr, ⟨Hs, Hs'⟩, Hh, Hy⟩, Ht, Hn⟩
  iexists gb, ga
  isplitl [Hx]; · iexact Hx
  isplitl [Hb]; · iapply (from_of (owns_whole (c : Thread nD τ) cc0_scratch1 fullShare gb)); iexact Hb
  isplitl [Ha]; · iapply (from_of (owns_whole (c : Thread nD τ) cc0_scratch2 fullShare ga)); iexact Ha
  isplitl [Hr]; · iexact Hr
  isplitl [Hs]; · iexact Hs
  isplitl [Hs']; · iexact Hs'
  isplitl [Hh]; · iexact Hh
  isplitl [Hy]; · iexact Hy
  isplitl [Ht]; · iexact Ht
  iexact Hn

theorem inv_out (c : Dev nD) : inv m g c (cf m g).N ⊢ ΦDRG osem0 spec0 H0 R0 (V m) (Gf m g) c := by
  rw [ΦDRG_eq, scopedRest0_eq, ownSems00_eq, H0_eq, R0_eq, Gf_v0]
  unfold inv
  iintro ⟨%gb, %ga, Hx, Hb, Ha, Hr, Hs, Hs', Hh, Hy, -, -⟩
  isplitl [Hx Hb Ha]
  · isplitl [Hx]; · iexact Hx
    isplitl [Hb]
    · iexists _; iapply (to_of (owns_whole (c : Thread nD τ) cc0_scratch1 fullShare _)); iexact Hb
    · iexists _; iapply (to_of (owns_whole (c : Thread nD τ) cc0_scratch2 fullShare _)); iexact Ha
  isplitl [Hr]; · iexact Hr
  isplitl [Hs Hs']
  · isplitl [Hs]; · iexact Hs
    iexact Hs'
  isplitl [Hh]; · iexact Hh
  iapply (to_of (congrArg (yPt c Finset.univ) (st_end m g c (s0 m c gb ga)))); iexact Hy

theorem hostOps_sub : (hostOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub,
    hostOps0_14_sub, hostOps0_15_sub, hostOps0_16_sub, hostOps0_17_sub, hostOps0_18_sub, hostOps0_19_sub, hostOps0_20_sub, hostOps0_21_sub⟩

theorem hostOps_fresh : (hostOps (F := F)).Forall fun ops => ops.Forall fun op => op.fresh = ∅ := by
  simp only [List.Forall]
  repeat' constructor

set_option backward.isDefEq.respectTransparency.types false in
theorem hmain : HMainP (Ix := Unit) (Name := ℕ) (U := Pipeline.UD sig nD τ) (Lvl := ℕ) pcfgs (0 : Fin 1) (defs₀ (F := F)) Variants.none m main (V m) := by
  rw [V_eq]
  exact hmainP_prefixes pcfgs 0 defs₀ Variants.none m main hostOps hostOps_sub hostOps_fresh fun c => (main_chain c).trans rfl

set_option backward.isDefEq.respectTransparency.types false in
theorem run_main : θ_run defs (onTc (τ := τ) (main (F := F))) (s₀ m ρ)
    (fun r => FramePostRG (pin pcfgs (ad m g)) (dats m g) 0 R0 (V m) (Gf m g) r ∧ r.2.sem = fun _ => 0) :=
  θ_run_frameP_dmaRG (Q' := _) pcfgs (ad m g) (dats m g) (0 : Fin 1) launch0 osem0 defs₀ Variants.none ownSemFacts0 H0 R0 H0_sub R0_sub m ρ main
    (hbody := fun c => (body_obligation m g c).loose) (hshare := fun c => (dats m g 0 c).share_full fun _ => rfl)
    (howed := fun _ _ => rfl) (V := V m) (hmain := hmain m)
    (hA := fun _ _ => rfl) (hpf := fun c k => by match c with | 0 => rfl) (G := Gf m g)
    (hin := fun c => (inv_in m g c).trans (from_of (Phi_eq m g c 0))) (hout := fun c => (to_of (Phi_eq m g c _)).trans (inv_out m g c)) (hQ' := fun _ h => h)

/-- THE FRAME AND THE VALUE: the program ends with its six arguments unchanged, its result at the state carried past the
    last point, and its semaphores at zero. -/
theorem run : θ_run defs (onTc (τ := τ) (main (F := F))) ⟨m, fun _ => 0, ρ⟩ (fun r => (∀ c : Dev nD,
      r.2.mem ((c.tc : Thread nD τ).loc main_v116) = fin m g c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, h.2⟩) (run_main m ρ g)
  have hw := (h.1.1 c).1
  have hr := (h.1.1 c).2
  have k (b : Ref sig .tc) (h1) (h2 : b ∉ R0) := hr b (Finset.mem_sdiff.mpr ⟨h1, h2⟩)
  have a (b : Ref sig .tc) := V_arg m c b
  refine ⟨(h.1.2 c main_v116 (by decide)).trans (Gf_v0 m g c), (k main_arg0 (show main_arg0 ∈ restRefs sig spec0 by decide) (by decide)).trans (a _ (by decide)),
    (k main_arg1 (show main_arg1 ∈ restRefs sig spec0 by decide) (by decide)).trans (a _ (by decide)),
    (k main_arg2 (show main_arg2 ∈ restRefs sig spec0 by decide) (by decide)).trans (a _ (by decide)), ?_, ?_, ?_⟩
  · exact ((hw 3).trans (Dat.arrAt_in _ _ rfl _)).trans (a main_arg3 (by decide))
  · exact ((hw 4).trans (Dat.arrAt_in _ _ rfl _)).trans (a main_arg4 (by decide))
  · exact ((hw 5).trans (Dat.arrAt_in _ _ rfl _)).trans (a main_arg5 (by decide))

end Cert.KernelE.Rows

end
-- ==== Proof.Tables.lean ====
/-
  The blocks of the experts' weights: which block a grid point reads, by the two tables, and that all of them exist when
  every tile's expert does.
-/
module

public import proofs.«01_k».proof.Proof.Carry
public import Idealize.ShloMosaic.Lib.Pointwise

@[expose] public section

noncomputable section

namespace Cert.KernelE.Rows

open Idealize.ShloMosaic Idealize.ShloMosaic.TcCoe Idealize.ShloMosaic.Pipeline
open Gen

variable {F : FTy → Type} [FloatOps F]

/-- The expert of a point's tile, as the first table names it. -/
def pe (pf : pre0.Contents (Elt F)) (i : grid0.Coords) : BitVec 32 := (pf 0 : S42.Idx → BitVec 32) (ix1 (i 0))

/-- The block of hidden units a point reads: its own on a valid tile, the last on another. -/
def pb (pf : pre0.Contents (Elt F)) (i : grid0.Coords) : BitVec 32 :=
  Scalar.select (Scalar.cmpi .slt (BitVec.ofNat 32 (i 0).val) (nval (pf 1))) (BitVec.ofNat 32 (i 1).val) 7#32

theorem at_expert (pf : pre0.Contents (Elt F)) (i : grid0.Coords) :
    pf.at 0 (Rect.unit (s := S42) (k0_off1 i) S1.size (k0_off1_inb i)) numel1_S1 = pe pf i := by
  have h0 : (i 0).val < 42 := (i 0).isLt
  unfold pe
  refine congrArg (pf 0 : S42.Idx → BitVec 32) (show (_ : S42.Idx) = ix1 (i 0) from funext fun (a : Fin 1) => Fin.ext ?_)
  rw [Subsingleton.elim a 0]
  show (BitVec.ofNat 32 (i 0).val).toNat + 1 * 0 = (i 0).val
  rw [ofNat_toNat (lt_trans h0 (by decide))]
  rfl

theorem at_valid (pf : pre0.Contents (Elt F)) :
    pf.at 1 (Rect.unit (s := S1) ![0] S1.size inb_S1_S1_0) numel1_S1 = nval (pf 1) := by
  refine congrArg (pf 1 : S1.Idx → BitVec 32) (show (_ : S1.Idx) = _ from funext fun (a : Fin 1) => Fin.ext ?_)
  rw [Subsingleton.elim a 0]
  rfl

theorem map4 (pf : pre0.Contents (Elt F)) (i : grid0.Coords) :
    cc0_transform_4 k0_off1_inb numel1_S1 inb_S1_S1_0 pf i = ![0, (pe pf i).toNat, 0, (pb pf i).toNat] := by
  rw [← at_expert]; unfold pb; rw [← at_valid]; rfl
theorem map5 (pf : pre0.Contents (Elt F)) (i : grid0.Coords) :
    cc0_transform_5 k0_off1_inb numel1_S1 inb_S1_S1_0 pf i = ![0, (pe pf i).toNat, 0, (pb pf i).toNat] := by
  rw [← at_expert]; unfold pb; rw [← at_valid]; rfl
theorem map6 (pf : pre0.Contents (Elt F)) (i : grid0.Coords) :
    cc0_transform_6 k0_off1_inb numel1_S1 inb_S1_S1_0 pf i = ![0, (pe pf i).toNat, (pb pf i).toNat, 0] := by
  rw [← at_expert]; unfold pb; rw [← at_valid]; rfl

theorem pb_lt (pf : pre0.Contents (Elt F)) (i : grid0.Coords) : (pb pf i).toNat < 8 := by
  have h1 : (i 1).val < 8 := (i 1).isLt
  unfold pb Scalar.select
  split_ifs
  · rw [ofNat_toNat (lt_trans h1 (by decide))]; exact h1
  · decide

/-- The blocks exist when the experts do. -/
theorem ok_of (pf : pre0.Contents (Elt F)) (h : ∀ T : Fin 42, ((pf 0 : S42.Idx → BitVec 32) (ix1 T)).toNat < 8) : ok0 pf := by
  have he (i : grid0.Coords) : (pe pf i).toNat < 8 := h (i 0)
  refine ⟨fun i => ⟨?_, Or.inl rfl⟩, fun i => ⟨?_, Or.inl rfl⟩, fun i => ⟨?_, Or.inl rfl⟩⟩
  · rw [map4]
    have := he i; have := pb_lt pf i
    intro a
    match a with
    | 0 => show (0 + 1) * 1 ≤ 2; omega
    | 1 => show ((pe pf i).toNat + 1) * 1 ≤ 8; omega
    | 2 => show (0 + 1) * 2048 ≤ 2048; omega
    | 3 => show ((pb pf i).toNat + 1) * 512 ≤ 4096; omega
  · rw [map5]
    have := he i; have := pb_lt pf i
    intro a
    match a with
    | 0 => show (0 + 1) * 1 ≤ 2; omega
    | 1 => show ((pe pf i).toNat + 1) * 1 ≤ 8; omega
    | 2 => show (0 + 1) * 2048 ≤ 2048; omega
    | 3 => show ((pb pf i).toNat + 1) * 512 ≤ 4096; omega
  · rw [map6]
    have := he i; have := pb_lt pf i
    intro a
    match a with
    | 0 => show (0 + 1) * 1 ≤ 2; omega
    | 1 => show ((pe pf i).toNat + 1) * 1 ≤ 8; omega
    | 2 => show ((pb pf i).toNat + 1) * 512 ≤ 4096; omega
    | 3 => show (0 + 1) * 2048 ≤ 2048; omega

/-- The experts exist when the blocks do. -/
theorem of_ok (pf : pre0.Contents (Elt F)) (h : ok0 pf) (i : grid0.Coords) : (pe pf i).toNat < 8 := by
  obtain ⟨h, _⟩ := h.1 i
  rw [map4] at h
  generalize (pe pf i).toNat = n at h ⊢
  have h1 : (n + 1) * 1 ≤ 8 := h (1 : Fin 4)
  omega

end Cert.KernelE.Rows

end
-- ==== Proof.Dispatch.lean ====
/-
  The dispatch of 17408 pairs (a token and one of its two experts) to the slots of 42 tiles of 512, in natural numbers: what
  the tables are when the pairs are sorted by expert and every expert's stretch is padded to whole tiles, that no two slots
  name one row, and that a row below 17408 is named by the slot that holds its pair.
-/
module

public import Idealize.ShloMosaic.Lib.Routing.Ops

@[expose] public section

namespace Cert.Dispatch

open Idealize.ShloMosaic.Routing

/-- The pairs' experts `e`, and the pairs `σ` in the order of their experts. -/
structure Sorted (e σ : ℕ → ℕ) : Prop where
  e_lt : ∀ p, p < 17408 → e p < 8
  lt : ∀ q, q < 17408 → σ q < 17408
  inj : ∀ q q', q < 17408 → q' < 17408 → σ q = σ q' → q = q'
  mono : ∀ q q', q ≤ q' → q' < 17408 → e (σ q) ≤ e (σ q')

section
variable (e : ℕ → ℕ)

/-- How many pairs an expert has, and how many it and the experts before it have. -/
def cnt (a : ℕ) : ℕ := Nat.count (fun p => e p = a) 17408
def cum (a : ℕ) : ℕ := ((List.range (a + 1)).map (cnt e)).sum
/-- Where an expert's stretch of the sorted pairs starts. -/
def start (a : ℕ) : ℕ := cum e a - cnt e a
/-- How many slots an expert has, and where its slots end and start. -/
def pad (a : ℕ) : ℕ := (cnt e a + 512 - 1) / 512 * 512
def pend (a : ℕ) : ℕ := ((List.range (a + 1)).map (pad e)).sum
def pst (a : ℕ) : ℕ := pend e a - pad e a
/-- How many tiles are valid. -/
def nval : ℕ := pend e 7 / 512
/-- How many experts' slots end before tile `T`: the tile's expert, or 8. -/
def raw (T : ℕ) : ℕ := Nat.count (fun a => pend e a ≤ T * 512) 8
/-- The tile's expert as the table has it. -/
def tileE (T : ℕ) : ℕ := min (raw e T) (raw e (nval e - 1))
/-- The expert of a slot, and the slot's place among the expert's. -/
def ec (s : ℕ) : ℕ := min (raw e (s / 512)) 7
def rk (s : ℕ) : ℕ := s - pst e (ec e s)
/-- Whether a slot holds a pair. -/
def real (s : ℕ) : Prop := raw e (s / 512) < 8 ∧ rk e s < cnt e (ec e s)
instance (s : ℕ) : Decidable (real e s) := inferInstanceAs (Decidable (_ ∧ _))
/-- The place of a slot's pair in the order. -/
def pos (s : ℕ) : ℕ := min (start e (ec e s) + rk e s) 17407
end

variable (e σ : ℕ → ℕ)

/-- A slot's pair, its row of the input and its row of the result. -/
def pr (s : ℕ) : ℕ := σ (pos e s)
def src (s : ℕ) : ℕ := if real e s then pr e σ s % 8704 else 0
def dst (s : ℕ) : ℕ :=
  if real e s then pr e σ s else if raw e (s / 512) < 8 then 17408 + s - (start e (ec e s) + cnt e (ec e s)) else s

variable {e σ}

theorem cum_zero : cum e 0 = cnt e 0 := by simp [cum]
theorem cum_succ (a : ℕ) : cum e (a + 1) = cum e a + cnt e (a + 1) := by
  unfold cum; rw [List.range_succ (n := a + 1), List.map_append, List.sum_append]; simp
theorem pend_zero : pend e 0 = pad e 0 := by simp [pend]
theorem pend_succ (a : ℕ) : pend e (a + 1) = pend e a + pad e (a + 1) := by
  unfold pend; rw [List.range_succ (n := a + 1), List.map_append, List.sum_append]; simp

theorem cum_eq (a : ℕ) : cum e a = Nat.count (fun p => e p ≤ a) 17408 := sum_count_eq e a 17408
theorem cum_le (a : ℕ) : cum e a ≤ 17408 := by rw [cum_eq]; exact Nat.count_le _
theorem cnt_le (a : ℕ) : cnt e a ≤ 17408 := Nat.count_le _
theorem cnt_le_cum (a : ℕ) : cnt e a ≤ cum e a := by
  cases a with
  | zero => rw [cum_zero]
  | succ a => rw [cum_succ]; omega
theorem start_cnt (a : ℕ) : start e a + cnt e a = cum e a := by have := cnt_le_cum (e := e) a; unfold start; omega
theorem start_zero : start e 0 = 0 := by unfold start; rw [cum_zero]; omega
theorem start_succ (a : ℕ) : start e (a + 1) = cum e a := by unfold start; rw [cum_succ]; omega

theorem pad_ge (a : ℕ) : cnt e a ≤ pad e a := by unfold pad; omega
theorem pad_le (a : ℕ) : pad e a ≤ cnt e a + 511 := by unfold pad; omega
theorem pad_dvd (a : ℕ) : 512 ∣ pad e a := ⟨_, Nat.mul_comm _ _⟩
theorem pend_dvd (a : ℕ) : 512 ∣ pend e a := by
  induction a with
  | zero => rw [pend_zero]; exact pad_dvd 0
  | succ a ih => rw [pend_succ]; exact Nat.dvd_add ih (pad_dvd _)
theorem pad_le_pend (a : ℕ) : pad e a ≤ pend e a := by
  cases a with
  | zero => rw [pend_zero]
  | succ a => rw [pend_succ]; omega
theorem pst_pad (a : ℕ) : pst e a + pad e a = pend e a := by have := pad_le_pend (e := e) a; unfold pst; omega
theorem pst_zero : pst e 0 = 0 := by unfold pst; rw [pend_zero]; omega
theorem pst_succ (a : ℕ) : pst e (a + 1) = pend e a := by unfold pst; rw [pend_succ]; omega
theorem cum_le_pend (a : ℕ) : cum e a ≤ pend e a := by
  induction a with
  | zero => rw [cum_zero, pend_zero]; exact pad_ge 0
  | succ a ih => rw [cum_succ, pend_succ]; have := pad_ge (e := e) (a + 1); omega
theorem pend_le_cum (a : ℕ) : pend e a ≤ cum e a + 511 * (a + 1) := by
  induction a with
  | zero => rw [cum_zero, pend_zero]; exact pad_le 0
  | succ a ih => rw [cum_succ, pend_succ]; have := pad_le (e := e) (a + 1); omega
theorem cum_mono {a b : ℕ} (h : a ≤ b) : cum e a ≤ cum e b := by
  induction b, h using Nat.le_induction with
  | base => exact le_refl _
  | succ b _ ih => rw [cum_succ]; omega
theorem pend_mono {a b : ℕ} (h : a ≤ b) : pend e a ≤ pend e b := by
  induction b, h using Nat.le_induction with
  | base => exact le_refl _
  | succ b _ ih => rw [pend_succ]; omega
/-- The slots without a pair, expert by expert. -/
theorem gap_mono {a b : ℕ} (h : a ≤ b) : pend e a + cum e b ≤ pend e b + cum e a := by
  induction b, h using Nat.le_induction with
  | base => exact le_refl _
  | succ b _ ih => rw [pend_succ, cum_succ]; have := pad_ge (e := e) (b + 1); omega

theorem pend7_le : pend e 7 ≤ 20992 := by
  have h := pend_le_cum (e := e) 7
  have h2 := cum_le (e := e) 7
  obtain ⟨k, hk⟩ := pend_dvd (e := e) 7
  omega
theorem pend_le (a : ℕ) (ha : a < 8) : pend e a ≤ 20992 := (pend_mono (by omega)).trans pend7_le
theorem nval_mul : nval e * 512 = pend e 7 := Nat.div_mul_cancel (pend_dvd 7)

theorem raw_iff (T r : ℕ) (hr : r < 8) : pend e r ≤ T * 512 ↔ r < raw e T :=
  lt_count_iff (N := 8) (Q := fun a => pend e a ≤ T * 512) (fun _ _ h _ hb => (pend_mono h).trans hb) hr
theorem raw_le (T : ℕ) : raw e T ≤ 8 := Nat.count_le _
theorem raw_mono {T T' : ℕ} (h : T ≤ T') : raw e T ≤ raw e T' := by
  by_contra hc
  have h8 := raw_le (e := e) T
  have := (raw_iff (e := e) T (raw e T') (by omega)).2 (by omega)
  have := (raw_iff (e := e) T' (raw e T') (by omega)).1 (by omega)
  omega

/-- Where a slot of a tile that has an expert lies. -/
theorem slot_in (s : ℕ) (h : raw e (s / 512) < 8) :
    ec e s = raw e (s / 512) ∧ pst e (ec e s) ≤ s ∧ s < pend e (ec e s) := by
  have e1 : ec e s = raw e (s / 512) := by unfold ec; omega
  refine ⟨e1, ?_, ?_⟩
  · rw [e1]
    cases hr : raw e (s / 512) with
    | zero => rw [pst_zero]; omega
    | succ a => rw [pst_succ]; have := (raw_iff (e := e) (s / 512) a (by omega)).2 (by omega); omega
  · rw [e1]
    have := mt (raw_iff (e := e) (s / 512) _ h).1 (by omega)
    obtain ⟨k, hk⟩ := pend_dvd (e := e) (raw e (s / 512))
    omega

/-- And of a tile that has none. -/
theorem slot_out (s : ℕ) (h : ¬ raw e (s / 512) < 8) : pend e 7 ≤ s := by
  have := (raw_iff (e := e) (s / 512) 7 (by omega)).2 (by omega)
  omega

theorem pst_le (s : ℕ) : pst e (ec e s) ≤ s := by
  by_cases h : raw e (s / 512) < 8
  · exact (slot_in s h).2.1
  · have := slot_out s h
    have h7 : ec e s = 7 := by have := raw_le (e := e) (s / 512); unfold ec; omega
    rw [h7]; have := pst_pad (e := e) 7; omega

theorem ec_lt (s : ℕ) : ec e s < 8 := by unfold ec; omega

theorem tileE_lt (h : 0 < nval e) (T : ℕ) : tileE e T < 8 := by
  have hm := nval_mul (e := e)
  have := mt (raw_iff (e := e) (nval e - 1) 7 (by omega)).2 (by omega)
  unfold tileE; omega

section
variable (S : Sorted e σ)
include S

theorem cum7 : cum e 7 = 17408 := by
  rw [cum_eq]
  exact (Nat.count_iff_forall (p := fun p => e p ≤ 7)).2 fun p hp => by have := S.e_lt p hp; omega

theorem nval_pos : 0 < nval e := by
  have h := nval_mul (e := e); have := cum_le_pend (e := e) 7; have := cum7 S; omega

/-- The sorted pairs of the experts up to `a` are the first ones. -/
theorem sorted_le (a q : ℕ) (hq : q < 17408) : e (σ q) ≤ a ↔ q < cum e a := by
  have h1 := lt_count_iff (N := 17408) (Q := fun q => e (σ q) ≤ a) (fun x y hxy hy h => (S.mono x y hxy hy).trans h) hq
  rw [h1, cum_eq]
  have key : Nat.count (fun q => e (σ q) ≤ a) 17408 = Nat.count (fun p => e p ≤ a) 17408 := by
    rw [← card_filter_fin, ← card_filter_fin]
    let f : Fin 17408 → Fin 17408 := fun q => ⟨σ q.val, S.lt q.val q.isLt⟩
    have fi : Function.Injective f := fun x y h => Fin.ext (S.inj _ _ x.isLt y.isLt (congrArg Fin.val h))
    have fs := Finite.injective_iff_surjective.1 fi
    refine Finset.card_bij (fun q _ => f q) (fun q h => ?_) (fun x _ y _ h => fi h) (fun p h => ?_)
    · exact Finset.mem_filter.2 ⟨Finset.mem_univ _, (Finset.mem_filter.1 h).2⟩
    · obtain ⟨q, rfl⟩ := fs p
      exact ⟨q, Finset.mem_filter.2 ⟨Finset.mem_univ _, (Finset.mem_filter.1 h).2⟩, rfl⟩
  rw [key]

theorem sorted_eq (a q : ℕ) (h0 : start e a ≤ q) (h1 : q < cum e a) : e (σ q) = a := by
  have hq : q < 17408 := lt_of_lt_of_le h1 (cum_le a)
  have hl := (sorted_le S a q hq).2 h1
  cases a with
  | zero => omega
  | succ a =>
    rw [start_succ] at h0
    have := mt (sorted_le S a q hq).1 (by omega)
    omega

theorem pos_lt (s : ℕ) : pos e s < 17408 := by unfold pos; omega
theorem pr_lt (s : ℕ) : pr e σ s < 17408 := S.lt _ (pos_lt S s)
theorem src_lt (s : ℕ) : src e σ s < 8704 := by
  unfold src; split_ifs
  · exact Nat.mod_lt _ (by omega)
  · omega

omit S in
/-- A slot with a pair: its place in the order. -/
theorem pos_real (s : ℕ) (h : real e s) : pos e s = start e (ec e s) + rk e s ∧ pos e s < cum e (ec e s) := by
  have h1 := start_cnt (e := e) (ec e s)
  have h2 := cum_le (e := e) (ec e s)
  have h3 := h.2
  unfold pos; omega

/-- A slot without one: its row, by the tile. -/
theorem dst_pad (s : ℕ) (h : ¬ real e s) (hr : raw e (s / 512) < 8) :
    dst e σ s + cum e (ec e s) = 17408 + s ∧ pst e (ec e s) + cnt e (ec e s) ≤ s ∧ s < pend e (ec e s) := by
  have h1 := slot_in s hr
  have h2 : ¬ rk e s < cnt e (ec e s) := fun hc => h ⟨hr, hc⟩
  have h3 := start_cnt (e := e) (ec e s)
  have h4 := cum_le (e := e) (ec e s)
  have h5 : pst e (ec e s) + cnt e (ec e s) ≤ s := by unfold rk at h2; omega
  refine ⟨?_, h5, h1.2.2⟩
  unfold dst
  rw [if_neg h, if_pos hr]
  omega

theorem dst_pad_range (s : ℕ) (h : ¬ real e s) (hr : raw e (s / 512) < 8) : 17408 ≤ dst e σ s ∧ dst e σ s < pend e 7 := by
  have h1 := dst_pad S s h hr
  have h2 := gap_mono (e := e) (show ec e s ≤ 7 by have := ec_lt (e := e) s; omega)
  have h3 := cum7 S
  have h4 := start_cnt (e := e) (ec e s)
  have h5 : start e (ec e s) ≤ pst e (ec e s) := by
    cases ec e s with
    | zero => rw [start_zero]; omega
    | succ a => rw [start_succ, pst_succ]; exact cum_le_pend a
  omega

theorem dst_real (s : ℕ) (h : real e s) : dst e σ s = pr e σ s := by unfold dst; rw [if_pos h]
theorem dst_out (s : ℕ) (h : ¬ real e s) (hr : ¬ raw e (s / 512) < 8) : dst e σ s = s ∧ pend e 7 ≤ s := by
  refine ⟨?_, slot_out s hr⟩
  unfold dst; rw [if_neg h, if_neg hr]

theorem dst_ge (s : ℕ) (h : ¬ real e s) : 17408 ≤ dst e σ s := by
  by_cases hr : raw e (s / 512) < 8
  · exact (dst_pad_range S s h hr).1
  · have h1 := dst_out S s h hr
    have h2 := cum7 S; have h3 := cum_le_pend (e := e) 7
    omega

theorem dst_lt (s : ℕ) (hs : s < 21504) : dst e σ s < 21504 := by
  by_cases h : real e s
  · rw [dst_real S s h]; have := pr_lt S s; omega
  · by_cases hr : raw e (s / 512) < 8
    · have := (dst_pad_range S s h hr).2; have := pend7_le (e := e); omega
    · rw [(dst_out S s h hr).1]; exact hs

/-- No two slots name one row. -/
theorem dst_inj (s s' : ℕ) (he : dst e σ s = dst e σ s') : s = s' := by
  by_cases h : real e s <;> by_cases h' : real e s'
  · rw [dst_real S s h, dst_real S s' h'] at he
    have hp := S.inj _ _ (pos_lt S s) (pos_lt S s') he
    obtain ⟨p1, p2⟩ := pos_real s h
    obtain ⟨p1', p2'⟩ := pos_real s' h'
    have hE : ec e s = ec e s' := by
      have a1 := sorted_eq S _ _ (by omega) p2
      have a2 := sorted_eq S _ _ (by omega) p2'
      rw [hp] at a1
      omega
    rw [← hE] at p1'
    have q1 := pst_le (e := e) s
    have q2 := pst_le (e := e) s'
    rw [← hE] at q2
    have r1 : rk e s = s - pst e (ec e s) := rfl
    have r2 : rk e s' = s' - pst e (ec e s) := by rw [hE]; rfl
    omega
  · have := dst_ge S s' h'; have := pr_lt S s; rw [dst_real S s h] at he; omega
  · have := dst_ge S s h; have := pr_lt S s'; rw [dst_real S s' h'] at he; omega
  · by_cases hr : raw e (s / 512) < 8 <;> by_cases hr' : raw e (s' / 512) < 8
    · obtain ⟨a1, a2, a3⟩ := dst_pad S s h hr
      obtain ⟨b1, b2, b3⟩ := dst_pad S s' h' hr'
      have key : ∀ a b : ℕ, a < b → pend e a + start e b ≤ pst e b + cum e a := fun a b hab => by
        obtain ⟨b, rfl⟩ : ∃ k, b = k + 1 := ⟨b - 1, by omega⟩
        rw [start_succ, pst_succ]
        exact gap_mono (by omega)
      have c1 := start_cnt (e := e) (ec e s)
      have c2 := start_cnt (e := e) (ec e s')
      rcases Nat.lt_trichotomy (ec e s) (ec e s') with hl | hl | hl
      · have := key _ _ hl; omega
      · rw [hl] at a1; omega
      · have := key _ _ hl; omega
    · have := (dst_pad_range S s h hr).2; have := dst_out S s' h' hr'; omega
    · have := (dst_pad_range S s' h' hr').2; have := dst_out S s h hr; omega
    · rw [(dst_out S s h hr).1, (dst_out S s' h' hr').1] at he; exact he

/-- A slot with a pair: its tile is valid and of the pair's expert. -/
theorem real_tile (s : ℕ) (h : real e s) : s / 512 < nval e ∧ tileE e (s / 512) = e (pr e σ s) := by
  obtain ⟨a1, a2, a3⟩ := slot_in s h.1
  obtain ⟨p1, p2⟩ := pos_real s h
  have hv : s / 512 < nval e := by
    have h1 := nval_mul (e := e)
    have h2 := pend_mono (e := e) (show ec e s ≤ 7 by have := ec_lt (e := e) s; omega)
    omega
  refine ⟨hv, ?_⟩
  have hE := sorted_eq S _ _ (by omega) p2
  have hm := raw_mono (e := e) (show s / 512 ≤ nval e - 1 by omega)
  unfold tileE pr
  rw [hE, a1]
  omega

/-- A row below 17408 is named by a slot that holds the row's pair. -/
theorem row_real (s : ℕ) (h : dst e σ s < 17408) : real e s ∧ pr e σ s = dst e σ s := by
  by_cases hr : real e s
  · exact ⟨hr, (dst_real S s hr).symm⟩
  · have := dst_ge S s hr; omega

/-- And the others are named by slots that hold none. -/
theorem row_pad (s : ℕ) (h : 17408 ≤ dst e σ s) : ¬ real e s := fun hr => by
  have := pr_lt S s; rw [dst_real S s hr] at h; omega

end

end Cert.Dispatch
-- ==== Proof.Words.lean ====
/-
  The tables that the host builds for the experts' kernel, piece by piece: what each piece of the host's operations
  leaves, as the words of natural numbers.
-/
module

public import proofs.«01_k».proof.Proof.Host
public import proofs.«01_k».proof.Proof.Dispatch
public import Idealize.ShloMosaic.Lib.StableHlo.ReadAt
public import Idealize.ShloMosaic.Lib.Routing.Words
public import Idealize.ShloMosaic.Lib.Routing.OpsSearch
public import Idealize.ShloMosaic.Lib.Routing.OpsPair
public import Idealize.ShloMosaic.Lib.SortFacts
public import Idealize.ShloMosaic.Lib.PlanTiles.Rows
public import Idealize.ShloMosaic.Lib.DynamicIndex
public import Idealize.ShloMosaic.Lib.Pipeline.Value

@[expose] public section

set_option maxRecDepth 100000

noncomputable section

namespace Cert.KernelE.Rows

open Idealize.ShloMosaic hiding ix0 ix1 ix2 ix3
open Idealize.ShloMosaic.TcCoe Idealize.ShloMosaic.Routing Idealize.ShloMosaic.ValueIdx Idealize.ShloMosaic.WordCmp Idealize.ShloMosaic.PlanTiles
open Gen

variable {F : FTy → Type} [FloatOps F]

/-- An array of a valuation. -/
abbrev rd (U : Valuation τ sig (Elt F)) (b : Ref sig .tc) := U (Proc.devRef .tc b)

/-- A vector holds the words of a function's numbers. -/
def Nums {n : ℕ} (x : (shape1 n).Idx → BitVec 32) (f : ℕ → ℕ) : Prop := ∀ i : Fin n, x (ix1 i) = BitVec.ofNat 32 (f i.val)

/-- A vector of bits says where a property holds. -/
def Bits' {n : ℕ} (x : (shape1 n).Idx → BitVec 1) (P : ℕ → Prop) [DecidablePred P] : Prop :=
  ∀ i : Fin n, x (ix1 i) = BitVec.ofBool (decide (P i.val))

/-- A vector's numbers. -/
def num {n : ℕ} (x : (shape1 n).Idx → BitVec 32) (p : ℕ) : ℕ := if h : p < n then (x (ix1 ⟨p, h⟩)).toNat else 0

theorem ofNat_self (x : BitVec 32) : BitVec.ofNat 32 x.toNat = x := by simp

theorem slt_small (u v : BitVec 32) (hu : u.toNat < 8) (hv : v.toNat < 8) : (IntOp.cmpi .slt u v == 1#1) = decide (u.toNat < v.toNat) := by
  have h := cmpi_slt_ofNat (w := 32) (a := u.toNat) (b := v.toNat) (by omega) (by omega)
  rw [ofNat_self, ofNat_self] at h
  rw [h]
  by_cases h : u.toNat < v.toNat <;> simp [h]

theorem num_at {n : ℕ} (x : (shape1 n).Idx → BitVec 32) (i : Fin n) : num x i.val = (x (ix1 i)).toNat := by
  unfold num; rw [dif_pos i.isLt]

theorem nums_num {n : ℕ} (x : (shape1 n).Idx → BitVec 32) : Nums x (num x) := fun i => by
  rw [num_at]; exact (ofNat_self _).symm

theorem wrap_ofNat {k : ℕ} (hk : k < 2 ^ 31) (a : BitVec 32) :
    Scalar.select (IntOp.cmpi .slt (BitVec.ofNat 32 k) 0#32) a (BitVec.ofNat 32 k) = BitVec.ofNat 32 k :=
  wrap_of_lt _ _ (by rw [BitVec.toNat_ofNat, Nat.mod_eq_of_lt (by omega)]; exact hk)

/-- A table read at the numbers of a vector, each below the table's length. -/
theorem lookup {α : Type} {N n : ℕ} (d : GatherDims (shape1 N) (shape2 n 1) (shape1 n)) (hcoll : d.collapsedSliceDims = [0])
    (hob : d.operandBatchingDims = []) (hsim : d.startIndexMap = [0]) (hivd : d.indexVectorDim = 1) (x : (shape1 N).Idx → α)
    (h₁ : (shape1 n).BroadcastsInDim (shape2 n 1) (![0] : Fin 1 → Fin (shape2 n 1).rank)) (i z w : (shape1 n).Idx → BitVec 32)
    (g : ℕ → ℕ) (hi : Nums i g) (hz : ∀ j, z j = 0#32) (s : Fin n) (hg : g s.val < N) (hN : N < 2 ^ 31) :
    Host.gather d x (broadcastInDim (shape2 n 1) ![0] h₁ (select (cmpi .slt i z) (addi i w) i)) (ix1 s) = x (ix1 ⟨g s.val, hg⟩) := by
  refine take_ap d hcoll hob hsim hivd x _ s hg (by omega) ((bcCol h₁ _ s).trans ?_)
  show Scalar.select (IntOp.cmpi .slt (i (ix1 s)) (z (ix1 s))) _ (i (ix1 s)) = _
  rw [hz, hi s]
  exact wrap_ofNat (by omega) _

/-- The stable order of a vector of experts. -/
theorem sorted_of (x y : (shape1 17408).Idx → BitVec 32) (hx : ∀ p : Fin 17408, (x (ix1 p)).toNat < 8) (hy : ∀ p : Fin 17408, y (ix1 p) = BitVec.ofNat 32 p.val)
    (z : (shape1 17408).Idx → BitVec 32) (hz : z = (Host.sort2 (shape1 17408) 0 comparator_i32_i32_d0 x y).2) :
    Dispatch.Sorted (num x) (num z) := by
  have hd : 0 < (shape1 17408).rank := Nat.zero_lt_one
  have e : ∀ (j : (shape1 17408).Idx) (c : Fin 17408), j.along (⟨0, hd⟩ : Fin (shape1 17408).rank) c = ix1 c := fun j c =>
    (Shape.Idx.along_rank1 j c).trans (ofFin_eq_ix1 c)
  have key : ∃ R : Fin 17408 → Fin 17408 → Bool, (∀ a b, R a b = decide ((x (ix1 a)).toNat < (x (ix1 b)).toNat)) ∧
      ∀ q : Fin 17408, z (ix1 q) = BitVec.ofNat 32 (sortedFrom R q).val := by
    refine ⟨fun a b => decide ((x (ix1 a)).toNat < (x (ix1 b)).toNat), fun _ _ => rfl, fun q => ?_⟩
    rw [hz]
    unfold Host.sort2
    rw [dif_pos hd]
    refine (congrArg y (e _ _)).trans ((hy _).trans (congrArg (fun R => BitVec.ofNat 32 (sortedFrom R q).val) (funext fun a => funext fun b => ?_)))
    exact (congrArg₂ (fun u v => (IntOp.cmpi .slt u v == 1#1)) (congrArg x (e (ix1 q) a)) (congrArg x (e (ix1 q) b))).trans (slt_small _ _ (hx a) (hx b))
  obtain ⟨R, hR, hzR⟩ := key
  have hnum : ∀ q : Fin 17408, num z q.val = (sortedFrom R q).val := fun q => by
    rw [num_at, hzR, BitVec.toNat_ofNat, Nat.mod_eq_of_lt (lt_trans (sortedFrom R q).isLt (by decide))]
  refine ⟨fun p hp => ?_, fun q hq => ?_, fun q q' hq hq' he => ?_, fun q q' hqq hq' => ?_⟩
  · rw [show p = (⟨p, hp⟩ : Fin 17408).val from rfl, num_at]; exact hx _
  · rw [show q = (⟨q, hq⟩ : Fin 17408).val from rfl, hnum]; exact (sortedFrom R _).isLt
  · have h := he
    rw [show q = (⟨q, hq⟩ : Fin 17408).val from rfl, show q' = (⟨q', hq'⟩ : Fin 17408).val from rfl, hnum, hnum] at h
    exact congrArg Fin.val (sortedFrom_injective R (Fin.ext h))
  · rcases Nat.eq_or_lt_of_le hqq with h | h
    · rw [h]
    · have hn := sortedFrom_noInversion R R (fun a b hab => by rw [hR] at hab ⊢; simp at hab ⊢; omega) (fun a b hab => hab)
        (fun a b c hab hbc => by rw [hR] at hab hbc ⊢; simp at hab hbc ⊢; omega) (⟨q, lt_trans h hq'⟩ : Fin 17408) ⟨q', hq'⟩ h
      rw [hR] at hn
      have h1 := hnum ⟨q, lt_trans h hq'⟩
      have h2 := hnum ⟨q', hq'⟩
      simp only at h1 h2
      rw [h1, h2, num_at, num_at]
      simpa using hn

theorem toInt_small (k : ℕ) (hk : k < 42) : (BitVec.ofNat 32 k).toInt = (k : ℤ) := by
  rw [BitVec.toInt_eq_toNat_of_lt (by rw [BitVec.toNat_ofNat, Nat.mod_eq_of_lt (by omega)]; omega), BitVec.toNat_ofNat, Nat.mod_eq_of_lt (by omega)]

/-- One entry of a table of 42, as a scalar. -/
theorem pick (x : S42.Idx → BitVec 32) (start : Fin 1 → ℤ) (f : ℕ → ℕ) (k : ℕ) (h : Nums (n := 42) x f) (hk : k < 42) (hst : ∀ a, start a = (k : ℤ)) :
    (shapeCast S_ (Host.dynamicSlice S1 x start sliceFits_S42_S1) shapeCasts_S1_S_) ValueIdx.ix0 = BitVec.ofNat 32 (f k) := by
  refine (shapeCast_apply _ _ ValueIdx.ix0 (ix1 (0 : Fin 1)) rfl).trans ?_
  have hs : S42.Slices ![k] S1 := ⟨rfl, fun (a : Fin 1) => by rw [Subsingleton.elim a 0]; show k + 1 ≤ 42; omega⟩
  rw [Host.dynamicSlice_eq_extractStridedSlice S1 _ _ ![k] sliceFits_S42_S1 hs fun (a : Fin 1) => by rw [hst a, Subsingleton.elim a 0]; rfl]
  exact (slice1 k _ _ (0 : Fin 1) hk).trans (h ⟨k, hk⟩)

section
variable (U : Valuation τ sig (Elt F))

theorem w_v12 (e : ℕ → ℕ) (h : Nums (n := 17408) (rd U main_v1) e) (he : ∀ p : Fin 17408, e p.val < 8) :
    Nums (n := 8) (rd (StableHlo.after hostOps0_2 U) main_v12) (Dispatch.cnt e) := by
  intro s
  unfold rd
  after_reads_simp
  try simp -implicitDefEqProofs only [StableHlo.TRef.toBuf, StableHlo.TRef.ofBuf, cast_cast, cast_eq]
  refine reduce_count (by decide) _ _ _ _ s (fun p => e p = s.val) fun q => ?_
  show IntOp.cmpi .eq _ _ = 1#1 ↔ _
  rw [bcCols, bcRows]
  refine Eq.to_iff ((congrArg (fun x => IntOp.cmpi .eq x (BitVec.ofNat 32 s.val) = 1#1) (h q)).trans ?_)
  rw [cmpi_eq_ofNat (w := 32) (by have := he q; omega) (by have := s.isLt; omega)]
  by_cases hq : e q.val = s.val <;> simp [hq]

theorem w_v13 (f : ℕ → ℕ) (h : Nums (n := 8) (rd U main_v12) f) :
    Nums (n := 8) (rd (StableHlo.after hostOps0_3 U) main_v13) (fun a => ((List.range (a + 1)).map f).sum) := by
  intro s
  unfold rd
  after_reads_simp
  try simp -implicitDefEqProofs only [StableHlo.TRef.toBuf, StableHlo.TRef.ofBuf, cast_cast, cast_eq]
  exact cumsum1 rfl _ f h _ rfl _ _ s

theorem w_v22 (f : ℕ → ℕ) (h : Nums (n := 8) (rd U main_v21) f) :
    Nums (n := 8) (rd (StableHlo.after hostOps0_7 U) main_v22) (fun a => ((List.range (a + 1)).map f).sum) := by
  intro s
  unfold rd
  after_reads_simp
  try simp -implicitDefEqProofs only [StableHlo.TRef.toBuf, StableHlo.TRef.ofBuf, cast_cast, cast_eq]
  exact cumsum1 rfl _ f h _ rfl _ _ s

theorem w_v14 (f g : ℕ → ℕ) (h : Nums (n := 8) (rd U main_v13) f) (h' : Nums (n := 8) (rd U main_v12) g) (hl : ∀ a, g a ≤ f a) :
    Nums (n := 8) (rd (StableHlo.after hostOps0_4 U) main_v14) (fun a => f a - g a) := by
  intro s
  unfold rd
  after_reads_simp
  try simp -implicitDefEqProofs only [StableHlo.TRef.toBuf, StableHlo.TRef.ofBuf, cast_cast, cast_eq]
  exact (congrArg₂ (· - ·) (h s) (h' s)).trans (ofNat32_sub (hl _))

theorem w_v23 (f g : ℕ → ℕ) (h : Nums (n := 8) (rd U main_v22) f) (h' : Nums (n := 8) (rd U main_v21) g) (hl : ∀ a, g a ≤ f a) :
    Nums (n := 8) (rd (StableHlo.after hostOps0_8 U) main_v23) (fun a => f a - g a) := by
  intro s
  unfold rd
  after_reads_simp
  try simp -implicitDefEqProofs only [StableHlo.TRef.toBuf, StableHlo.TRef.ofBuf, cast_cast, cast_eq]
  exact (congrArg₂ (· - ·) (h s) (h' s)).trans (ofNat32_sub (hl _))

theorem w_v18 (f : ℕ → ℕ) (h : Nums (n := 8) (rd U main_v12) f) :
    Nums (n := 8) (rd (StableHlo.after hostOps0_4 U) main_v18) (fun a => f a + 512 - 1) := by
  intro s
  unfold rd
  after_reads_simp
  try simp -implicitDefEqProofs only [StableHlo.TRef.toBuf, StableHlo.TRef.ofBuf, cast_cast, cast_eq]
  refine Eq.trans ?_ (ofNat32_sub (show 1 ≤ f s.val + 512 by omega))
  rw [BitVec.ofNat_add]
  exact congrArg (fun x => x + 512#32 - 1#32) (h s)

theorem w_c_2 : (rd (StableHlo.after hostOps0_4 U) main_c_2 : S_.Idx → BitVec 32) ValueIdx.ix0 = BitVec.ofNat 32 512 := by
  unfold rd
  after_reads_simp
  try simp -implicitDefEqProofs only [StableHlo.TRef.toBuf, StableHlo.TRef.ofBuf, cast_cast, cast_eq]
  rfl

theorem w_v19 (f : ℕ → ℕ) (h : Nums (n := 8) (rd U main_v18) f) (hf : ∀ x : Fin 8, f x.val < 2 ^ 31) (hc : (rd U main_c_2 : S_.Idx → BitVec 32) ValueIdx.ix0 = BitVec.ofNat 32 512) :
    Nums (n := 8) (rd (StableHlo.after hostOps0_5 U) main_v19) (fun a => f a / 512) := by
  intro s
  unfold rd
  after_reads_simp
  try simp -implicitDefEqProofs only [StableHlo.TRef.toBuf, StableHlo.TRef.ofBuf, cast_cast, cast_eq]
  exact pyDiv_ap bcast_S_S8 _ _ _ (h s) hc (hf s) (by decide) (by decide)

theorem w_v21 (f : ℕ → ℕ) (h : Nums (n := 8) (rd U main_v19) f) :
    Nums (n := 8) (rd (StableHlo.after hostOps0_6 U) main_v21) (fun a => f a * 512) := by
  intro s
  unfold rd
  after_reads_simp
  try simp -implicitDefEqProofs only [StableHlo.TRef.toBuf, StableHlo.TRef.ofBuf, cast_cast, cast_eq]
  rw [BitVec.ofNat_mul]
  exact congrArg (fun x => x * 512#32) (h s)

theorem w_v25 (f : ℕ → ℕ) (h : Nums (n := 8) (rd U main_v22) f) : (rd (StableHlo.after hostOps0_8 U) main_v25 : S_.Idx → BitVec 32) ValueIdx.ix0 = BitVec.ofNat 32 (f 7) := by
  unfold rd
  after_reads_simp
  try simp -implicitDefEqProofs only [StableHlo.TRef.toBuf, StableHlo.TRef.ofBuf, cast_cast, cast_eq]
  refine (shapeCast_apply _ _ ValueIdx.ix0 (ix1 (0 : Fin 1)) rfl).trans ?_
  exact (slice1 7 _ _ (0 : Fin 1) (by decide)).trans (h 7)

theorem w_c_4 : (rd (StableHlo.after hostOps0_8 U) main_c_4 : S_.Idx → BitVec 32) ValueIdx.ix0 = BitVec.ofNat 32 512 := by
  unfold rd
  after_reads_simp
  try simp -implicitDefEqProofs only [StableHlo.TRef.toBuf, StableHlo.TRef.ofBuf, cast_cast, cast_eq]
  rfl

theorem w_v26 (a : ℕ) (h : (rd U main_v25 : S_.Idx → BitVec 32) ValueIdx.ix0 = BitVec.ofNat 32 a) (ha : a < 2 ^ 31) (hc : (rd U main_c_4 : S_.Idx → BitVec 32) ValueIdx.ix0 = BitVec.ofNat 32 512) :
    (rd (StableHlo.after hostOps0_9 U) main_v26 : S_.Idx → BitVec 32) ValueIdx.ix0 = BitVec.ofNat 32 (a / 512) := by
  unfold rd
  after_reads_simp
  try simp -implicitDefEqProofs only [StableHlo.TRef.toBuf, StableHlo.TRef.ofBuf, cast_cast, cast_eq]
  exact pyDiv0_ap _ _ h hc ha (by decide) (by decide)

theorem w_v36 (f : ℕ → ℕ) (h : Nums (n := 8) (rd U main_v22) f) (hf : ∀ x : Fin 8, f x.val < 2 ^ 31) :
    Nums (n := 42) (rd (StableHlo.after to_v36 U) main_v36) (fun T => Nat.count (fun a => f a ≤ T * 512) 8) := by
  intro s
  unfold rd
  after_reads_simp
  try simp -implicitDefEqProofs only [StableHlo.TRef.toBuf, StableHlo.TRef.ofBuf, cast_cast, cast_eq]
  refine reduce_count (by decide) _ _ _ _ s (fun a => f a ≤ s.val * 512) fun q => ?_
  show IntOp.cmpi .sge _ _ = 1#1 ↔ _
  rw [bcCols, bcRows]
  have e : (muli (iotaInDim S42 32 0) (broadcastInDim S42 ![] bcast_S_S42 (constantI S_ 32 512#32)) : S42.Idx → BitVec 32) (ix1 s) = BitVec.ofNat 32 (s.val * 512) := by
    rw [BitVec.ofNat_mul]; rfl
  have hs := s.isLt
  refine Eq.to_iff ?_
  refine (congrArg₂ (fun x y => (IntOp.cmpi .sge x y = 1#1)) e (h q)).trans ?_
  show ((BitVec.ofBool ((BitVec.ofNat 32 (f q.val)).sle (BitVec.ofNat 32 (s.val * 512))) = 1#1)) = _
  rw [sle_ofNat32 (hf q) (by omega)]
  by_cases hq : f q.val ≤ s.val * 512 <;> simp [hq]

theorem w_v41 (k : ℕ) (h : (rd U main_v26 : S_.Idx → BitVec 32) ValueIdx.ix0 = BitVec.ofNat 32 k) (hk : k < 2 ^ 31) :
    (rd (StableHlo.after to_v41 U) main_v41 : S_.Idx → BitVec 32) ValueIdx.ix0 = BitVec.ofNat 32 (k - 1) := by
  unfold rd
  after_reads_simp
  try simp -implicitDefEqProofs only [StableHlo.TRef.toBuf, StableHlo.TRef.ofBuf, cast_cast, cast_eq]
  have e : IntOp.maxsi (IntOp.subi ((rd U main_v26 : S_.Idx → BitVec 32) ValueIdx.ix0) 1#32) 0#32 = BitVec.ofNat 32 (k - 1) := by rw [h]; exact maxsi_pred hk
  refine (congrArg (fun x => Scalar.select (IntOp.cmpi .slt x 0#32) (IntOp.addi x 42#32) x) e).trans ?_
  exact wrap_ofNat (by omega) _

theorem w_v45 (f : ℕ → ℕ) (k : ℕ) (h : Nums (n := 42) (rd U main_v36) f) (hf : ∀ T : Fin 42, f T.val < 2 ^ 31) (hk : k < 42) (hi : (rd U main_v41 : S_.Idx → BitVec 32) ValueIdx.ix0 = BitVec.ofNat 32 k) :
    Nums (n := 42) (rd (StableHlo.after to_v45 U) main_v45) (fun T => min (f T) (f k)) := by
  intro s
  unfold rd
  after_reads_simp
  try simp -implicitDefEqProofs only [StableHlo.TRef.toBuf, StableHlo.TRef.ofBuf, cast_cast, cast_eq]
  refine (congrArg₂ IntOp.minsi (h s) ((bc0 _ _ _).trans (pick (rd U main_v36) _ f k h hk fun a => ?_))).trans ?_
  · rw [Subsingleton.elim a 0]
    refine Eq.trans ?_ (toInt_small k hk)
    exact congrArg BitVec.toInt ((congrArg (rd U main_v41 : S_.Idx → BitVec 32) (eq_ix0 _)).trans hi)
  · rw [minsi_word (hf s) (hf ⟨k, hk⟩)]
    exact congrArg _ (Nat.min_comm _ _)

theorem w_v47 (f : ℕ → ℕ) (h : Nums (n := 42) (rd U main_v36) f) :
    Nums (n := 21504) (rd (StableHlo.after to_v47 U) main_v47) (fun s => f (s / 512)) := by
  intro s
  unfold rd
  after_reads_simp
  try simp -implicitDefEqProofs only [StableHlo.TRef.toBuf, StableHlo.TRef.ofBuf, cast_cast, cast_eq]
  have hs := s.isLt
  have h1 : s.val / 512 < 42 := by omega
  have h2 : s.val % 512 < 512 := Nat.mod_lt _ (by decide)
  refine (cast21 _ _ (⟨s.val / 512, h1⟩ : Fin 42) (⟨s.val % 512, h2⟩ : Fin 512) s (by show s.val = s.val / 512 * 512 + s.val % 512; omega)).trans ?_
  refine (broadcastInDim_apply _ _ _ _ (ix1 (⟨s.val / 512, h1⟩ : Fin 42)) fun (a : Fin 1) => ?_).trans (h ⟨s.val / 512, h1⟩)
  rw [Subsingleton.elim a 0]
  rfl

theorem w_v49 (f : ℕ → ℕ) (h : Nums (n := 21504) (rd U main_v47) f) (hf : ∀ s : Fin 21504, f s.val < 2 ^ 31) :
    Nums (n := 21504) (rd (StableHlo.after to_v50 U) main_v49) (fun s => min (f s) 7) := by
  intro s
  unfold rd
  after_reads_simp
  try simp -implicitDefEqProofs only [StableHlo.TRef.toBuf, StableHlo.TRef.ofBuf, cast_cast, cast_eq]
  refine (congrArg (fun x => IntOp.minsi x 7#32) (h s)).trans ?_
  exact (minsi_word (hf s) (by decide)).trans (congrArg _ (Nat.min_comm _ _))

theorem w_v50  :
    Nums (n := 21504) (rd (StableHlo.after to_v50 U) main_v50) (fun s => s) := by
  intro s
  unfold rd
  after_reads_simp
  try simp -implicitDefEqProofs only [StableHlo.TRef.toBuf, StableHlo.TRef.ofBuf, cast_cast, cast_eq]
  rfl

theorem w_v57 (f g : ℕ → ℕ) (h : Nums (n := 8) (rd U main_v23) f) (hg : Nums (n := 21504) (rd U main_v49) g) (hb : ∀ s : Fin 21504, g s.val < 8) :
    Nums (n := 21504) (rd (StableHlo.after to_v57 U) main_v57) (fun s => f (g s)) := by
  intro s
  unfold rd
  after_reads_simp
  try simp -implicitDefEqProofs only [StableHlo.TRef.toBuf, StableHlo.TRef.ofBuf, cast_cast, cast_eq]
  exact (lookup _ rfl rfl rfl rfl _ _ _ _ _ g hg (fun _ => rfl) s (hb s) (by decide)).trans (h ⟨_, hb s⟩)

theorem w_v67 (f g : ℕ → ℕ) (h : Nums (n := 8) (rd U main_v12) f) (hg : Nums (n := 21504) (rd U main_v49) g) (hb : ∀ s : Fin 21504, g s.val < 8) :
    Nums (n := 21504) (rd (StableHlo.after to_v67 U) main_v67) (fun s => f (g s)) := by
  intro s
  unfold rd
  after_reads_simp
  try simp -implicitDefEqProofs only [StableHlo.TRef.toBuf, StableHlo.TRef.ofBuf, cast_cast, cast_eq]
  exact (lookup _ rfl rfl rfl rfl _ _ _ _ _ g hg (fun _ => rfl) s (hb s) (by decide)).trans (h ⟨_, hb s⟩)

theorem w_v76 (f g : ℕ → ℕ) (h : Nums (n := 8) (rd U main_v14) f) (hg : Nums (n := 21504) (rd U main_v49) g) (hb : ∀ s : Fin 21504, g s.val < 8) :
    Nums (n := 21504) (rd (StableHlo.after to_v76 U) main_v76) (fun s => f (g s)) := by
  intro s
  unfold rd
  after_reads_simp
  try simp -implicitDefEqProofs only [StableHlo.TRef.toBuf, StableHlo.TRef.ofBuf, cast_cast, cast_eq]
  exact (lookup _ rfl rfl rfl rfl _ _ _ _ _ g hg (fun _ => rfl) s (hb s) (by decide)).trans (h ⟨_, hb s⟩)

theorem w_v98 (f g : ℕ → ℕ) (h : Nums (n := 8) (rd U main_v91) f) (hg : Nums (n := 21504) (rd U main_v49) g) (hb : ∀ s : Fin 21504, g s.val < 8) :
    Nums (n := 21504) (rd (StableHlo.after to_v98 U) main_v98) (fun s => f (g s)) := by
  intro s
  unfold rd
  after_reads_simp
  try simp -implicitDefEqProofs only [StableHlo.TRef.toBuf, StableHlo.TRef.ofBuf, cast_cast, cast_eq]
  exact (lookup _ rfl rfl rfl rfl _ _ _ _ _ g hg (fun _ => rfl) s (hb s) (by decide)).trans (h ⟨_, hb s⟩)

theorem w_v58 (f : ℕ → ℕ) (h : Nums (n := 21504) (rd U main_v57) f) (h' : Nums (n := 21504) (rd U main_v50) (fun s => s)) (hf : ∀ s, f s ≤ s) :
    Nums (n := 21504) (rd (StableHlo.after to_v60 U) main_v58) (fun s => s - f s) := by
  intro s
  unfold rd
  after_reads_simp
  try simp -implicitDefEqProofs only [StableHlo.TRef.toBuf, StableHlo.TRef.ofBuf, cast_cast, cast_eq]
  exact (congrArg₂ (· - ·) (h' s) (h s)).trans (ofNat32_sub (hf _))

theorem w_v60 (f : ℕ → ℕ) (h : Nums (n := 21504) (rd U main_v47) f) (hf : ∀ s : Fin 21504, f s.val < 2 ^ 31) :
    Bits' (n := 21504) (rd (StableHlo.after to_v60 U) main_v60) (fun s => f s < 8) := by
  intro s
  unfold rd
  after_reads_simp
  try simp -implicitDefEqProofs only [StableHlo.TRef.toBuf, StableHlo.TRef.ofBuf, cast_cast, cast_eq]
  refine (congrArg (fun x => IntOp.cmpi .slt x 8#32) (h s)).trans ?_
  exact cmpi_slt_ofNat (w := 32) (hf s) (by decide)

theorem w_v101 (f : ℕ → ℕ) (h : Nums (n := 21504) (rd U main_v47) f) (hf : ∀ s : Fin 21504, f s.val < 2 ^ 31) :
    Bits' (n := 21504) (rd (StableHlo.after to_v101 U) main_v101) (fun s => f s < 8) := by
  intro s
  unfold rd
  after_reads_simp
  try simp -implicitDefEqProofs only [StableHlo.TRef.toBuf, StableHlo.TRef.ofBuf, cast_cast, cast_eq]
  refine (congrArg (fun x => IntOp.cmpi .slt x 8#32) (h s)).trans ?_
  exact cmpi_slt_ofNat (w := 32) (hf s) (by decide)

theorem w_v69 (P : ℕ → Prop) [DecidablePred P] (f g : ℕ → ℕ) (hP : Bits' (n := 21504) (rd U main_v60) P) (h : Nums (n := 21504) (rd U main_v58) f) (h' : Nums (n := 21504) (rd U main_v67) g) (hf : ∀ s : Fin 21504, f s.val < 2 ^ 31) (hg : ∀ s : Fin 21504, g s.val < 2 ^ 31) :
    Bits' (n := 21504) (rd (StableHlo.after to_v69 U) main_v69) (fun s => P s ∧ f s < g s) := by
  intro s
  unfold rd
  after_reads_simp
  try simp -implicitDefEqProofs only [StableHlo.TRef.toBuf, StableHlo.TRef.ofBuf, cast_cast, cast_eq]
  refine (congrArg₂ IntOp.andi (hP s) ((congrArg₂ (IntOp.cmpi .slt) (h s) (h' s)).trans (cmpi_slt_ofNat (w := 32) (hf s) (hg s)))).trans ?_
  by_cases h1 : P s.val <;> by_cases h2 : f s.val < g s.val <;> simp [h1, h2, IntOp.andi]

theorem w_v77 (f g : ℕ → ℕ) (h : Nums (n := 21504) (rd U main_v76) f) (h' : Nums (n := 21504) (rd U main_v58) g) :
    Nums (n := 21504) (rd (StableHlo.after to_c_20 U) main_v77) (fun s => f s + g s) := by
  intro s
  unfold rd
  after_reads_simp
  try simp -implicitDefEqProofs only [StableHlo.TRef.toBuf, StableHlo.TRef.ofBuf, cast_cast, cast_eq]
  rw [BitVec.ofNat_add]
  exact congrArg₂ (· + ·) (h s) (h' s)

theorem w_c_19 : (rd (StableHlo.after to_c_20 U) main_c_19 : S_.Idx → BitVec 32) ValueIdx.ix0 = BitVec.ofNat 32 0 := by
  unfold rd
  after_reads_simp
  try simp -implicitDefEqProofs only [StableHlo.TRef.toBuf, StableHlo.TRef.ofBuf, cast_cast, cast_eq]
  rfl

theorem w_c_20 : (rd (StableHlo.after to_c_20 U) main_c_20 : S_.Idx → BitVec 32) ValueIdx.ix0 = BitVec.ofNat 32 17407 := by
  unfold rd
  after_reads_simp
  try simp -implicitDefEqProofs only [StableHlo.TRef.toBuf, StableHlo.TRef.ofBuf, cast_cast, cast_eq]
  rfl

theorem w_v78 (f : ℕ → ℕ) (h : Nums (n := 21504) (rd U main_v77) f) (hf : ∀ s : Fin 21504, f s.val < 2 ^ 31) (h0 : (rd U main_c_19 : S_.Idx → BitVec 32) ValueIdx.ix0 = BitVec.ofNat 32 0) (h1 : (rd U main_c_20 : S_.Idx → BitVec 32) ValueIdx.ix0 = BitVec.ofNat 32 17407) :
    Nums (n := 21504) (rd (StableHlo.after hostOps0_11 U) main_v78) (fun s => min (f s) 17407) := by
  intro s
  unfold rd
  after_reads_simp
  try simp -implicitDefEqProofs only [StableHlo.TRef.toBuf, StableHlo.TRef.ofBuf, cast_cast, cast_eq]
  refine (congrArg₂ IntOp.minsi ((bc0 _ _ _).trans h1) (congrArg₂ IntOp.maxsi ((bc0 _ _ _).trans h0) (h s))).trans ?_
  rw [clip_word (hf s) (by decide) (by decide), Nat.max_zero]

theorem w_v85 (f g : ℕ → ℕ) (h : Nums (n := 17408) (rd U main_v4) f) (hg : Nums (n := 21504) (rd U main_v78) g) (hb : ∀ s : Fin 21504, g s.val < 17408) :
    Nums (n := 21504) (rd (StableHlo.after hostOps0_12 U) main_v85) (fun s => f (g s)) := by
  intro s
  unfold rd
  after_reads_simp
  try simp -implicitDefEqProofs only [StableHlo.TRef.toBuf, StableHlo.TRef.ofBuf, cast_cast, cast_eq]
  exact (lookup _ rfl rfl rfl rfl _ _ _ _ _ g hg (fun _ => rfl) s (hb s) (by decide)).trans (h ⟨_, hb s⟩)

theorem w_c_23 : (rd (StableHlo.after hostOps0_12 U) main_c_23 : S_.Idx → BitVec 32) ValueIdx.ix0 = BitVec.ofNat 32 8704 := by
  unfold rd
  after_reads_simp
  try simp -implicitDefEqProofs only [StableHlo.TRef.toBuf, StableHlo.TRef.ofBuf, cast_cast, cast_eq]
  rfl

theorem w_v86 (f : ℕ → ℕ) (h : Nums (n := 21504) (rd U main_v85) f) (hf : ∀ s : Fin 21504, f s.val < 2 ^ 31) (hc : (rd U main_c_23 : S_.Idx → BitVec 32) ValueIdx.ix0 = BitVec.ofNat 32 8704) :
    Nums (n := 21504) (rd (StableHlo.after hostOps0_13 U) main_v86) (fun s => f s % 8704) := by
  intro s
  unfold rd
  after_reads_simp
  try simp -implicitDefEqProofs only [StableHlo.TRef.toBuf, StableHlo.TRef.ofBuf, cast_cast, cast_eq]
  exact pyRem_ap bcast_S_S21504 _ _ _ (h s) hc (hf s) (by decide) (by decide)

theorem w_c_24 : (rd (StableHlo.after hostOps0_14 U) main_c_24 : S_.Idx → BitVec 32) ValueIdx.ix0 = BitVec.ofNat 32 0 := by
  unfold rd
  after_reads_simp
  try simp -implicitDefEqProofs only [StableHlo.TRef.toBuf, StableHlo.TRef.ofBuf, cast_cast, cast_eq]
  rfl

theorem w_v87 (P : ℕ → Prop) [DecidablePred P] (f : ℕ → ℕ) (hP : Bits' (n := 21504) (rd U main_v69) P) (h : Nums (n := 21504) (rd U main_v86) f) (hc : (rd U main_c_24 : S_.Idx → BitVec 32) ValueIdx.ix0 = BitVec.ofNat 32 0) :
    Nums (n := 21504) (rd (StableHlo.after hostOps0_15 U) main_v87) (fun s => if P s then f s else 0) := by
  intro s
  unfold rd
  after_reads_simp
  try simp -implicitDefEqProofs only [StableHlo.TRef.toBuf, StableHlo.TRef.ofBuf, cast_cast, cast_eq]
  have e : ∀ (a a' : BitVec 1) (b b' c c' : BitVec 32), a = a' → b = b' → c = c' → Scalar.select a b c = Scalar.select a' b' c' := by rintro _ _ _ _ _ _ rfl rfl rfl; rfl
  refine (e _ _ _ _ _ _ (hP s) (h s) ((bc0 _ _ _).trans hc)).trans ?_
  rw [select_decide]
  split_ifs <;> rfl

theorem w_v88  :
    Nums (n := 21504) (rd (StableHlo.after to_v90 U) main_v88) (fun s => s) := by
  intro s
  unfold rd
  after_reads_simp
  try simp -implicitDefEqProofs only [StableHlo.TRef.toBuf, StableHlo.TRef.ofBuf, cast_cast, cast_eq]
  rfl

theorem w_v90  :
    Nums (n := 21504) (rd (StableHlo.after to_v90 U) main_v90) (fun s => 17408 + s) := by
  intro s
  unfold rd
  after_reads_simp
  try simp -implicitDefEqProofs only [StableHlo.TRef.toBuf, StableHlo.TRef.ofBuf, cast_cast, cast_eq]
  rw [BitVec.ofNat_add]
  rfl

theorem w_v91 (f g : ℕ → ℕ) (h : Nums (n := 8) (rd U main_v14) f) (h' : Nums (n := 8) (rd U main_v12) g) :
    Nums (n := 8) (rd (StableHlo.after to_v91 U) main_v91) (fun a => f a + g a) := by
  intro s
  unfold rd
  after_reads_simp
  try simp -implicitDefEqProofs only [StableHlo.TRef.toBuf, StableHlo.TRef.ofBuf, cast_cast, cast_eq]
  rw [BitVec.ofNat_add]
  exact congrArg₂ (· + ·) (h s) (h' s)

theorem w_v99 (f g : ℕ → ℕ) (h : Nums (n := 21504) (rd U main_v90) f) (h' : Nums (n := 21504) (rd U main_v98) g) (hl : ∀ s, g s ≤ f s) :
    Nums (n := 21504) (rd (StableHlo.after to_v101 U) main_v99) (fun s => f s - g s) := by
  intro s
  unfold rd
  after_reads_simp
  try simp -implicitDefEqProofs only [StableHlo.TRef.toBuf, StableHlo.TRef.ofBuf, cast_cast, cast_eq]
  exact (congrArg₂ (· - ·) (h s) (h' s)).trans (ofNat32_sub (hl _))

theorem w_v102 (P : ℕ → Prop) [DecidablePred P] (f g : ℕ → ℕ) (hP : Bits' (n := 21504) (rd U main_v101) P) (h : Nums (n := 21504) (rd U main_v99) f) (h' : Nums (n := 21504) (rd U main_v88) g) :
    Nums (n := 21504) (rd (StableHlo.after hostOps0_17 U) main_v102) (fun s => if P s then f s else g s) := by
  intro s
  unfold rd
  after_reads_simp
  try simp -implicitDefEqProofs only [StableHlo.TRef.toBuf, StableHlo.TRef.ofBuf, cast_cast, cast_eq]
  have e : ∀ (a a' : BitVec 1) (b b' c c' : BitVec 32), a = a' → b = b' → c = c' → Scalar.select a b c = Scalar.select a' b' c' := by rintro _ _ _ _ _ _ rfl rfl rfl; rfl
  refine (e _ _ _ _ _ _ (hP s) (h s) (h' s)).trans ?_
  rw [select_decide]
  split_ifs <;> rfl

theorem w_v103 (P : ℕ → Prop) [DecidablePred P] (f g : ℕ → ℕ) (hP : Bits' (n := 21504) (rd U main_v69) P) (h : Nums (n := 21504) (rd U main_v85) f) (h' : Nums (n := 21504) (rd U main_v102) g) :
    Nums (n := 21504) (rd (StableHlo.after hostOps0_18 U) main_v103) (fun s => if P s then f s else g s) := by
  intro s
  unfold rd
  after_reads_simp
  try simp -implicitDefEqProofs only [StableHlo.TRef.toBuf, StableHlo.TRef.ofBuf, cast_cast, cast_eq]
  have e : ∀ (a a' : BitVec 1) (b b' c c' : BitVec 32), a = a' → b = b' → c = c' → Scalar.select a b c = Scalar.select a' b' c' := by rintro _ _ _ _ _ _ rfl rfl rfl; rfl
  refine (e _ _ _ _ _ _ (hP s) (h s) (h' s)).trans ?_
  rw [select_decide]
  split_ifs <;> rfl

theorem w_v110 (g : ℕ → ℕ) (hg : Nums (n := 21504) (rd U main_v85) g) (s : Fin 21504) (hb : g s.val < 17408) :
    (rd (StableHlo.after hostOps0_19 U) main_v110 : S21504.Idx → F .f32) (ix1 s) = (rd U main_v3 : S17408.Idx → F .f32) (ix1 ⟨g s.val, hb⟩) := by
  unfold rd
  after_reads_simp
  try simp -implicitDefEqProofs only [StableHlo.TRef.toBuf, StableHlo.TRef.ofBuf, cast_cast, cast_eq]
  exact lookup _ rfl rfl rfl rfl _ _ _ _ _ g hg (fun _ => rfl) s hb (by decide)

theorem w_cst : (rd (StableHlo.after hostOps0_19 U) main_cst : S_.Idx → F .f32) ValueIdx.ix0 = FloatOps.ofBits .f32 0x00000000#32 := by
  unfold rd
  after_reads_simp
  try simp -implicitDefEqProofs only [StableHlo.TRef.toBuf, StableHlo.TRef.ofBuf, cast_cast, cast_eq]
  rfl

theorem w_v111 (P : ℕ → Prop) [DecidablePred P] (hP : Bits' (n := 21504) (rd U main_v69) P) (s : Fin 21504) :
    (rd (StableHlo.after hostOps0_20 U) main_v111 : S21504.Idx → F .f32) (ix1 s)
      = if P s.val then (rd U main_v110 : S21504.Idx → F .f32) (ix1 s) else (rd U main_cst : S_.Idx → F .f32) ValueIdx.ix0 := by
  unfold rd
  after_reads_simp
  try simp -implicitDefEqProofs only [StableHlo.TRef.toBuf, StableHlo.TRef.ofBuf, cast_cast, cast_eq]
  have e : ∀ (a a' : BitVec 1) (b c c' : F .f32), a = a' → c = c' → Scalar.select a b c = Scalar.select a' b c' := by rintro _ _ _ _ _ rfl rfl; rfl
  refine (e _ _ _ _ _ (hP s) (bc0 _ _ _)).trans ?_
  rw [select_decide]
  rfl

theorem w_v112 : (rd (StableHlo.after hostOps0_21 U) main_v112 : S1.Idx → BitVec 32) (ix1 (0 : Fin 1)) = (rd U main_v26 : S_.Idx → BitVec 32) ValueIdx.ix0 := by
  unfold rd
  after_reads_simp
  try simp -implicitDefEqProofs only [StableHlo.TRef.toBuf, StableHlo.TRef.ofBuf, cast_cast, cast_eq]
  exact shapeCast_apply _ _ (ix1 (0 : Fin 1)) ValueIdx.ix0 rfl

theorem w_v113 (T : Fin 42) (r : Fin 512) (s : Fin 21504) (hs : s.val = T.val * 512 + r.val) :
    (rd (StableHlo.after hostOps0_21 U) main_v113 : S42x1x512.Idx → BitVec 32) (ix3 T (0 : Fin 1) r) = (rd U main_v87 : S21504.Idx → BitVec 32) (ix1 s) := by
  unfold rd
  after_reads_simp
  try simp -implicitDefEqProofs only [StableHlo.TRef.toBuf, StableHlo.TRef.ofBuf, cast_cast, cast_eq]
  exact cast13 _ _ T (0 : Fin 1) r s (by rw [hs]; show _ = (T.val * 1 + 0) * 512 + r.val; omega)

theorem w_v114 (T : Fin 42) (r : Fin 512) (s : Fin 21504) (hs : s.val = T.val * 512 + r.val) :
    (rd (StableHlo.after hostOps0_21 U) main_v114 : S42x1x512.Idx → BitVec 32) (ix3 T (0 : Fin 1) r) = (rd U main_v103 : S21504.Idx → BitVec 32) (ix1 s) := by
  unfold rd
  after_reads_simp
  try simp -implicitDefEqProofs only [StableHlo.TRef.toBuf, StableHlo.TRef.ofBuf, cast_cast, cast_eq]
  exact cast13 _ _ T (0 : Fin 1) r s (by rw [hs]; show _ = (T.val * 1 + 0) * 512 + r.val; omega)

theorem w_v115 (s : Fin 21504) :
    (rd (StableHlo.after hostOps0_21 U) main_v115 : S21504x1.Idx → F .f32) (ix2 s (0 : Fin 1)) = (rd U main_v111 : S21504.Idx → F .f32) (ix1 s) := by
  unfold rd
  after_reads_simp
  try simp -implicitDefEqProofs only [StableHlo.TRef.toBuf, StableHlo.TRef.ofBuf, cast_cast, cast_eq]
  exact cast12 _ _ s (0 : Fin 1) s (by show s.val = s.val * 1 + 0; omega)

theorem w_v1 (p : Fin 17408) (t : Fin 8704) (k : Fin 2) (hp : p.val = k.val * 8704 + t.val) :
    (rd (StableHlo.after hostOps0 U) main_v1 : S17408.Idx → BitVec 32) (ix1 p) = (rd U main_arg0 : S8704x2.Idx → BitVec 32) (ix2 t k) := by
  unfold rd
  after_reads_simp
  try simp -implicitDefEqProofs only [StableHlo.TRef.toBuf, StableHlo.TRef.ofBuf, cast_cast, cast_eq]
  refine (cast21 _ _ k t p hp).trans ?_
  refine transpose_apply _ _ _ _ (ix2 t k) fun (b : Fin 2) => ?_
  match b with
  | ⟨0, _⟩ => rfl
  | ⟨1, _⟩ => rfl

theorem w_v3 (p : Fin 17408) (t : Fin 8704) (k : Fin 2) (hp : p.val = k.val * 8704 + t.val) :
    (rd (StableHlo.after hostOps0 U) main_v3 : S17408.Idx → F .f32) (ix1 p) = (rd U main_arg1 : S8704x2.Idx → F .f32) (ix2 t k) := by
  unfold rd
  after_reads_simp
  try simp -implicitDefEqProofs only [StableHlo.TRef.toBuf, StableHlo.TRef.ofBuf, cast_cast, cast_eq]
  refine (cast21 _ _ k t p hp).trans ?_
  refine transpose_apply _ _ _ _ (ix2 t k) fun (b : Fin 2) => ?_
  match b with
  | ⟨0, _⟩ => rfl
  | ⟨1, _⟩ => rfl

theorem w_v4 (hx : ∀ p : Fin 17408, ((rd U main_v1 : S17408.Idx → BitVec 32) (ix1 p)).toNat < 8) :
    Dispatch.Sorted (num (n := 17408) (rd U main_v1)) (num (n := 17408) (rd (StableHlo.after hostOps0_1 U) main_v4)) := by
  refine sorted_of _ (iotaInDim S17408 32 0) hx (fun _ => rfl) _ ?_
  unfold rd
  after_reads_simp
  try simp -implicitDefEqProofs only [StableHlo.TRef.toBuf, StableHlo.TRef.ofBuf, cast_cast, cast_eq]

end

end Cert.KernelE.Rows

end
-- ==== Proof.Plan.lean ====
/-
  The tables at the launch of the experts' kernel: each piece's words put together, array by array, up to the tile's
  expert, the number of valid tiles, and for every slot the token it reads, the row it writes and the weight it carries.
-/
module

public import proofs.«01_k».proof.Proof.Words

@[expose] public section

set_option maxRecDepth 100000

noncomputable section

namespace Cert.KernelE.Rows

open Idealize.ShloMosaic hiding ix0 ix1 ix2 ix3
open Idealize.ShloMosaic.TcCoe Idealize.ShloMosaic.Routing Idealize.ShloMosaic.ValueIdx
open Gen

variable {F : FTy → Type} [FloatOps F]

theorem nums_of {n : ℕ} {x y : (shape1 n).Idx → BitVec 32} {f : ℕ → ℕ} (h : x = y) (hy : Nums y f) : Nums x f := h ▸ hy
theorem bits_of {n : ℕ} {x y : (shape1 n).Idx → BitVec 1} {P : ℕ → Prop} [DecidablePred P] (h : x = y) (hy : Bits' y P) : Bits' x P := h ▸ hy
theorem word_of {s : Shape} {α : Type} {x y : s.Idx → α} {i : s.Idx} {w : α} (h : x = y) (hy : y i = w) : x i = w := h ▸ hy

variable (m : (ℓ : Loc nD τ sig) → Buf (Elt F) ℓ) (c : Dev nD)

/-- The pairs' experts, pair `k * 8704 + t` being the `k`-th expert of token `t`, and the pairs in the order of their experts. -/
def pairE : ℕ → ℕ := num (n := 17408) (V m c main_v1)
def order : ℕ → ℕ := num (n := 17408) (V m c main_v4)

/-- Every expert's number is below 8. -/
def Ranged : Prop := ∀ (t : Fin 8704) (k : Fin 2), ((m ((c : Thread nD τ).loc main_arg0) : S8704x2.Idx → BitVec 32) (ix2 t k)).toNat < 8

theorem v1_at (p : Fin 17408) (t : Fin 8704) (k : Fin 2) (hp : p.val = k.val * 8704 + t.val) :
    (V m c main_v1 : S17408.Idx → BitVec 32) (ix1 p) = (m ((c : Thread nD τ).loc main_arg0) : S8704x2.Idx → BitVec 32) (ix2 t k) :=
  word_of (V_piece m c 0 hostOps0 rfl main_v1 (by decide)) ((w_v1 (upTo m c 0) p t k hp).trans
    (word_of (V_upTo m c 0 main_arg0 (by decide)).symm (congrFun (V_arg m c main_arg0 (by decide)) (ix2 t k))))

theorem v3_at (p : Fin 17408) (t : Fin 8704) (k : Fin 2) (hp : p.val = k.val * 8704 + t.val) :
    (V m c main_v3 : S17408.Idx → F .f32) (ix1 p) = (m ((c : Thread nD τ).loc main_arg1) : S8704x2.Idx → F .f32) (ix2 t k) :=
  word_of (V_piece m c 0 hostOps0 rfl main_v3 (by decide)) ((w_v3 (upTo m c 0) p t k hp).trans
    (word_of (V_upTo m c 0 main_arg1 (by decide)).symm (congrFun (V_arg m c main_arg1 (by decide)) (ix2 t k))))

theorem pairE_at (t : Fin 8704) (k : Fin 2) :
    pairE m c (k.val * 8704 + t.val) = ((m ((c : Thread nD τ).loc main_arg0) : S8704x2.Idx → BitVec 32) (ix2 t k)).toNat := by
  have hk := k.isLt
  have ht := t.isLt
  have h : k.val * 8704 + t.val < 17408 := by omega
  unfold pairE
  rw [← v1_at m c ⟨_, h⟩ t k rfl]
  exact num_at (n := 17408) (V m c main_v1) ⟨_, h⟩

variable {m c} (hx : Ranged m c)
include hx

omit hx in
theorem sorted_eq {a a' b b' : S17408.Idx → BitVec 32} (ha : a = a') (hb : b = b') (h : Dispatch.Sorted (num (n := 17408) a') (num (n := 17408) b')) :
    Dispatch.Sorted (num (n := 17408) a) (num (n := 17408) b) := by subst ha hb; exact h

theorem v1_lt (p : Fin 17408) : ((V m c main_v1 : S17408.Idx → BitVec 32) (ix1 p)).toNat < 8 := by
  have hp := p.isLt
  rw [v1_at m c p ⟨p.val % 8704, Nat.mod_lt _ (by decide)⟩ ⟨p.val / 8704, by omega⟩ (by show p.val = p.val / 8704 * 8704 + p.val % 8704; omega)]
  exact hx _ _

theorem pairE_lt (p : Fin 17408) : pairE m c p.val < 8 := by
  have h := v1_lt hx p
  unfold pairE
  rw [num_at]
  exact h

theorem sorted : Dispatch.Sorted (pairE m c) (order m c) := by
  have h1 : (V m c main_v1 : S17408.Idx → BitVec 32) = rd (upTo m c 1) main_v1 := V_upTo m c 1 main_v1 (by decide)
  have h4 : (V m c main_v4 : S17408.Idx → BitVec 32) = rd (StableHlo.after hostOps0_1 (upTo m c 1)) main_v4 := V_piece m c 1 hostOps0_1 rfl main_v4 (by decide)
  have h := w_v4 (upTo m c 1) (fun p => by rw [← h1]; exact v1_lt hx p)
  exact sorted_eq h1 h4 h

omit hx in
theorem h_v1 : Nums (n := 17408) (V m c main_v1) (pairE m c) := nums_num _
omit hx in
theorem h_v4 : Nums (n := 17408) (V m c main_v4) (order m c) := nums_num _

theorem h_v12 : Nums (n := 8) (V m c main_v12) (Dispatch.cnt (pairE m c)) :=
  nums_of (V_piece m c 2 hostOps0_2 rfl main_v12 (by decide)) (w_v12 (upTo m c 2) (pairE m c) (nums_of (V_upTo m c 2 main_v1 (by decide)).symm h_v1) (pairE_lt hx))

theorem h_v13 : Nums (n := 8) (V m c main_v13) (Dispatch.cum (pairE m c)) :=
  nums_of (V_piece m c 3 hostOps0_3 rfl main_v13 (by decide)) (w_v13 (upTo m c 3) (Dispatch.cnt (pairE m c)) (nums_of (V_upTo m c 3 main_v12 (by decide)).symm (h_v12 hx)))

theorem h_v14 : Nums (n := 8) (V m c main_v14) (Dispatch.start (pairE m c)) :=
  nums_of (V_piece m c 4 hostOps0_4 rfl main_v14 (by decide)) (w_v14 (upTo m c 4) (Dispatch.cum (pairE m c)) (Dispatch.cnt (pairE m c)) (nums_of (V_upTo m c 4 main_v13 (by decide)).symm (h_v13 hx)) (nums_of (V_upTo m c 4 main_v12 (by decide)).symm (h_v12 hx)) Dispatch.cnt_le_cum)

theorem h_v18 : Nums (n := 8) (V m c main_v18) (fun a => Dispatch.cnt (pairE m c) a + 512 - 1) :=
  nums_of (V_piece m c 4 hostOps0_4 rfl main_v18 (by decide)) (w_v18 (upTo m c 4) (Dispatch.cnt (pairE m c)) (nums_of (V_upTo m c 4 main_v12 (by decide)).symm (h_v12 hx)))

omit hx in
theorem h_c_2 : (V m c main_c_2 : S_.Idx → BitVec 32) ValueIdx.ix0 = BitVec.ofNat 32 512 :=
  word_of (V_piece m c 4 hostOps0_4 rfl main_c_2 (by decide)) (w_c_2 (upTo m c 4) )

theorem h_v19 : Nums (n := 8) (V m c main_v19) (fun a => (Dispatch.cnt (pairE m c) a + 512 - 1) / 512) :=
  nums_of (V_piece m c 5 hostOps0_5 rfl main_v19 (by decide)) (w_v19 (upTo m c 5) _ (nums_of (V_upTo m c 5 main_v18 (by decide)).symm (h_v18 hx)) (fun x => by have := Dispatch.cnt_le (e := pairE m c) x.val; show Dispatch.cnt (pairE m c) x.val + 512 - 1 < 2 ^ 31; omega) (word_of (V_upTo m c 5 main_c_2 (by decide)).symm h_c_2))

theorem h_v21 : Nums (n := 8) (V m c main_v21) (Dispatch.pad (pairE m c)) :=
  nums_of (V_piece m c 6 hostOps0_6 rfl main_v21 (by decide)) (w_v21 (upTo m c 6) _ (nums_of (V_upTo m c 6 main_v19 (by decide)).symm (h_v19 hx)))

theorem h_v22 : Nums (n := 8) (V m c main_v22) (Dispatch.pend (pairE m c)) :=
  nums_of (V_piece m c 7 hostOps0_7 rfl main_v22 (by decide)) (w_v22 (upTo m c 7) (Dispatch.pad (pairE m c)) (nums_of (V_upTo m c 7 main_v21 (by decide)).symm (h_v21 hx)))

theorem h_v23 : Nums (n := 8) (V m c main_v23) (Dispatch.pst (pairE m c)) :=
  nums_of (V_piece m c 8 hostOps0_8 rfl main_v23 (by decide)) (w_v23 (upTo m c 8) (Dispatch.pend (pairE m c)) (Dispatch.pad (pairE m c)) (nums_of (V_upTo m c 8 main_v22 (by decide)).symm (h_v22 hx)) (nums_of (V_upTo m c 8 main_v21 (by decide)).symm (h_v21 hx)) Dispatch.pad_le_pend)

theorem h_v25 : (V m c main_v25 : S_.Idx → BitVec 32) ValueIdx.ix0 = BitVec.ofNat 32 (Dispatch.pend (pairE m c) 7) :=
  word_of (V_piece m c 8 hostOps0_8 rfl main_v25 (by decide)) (w_v25 (upTo m c 8) (Dispatch.pend (pairE m c)) (nums_of (V_upTo m c 8 main_v22 (by decide)).symm (h_v22 hx)))

omit hx in
theorem h_c_4 : (V m c main_c_4 : S_.Idx → BitVec 32) ValueIdx.ix0 = BitVec.ofNat 32 512 :=
  word_of (V_piece m c 8 hostOps0_8 rfl main_c_4 (by decide)) (w_c_4 (upTo m c 8) )

theorem h_v26 : (V m c main_v26 : S_.Idx → BitVec 32) ValueIdx.ix0 = BitVec.ofNat 32 (Dispatch.nval (pairE m c)) :=
  word_of (V_piece m c 9 hostOps0_9 rfl main_v26 (by decide)) (w_v26 (upTo m c 9) _ (word_of (V_upTo m c 9 main_v25 (by decide)).symm (h_v25 hx)) (by have := Dispatch.pend7_le (e := pairE m c); omega) (word_of (V_upTo m c 9 main_c_4 (by decide)).symm h_c_4))

theorem h_v36 : Nums (n := 42) (V m c main_v36) (Dispatch.raw (pairE m c)) :=
  nums_of (V_piece m c 10 to_v36 rfl main_v36 (by decide)) (w_v36 (upTo m c 10) (Dispatch.pend (pairE m c)) (nums_of (V_upTo m c 10 main_v22 (by decide)).symm (h_v22 hx)) (fun x => by have := Dispatch.pend_le (e := pairE m c) x.val x.isLt; omega))

omit hx in
theorem nval_le : Dispatch.nval (pairE m c) ≤ 41 := by
  have := Dispatch.pend7_le (e := pairE m c); unfold Dispatch.nval; omega
omit hx in
theorem raw_small (T : ℕ) : Dispatch.raw (pairE m c) T < 2 ^ 31 := by have := Dispatch.raw_le (e := pairE m c) T; omega
omit hx in
theorem ec_small (s : ℕ) : Dispatch.ec (pairE m c) s < 8 := Dispatch.ec_lt s
omit hx in
theorem rk_le (s : ℕ) : Dispatch.rk (pairE m c) s ≤ s := Nat.sub_le _ _
omit hx in
theorem cnt_small (a : ℕ) : Dispatch.cnt (pairE m c) a < 2 ^ 31 := by have := Dispatch.cnt_le (e := pairE m c) a; omega
omit hx in
theorem start_le (a : ℕ) : Dispatch.start (pairE m c) a ≤ 17408 := by
  have := Dispatch.cum_le (e := pairE m c) a; have := Dispatch.start_cnt (e := pairE m c) a; omega

theorem h_v41 : (V m c main_v41 : S_.Idx → BitVec 32) ValueIdx.ix0 = BitVec.ofNat 32 (Dispatch.nval (pairE m c) - 1) :=
  word_of (V_piece m c 11 to_v41 rfl main_v41 (by decide)) (w_v41 (upTo m c 11) _ (word_of (V_upTo m c 11 main_v26 (by decide)).symm (h_v26 hx)) (by have := nval_le (m := m) (c := c); omega))

theorem h_v45 : Nums (n := 42) (V m c main_v45) (Dispatch.tileE (pairE m c)) :=
  nums_of (V_piece m c 12 to_v45 rfl main_v45 (by decide)) (w_v45 (upTo m c 12) (Dispatch.raw (pairE m c)) (Dispatch.nval (pairE m c) - 1) (nums_of (V_upTo m c 12 main_v36 (by decide)).symm (h_v36 hx)) (fun T => raw_small _) (by have := nval_le (m := m) (c := c); omega) (word_of (V_upTo m c 12 main_v41 (by decide)).symm (h_v41 hx)))

theorem h_v47 : Nums (n := 21504) (V m c main_v47) (fun s => Dispatch.raw (pairE m c) (s / 512)) :=
  nums_of (V_piece m c 13 to_v47 rfl main_v47 (by decide)) (w_v47 (upTo m c 13) (Dispatch.raw (pairE m c)) (nums_of (V_upTo m c 13 main_v36 (by decide)).symm (h_v36 hx)))

theorem h_v49 : Nums (n := 21504) (V m c main_v49) (Dispatch.ec (pairE m c)) :=
  nums_of (V_piece m c 14 to_v50 rfl main_v49 (by decide)) (w_v49 (upTo m c 14) _ (nums_of (V_upTo m c 14 main_v47 (by decide)).symm (h_v47 hx)) (fun s => raw_small _))

omit hx in
theorem h_v50 : Nums (n := 21504) (V m c main_v50) (fun s => s) :=
  nums_of (V_piece m c 14 to_v50 rfl main_v50 (by decide)) (w_v50 (upTo m c 14) )

theorem h_v57 : Nums (n := 21504) (V m c main_v57) (fun s => Dispatch.pst (pairE m c) (Dispatch.ec (pairE m c) s)) :=
  nums_of (V_piece m c 15 to_v57 rfl main_v57 (by decide)) (w_v57 (upTo m c 15) (Dispatch.pst (pairE m c)) (Dispatch.ec (pairE m c)) (nums_of (V_upTo m c 15 main_v23 (by decide)).symm (h_v23 hx)) (nums_of (V_upTo m c 15 main_v49 (by decide)).symm (h_v49 hx)) (fun s => ec_small _))

theorem h_v67 : Nums (n := 21504) (V m c main_v67) (fun s => Dispatch.cnt (pairE m c) (Dispatch.ec (pairE m c) s)) :=
  nums_of (V_piece m c 17 to_v67 rfl main_v67 (by decide)) (w_v67 (upTo m c 17) (Dispatch.cnt (pairE m c)) (Dispatch.ec (pairE m c)) (nums_of (V_upTo m c 17 main_v12 (by decide)).symm (h_v12 hx)) (nums_of (V_upTo m c 17 main_v49 (by decide)).symm (h_v49 hx)) (fun s => ec_small _))

theorem h_v76 : Nums (n := 21504) (V m c main_v76) (fun s => Dispatch.start (pairE m c) (Dispatch.ec (pairE m c) s)) :=
  nums_of (V_piece m c 19 to_v76 rfl main_v76 (by decide)) (w_v76 (upTo m c 19) (Dispatch.start (pairE m c)) (Dispatch.ec (pairE m c)) (nums_of (V_upTo m c 19 main_v14 (by decide)).symm (h_v14 hx)) (nums_of (V_upTo m c 19 main_v49 (by decide)).symm (h_v49 hx)) (fun s => ec_small _))

theorem h_v58 : Nums (n := 21504) (V m c main_v58) (Dispatch.rk (pairE m c)) :=
  nums_of (V_piece m c 16 to_v60 rfl main_v58 (by decide)) (w_v58 (upTo m c 16) (fun s => Dispatch.pst (pairE m c) (Dispatch.ec (pairE m c) s)) (nums_of (V_upTo m c 16 main_v57 (by decide)).symm (h_v57 hx)) (nums_of (V_upTo m c 16 main_v50 (by decide)).symm h_v50) Dispatch.pst_le)

theorem h_v60 : Bits' (n := 21504) (V m c main_v60) (fun s => Dispatch.raw (pairE m c) (s / 512) < 8) :=
  bits_of (V_piece m c 16 to_v60 rfl main_v60 (by decide)) (w_v60 (upTo m c 16) (fun s => Dispatch.raw (pairE m c) (s / 512)) (nums_of (V_upTo m c 16 main_v47 (by decide)).symm (h_v47 hx)) (fun s => raw_small _))

theorem h_v69 : Bits' (n := 21504) (V m c main_v69) (Dispatch.real (pairE m c)) :=
  bits_of (V_piece m c 18 to_v69 rfl main_v69 (by decide)) (w_v69 (upTo m c 18) (fun s => Dispatch.raw (pairE m c) (s / 512) < 8) (Dispatch.rk (pairE m c)) (fun s => Dispatch.cnt (pairE m c) (Dispatch.ec (pairE m c) s)) (bits_of (V_upTo m c 18 main_v60 (by decide)).symm (h_v60 hx)) (nums_of (V_upTo m c 18 main_v58 (by decide)).symm (h_v58 hx)) (nums_of (V_upTo m c 18 main_v67 (by decide)).symm (h_v67 hx)) (fun s => by have := rk_le (m := m) (c := c) s.val; have := s.isLt; omega) (fun s => cnt_small _))

theorem h_v77 : Nums (n := 21504) (V m c main_v77) (fun s => Dispatch.start (pairE m c) (Dispatch.ec (pairE m c) s) + Dispatch.rk (pairE m c) s) :=
  nums_of (V_piece m c 20 to_c_20 rfl main_v77 (by decide)) (w_v77 (upTo m c 20) (fun s => Dispatch.start (pairE m c) (Dispatch.ec (pairE m c) s)) (Dispatch.rk (pairE m c)) (nums_of (V_upTo m c 20 main_v76 (by decide)).symm (h_v76 hx)) (nums_of (V_upTo m c 20 main_v58 (by decide)).symm (h_v58 hx)))

omit hx in
theorem h_c_19 : (V m c main_c_19 : S_.Idx → BitVec 32) ValueIdx.ix0 = BitVec.ofNat 32 0 :=
  word_of (V_piece m c 20 to_c_20 rfl main_c_19 (by decide)) (w_c_19 (upTo m c 20) )

omit hx in
theorem h_c_20 : (V m c main_c_20 : S_.Idx → BitVec 32) ValueIdx.ix0 = BitVec.ofNat 32 17407 :=
  word_of (V_piece m c 20 to_c_20 rfl main_c_20 (by decide)) (w_c_20 (upTo m c 20) )

theorem h_v78 : Nums (n := 21504) (V m c main_v78) (Dispatch.pos (pairE m c)) :=
  nums_of (V_piece m c 21 hostOps0_11 rfl main_v78 (by decide)) (w_v78 (upTo m c 21) _ (nums_of (V_upTo m c 21 main_v77 (by decide)).symm (h_v77 hx)) (fun s => by have := rk_le (m := m) (c := c) s.val; have := s.isLt; have := start_le (m := m) (c := c) (Dispatch.ec (pairE m c) s.val); show Dispatch.start (pairE m c) (Dispatch.ec (pairE m c) s.val) + Dispatch.rk (pairE m c) s.val < 2 ^ 31; omega) (word_of (V_upTo m c 21 main_c_19 (by decide)).symm h_c_19) (word_of (V_upTo m c 21 main_c_20 (by decide)).symm h_c_20))

theorem h_v85 : Nums (n := 21504) (V m c main_v85) (Dispatch.pr (pairE m c) (order m c)) :=
  nums_of (V_piece m c 22 hostOps0_12 rfl main_v85 (by decide)) (w_v85 (upTo m c 22) (order m c) (Dispatch.pos (pairE m c)) (nums_of (V_upTo m c 22 main_v4 (by decide)).symm h_v4) (nums_of (V_upTo m c 22 main_v78 (by decide)).symm (h_v78 hx)) (fun s => Dispatch.pos_lt (sorted hx) _))

omit hx in
theorem h_c_23 : (V m c main_c_23 : S_.Idx → BitVec 32) ValueIdx.ix0 = BitVec.ofNat 32 8704 :=
  word_of (V_piece m c 22 hostOps0_12 rfl main_c_23 (by decide)) (w_c_23 (upTo m c 22) )

theorem h_v86 : Nums (n := 21504) (V m c main_v86) (fun s => Dispatch.pr (pairE m c) (order m c) s % 8704) :=
  nums_of (V_piece m c 23 hostOps0_13 rfl main_v86 (by decide)) (w_v86 (upTo m c 23) (Dispatch.pr (pairE m c) (order m c)) (nums_of (V_upTo m c 23 main_v85 (by decide)).symm (h_v85 hx)) (fun s => by have := Dispatch.pr_lt (sorted hx) s.val; omega) (word_of (V_upTo m c 23 main_c_23 (by decide)).symm h_c_23))

omit hx in
theorem h_c_24 : (V m c main_c_24 : S_.Idx → BitVec 32) ValueIdx.ix0 = BitVec.ofNat 32 0 :=
  word_of (V_piece m c 24 hostOps0_14 rfl main_c_24 (by decide)) (w_c_24 (upTo m c 24) )

theorem h_v87 : Nums (n := 21504) (V m c main_v87) (Dispatch.src (pairE m c) (order m c)) :=
  nums_of (V_piece m c 25 hostOps0_15 rfl main_v87 (by decide)) (w_v87 (upTo m c 25) (Dispatch.real (pairE m c)) _ (bits_of (V_upTo m c 25 main_v69 (by decide)).symm (h_v69 hx)) (nums_of (V_upTo m c 25 main_v86 (by decide)).symm (h_v86 hx)) (word_of (V_upTo m c 25 main_c_24 (by decide)).symm h_c_24))

omit hx in
theorem h_v88 : Nums (n := 21504) (V m c main_v88) (fun s => s) :=
  nums_of (V_piece m c 26 to_v90 rfl main_v88 (by decide)) (w_v88 (upTo m c 26) )

omit hx in
theorem h_v90 : Nums (n := 21504) (V m c main_v90) (fun s => 17408 + s) :=
  nums_of (V_piece m c 26 to_v90 rfl main_v90 (by decide)) (w_v90 (upTo m c 26) )

theorem h_v91 : Nums (n := 8) (V m c main_v91) (fun a => Dispatch.start (pairE m c) a + Dispatch.cnt (pairE m c) a) :=
  nums_of (V_piece m c 27 to_v91 rfl main_v91 (by decide)) (w_v91 (upTo m c 27) (Dispatch.start (pairE m c)) (Dispatch.cnt (pairE m c)) (nums_of (V_upTo m c 27 main_v14 (by decide)).symm (h_v14 hx)) (nums_of (V_upTo m c 27 main_v12 (by decide)).symm (h_v12 hx)))

theorem h_v98 : Nums (n := 21504) (V m c main_v98) (fun s => Dispatch.start (pairE m c) (Dispatch.ec (pairE m c) s) + Dispatch.cnt (pairE m c) (Dispatch.ec (pairE m c) s)) :=
  nums_of (V_piece m c 28 to_v98 rfl main_v98 (by decide)) (w_v98 (upTo m c 28) (fun a => Dispatch.start (pairE m c) a + Dispatch.cnt (pairE m c) a) (Dispatch.ec (pairE m c)) (nums_of (V_upTo m c 28 main_v91 (by decide)).symm (h_v91 hx)) (nums_of (V_upTo m c 28 main_v49 (by decide)).symm (h_v49 hx)) (fun s => ec_small _))

theorem h_v99 : Nums (n := 21504) (V m c main_v99) (fun s => 17408 + s - (Dispatch.start (pairE m c) (Dispatch.ec (pairE m c) s) + Dispatch.cnt (pairE m c) (Dispatch.ec (pairE m c) s))) :=
  nums_of (V_piece m c 29 to_v101 rfl main_v99 (by decide)) (w_v99 (upTo m c 29) _ _ (nums_of (V_upTo m c 29 main_v90 (by decide)).symm h_v90) (nums_of (V_upTo m c 29 main_v98 (by decide)).symm (h_v98 hx)) (fun s => by have := Dispatch.cum_le (e := pairE m c) (Dispatch.ec (pairE m c) s); have := Dispatch.start_cnt (e := pairE m c) (Dispatch.ec (pairE m c) s); show Dispatch.start (pairE m c) (Dispatch.ec (pairE m c) s) + Dispatch.cnt (pairE m c) (Dispatch.ec (pairE m c) s) ≤ 17408 + s; omega))

theorem h_v101 : Bits' (n := 21504) (V m c main_v101) (fun s => Dispatch.raw (pairE m c) (s / 512) < 8) :=
  bits_of (V_piece m c 29 to_v101 rfl main_v101 (by decide)) (w_v101 (upTo m c 29) (fun s => Dispatch.raw (pairE m c) (s / 512)) (nums_of (V_upTo m c 29 main_v47 (by decide)).symm (h_v47 hx)) (fun s => raw_small _))

theorem h_v102 : Nums (n := 21504) (V m c main_v102) (fun s => if Dispatch.raw (pairE m c) (s / 512) < 8 then 17408 + s - (Dispatch.start (pairE m c) (Dispatch.ec (pairE m c) s) + Dispatch.cnt (pairE m c) (Dispatch.ec (pairE m c) s)) else s) :=
  nums_of (V_piece m c 30 hostOps0_17 rfl main_v102 (by decide)) (w_v102 (upTo m c 30) (fun s => Dispatch.raw (pairE m c) (s / 512) < 8) _ _ (bits_of (V_upTo m c 30 main_v101 (by decide)).symm (h_v101 hx)) (nums_of (V_upTo m c 30 main_v99 (by decide)).symm (h_v99 hx)) (nums_of (V_upTo m c 30 main_v88 (by decide)).symm h_v88))

theorem h_v103 : Nums (n := 21504) (V m c main_v103) (Dispatch.dst (pairE m c) (order m c)) :=
  nums_of (V_piece m c 31 hostOps0_18 rfl main_v103 (by decide)) (w_v103 (upTo m c 31) (Dispatch.real (pairE m c)) _ _ (bits_of (V_upTo m c 31 main_v69 (by decide)).symm (h_v69 hx)) (nums_of (V_upTo m c 31 main_v85 (by decide)).symm (h_v85 hx)) (nums_of (V_upTo m c 31 main_v102 (by decide)).symm (h_v102 hx)))

/-- The number of valid tiles. -/
theorem v112_at : (V m c main_v112 : S1.Idx → BitVec 32) (ix1 (0 : Fin 1)) = BitVec.ofNat 32 (Dispatch.nval (pairE m c)) :=
  word_of (V_piece m c 34 hostOps0_21 rfl main_v112 (by decide)) ((w_v112 (upTo m c 34)).trans (word_of (V_upTo m c 34 main_v26 (by decide)).symm (h_v26 hx)))

/-- The token a slot reads. -/
theorem v113_at (T : Fin 42) (r : Fin 512) :
    (V m c main_v113 : S42x1x512.Idx → BitVec 32) (ix3 T (0 : Fin 1) r) = BitVec.ofNat 32 (Dispatch.src (pairE m c) (order m c) (T.val * 512 + r.val)) := by
  have hT := T.isLt
  have hr := r.isLt
  exact word_of (V_piece m c 34 hostOps0_21 rfl main_v113 (by decide)) ((w_v113 (upTo m c 34) T r ⟨T.val * 512 + r.val, by omega⟩ rfl).trans
    (nums_of (V_upTo m c 34 main_v87 (by decide)).symm (h_v87 hx) _))

/-- The row a slot writes. -/
theorem v114_at (T : Fin 42) (r : Fin 512) :
    (V m c main_v114 : S42x1x512.Idx → BitVec 32) (ix3 T (0 : Fin 1) r) = BitVec.ofNat 32 (Dispatch.dst (pairE m c) (order m c) (T.val * 512 + r.val)) := by
  have hT := T.isLt
  have hr := r.isLt
  exact word_of (V_piece m c 34 hostOps0_21 rfl main_v114 (by decide)) ((w_v114 (upTo m c 34) T r ⟨T.val * 512 + r.val, by omega⟩ rfl).trans
    (nums_of (V_upTo m c 34 main_v103 (by decide)).symm (h_v103 hx) _))

theorem v110_at (s : Fin 21504) :
    (V m c main_v110 : S21504.Idx → F .f32) (ix1 s) = (V m c main_v3 : S17408.Idx → F .f32) (ix1 ⟨Dispatch.pr (pairE m c) (order m c) s.val, Dispatch.pr_lt (sorted hx) _⟩) :=
  word_of (V_piece m c 32 hostOps0_19 rfl main_v110 (by decide)) ((w_v110 (upTo m c 32) (Dispatch.pr (pairE m c) (order m c))
    (nums_of (V_upTo m c 32 main_v85 (by decide)).symm (h_v85 hx)) s (Dispatch.pr_lt (sorted hx) _)).trans (word_of (V_upTo m c 32 main_v3 (by decide)).symm rfl))

/-- The weight a slot carries: its pair's, and zero without a pair. -/
theorem v115_at (s : Fin 21504) : (V m c main_v115 : S21504x1.Idx → F .f32) (ix2 s (0 : Fin 1))
    = if Dispatch.real (pairE m c) s.val then
        (m ((c : Thread nD τ).loc main_arg1) : S8704x2.Idx → F .f32) (ix2 ⟨Dispatch.pr (pairE m c) (order m c) s.val % 8704, Nat.mod_lt _ (by decide)⟩
          ⟨Dispatch.pr (pairE m c) (order m c) s.val / 8704, by have := Dispatch.pr_lt (sorted hx) s.val; omega⟩)
      else FloatOps.ofBits .f32 0x00000000#32 := by
  refine word_of (V_piece m c 34 hostOps0_21 rfl main_v115 (by decide)) ((w_v115 (upTo m c 34) s).trans
    (word_of (V_upTo m c 34 main_v111 (by decide)).symm (word_of (V_piece m c 33 hostOps0_20 rfl main_v111 (by decide))
      ((w_v111 (upTo m c 33) (Dispatch.real (pairE m c)) (bits_of (V_upTo m c 33 main_v69 (by decide)).symm (h_v69 hx)) s).trans ?_))))
  have hp := Dispatch.pr_lt (sorted hx) s.val
  refine if_congr Iff.rfl ?_ ?_
  · exact (word_of (V_upTo m c 33 main_v110 (by decide)).symm (v110_at hx s)).trans
      (v3_at m c _ _ _ (by show Dispatch.pr (pairE m c) (order m c) s.val = Dispatch.pr (pairE m c) (order m c) s.val / 8704 * 8704 + Dispatch.pr (pairE m c) (order m c) s.val % 8704; omega))
  · exact word_of (V_upTo m c 33 main_cst (by decide)).symm (word_of (V_piece m c 32 hostOps0_19 rfl main_cst (by decide)) (w_cst (upTo m c 32)))

end Cert.KernelE.Rows

end
-- ==== Proof.Routed.lean ====
/-
  The precondition read, and what the tables are under it: the tiles' experts, the number of valid tiles, and every slot's
  token, row of the result and weight, in the indices the run and the value use.
-/
module

public import proofs.«01_k».proof.Proof.Tables
public import proofs.«01_k».proof.Proof.Plan
public import proofs.«01_k».proof.Proof.Gen.Pre_routed
public import Idealize.ShloMosaic.Lib.StableHlo.Predicate

@[expose] public section

set_option maxRecDepth 16384

noncomputable section

namespace Cert.KernelE.Rows

open Idealize.ShloMosaic Idealize.ShloMosaic.TcCoe Idealize.ShloMosaic.Pipeline
open Gen

variable {F : FTy → Type} [FloatOps F]

/-- A word at least zero and below a small bound, both signed, is below the bound. -/
theorem in_range (a : BitVec 32) (n : ℕ) (hn : n < 2 ^ 31)
    (h : IntOp.andi (IntOp.cmpi .sge a 0#32) (IntOp.cmpi .slt a (BitVec.ofNat 32 n)) = 1#1) : a.toNat < n := by
  have h2 : IntOp.cmpi .sge a 0#32 = 1#1 ∧ IntOp.cmpi .slt a (BitVec.ofNat 32 n) = 1#1 := by
    revert h
    generalize IntOp.cmpi .sge a 0#32 = p
    generalize IntOp.cmpi .slt a (BitVec.ofNat 32 n) = q
    revert p q
    decide
  obtain ⟨h0, h1⟩ := h2
  simp only [IntOp.cmpi, StableHlo.Predicate.ofBool_eq_one_iff, BitVec.sle, BitVec.slt, decide_eq_true_eq,
    StableHlo.Predicate.toInt_ofNat_small n hn] at h0 h1
  have e0 : (0#32 : BitVec 32).toInt = 0 := by decide
  have := a.toInt_eq_toNat_cond
  split_ifs at this <;> omega

/-- The precondition gives the experts' numbers their range. -/
theorem experts_in (E : IVec S8704x2 32) (W : FVec F S8704x2 .f32) (H : FVec F S8704x2048 .f32) (W1 W3 : FVec F S2x8x2048x4096 .f32)
    (W2 : FVec F S2x8x4096x2048 .f32) (h : Pre_routed.fn E W H W1 W3 W2 = fun _ => 1#1) (i : S8704x2.Idx) : (E i).toNat < 8 := by
  have e := congrFun h i
  simp only [Pre_routed.fn] at e
  exact in_range _ 8 (by decide) e

/-- The precondition at a memory. -/
def Routed (m : (ℓ : Loc nD τ sig) → Buf (Elt F) ℓ) (c : Dev nD) : IVec S8704x2 1 :=
  Pre_routed.fn (F := F) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem ranged_of (m : (ℓ : Loc nD τ sig) → Buf (Elt F) ℓ) (c : Dev nD) (h : Routed m c = fun _ => 1#1) : Ranged m c :=
  fun _ _ => experts_in _ _ _ _ _ _ h _

/-! ## Two spellings of an index -/

theorem tix_eq (T : Fin 42) (r : Fin 512) : tix T r = ix3 T 0 r := by
  funext a; match a with
  | 0 => rfl
  | 1 => rfl
  | 2 => rfl
theorem i1 {n : ℕ} (T : Fin n) : (ix1 T : (⟨1, ![n]⟩ : Shape).Idx) = ValueIdx.ix1 T := by
  funext a; match a with
  | 0 => rfl
theorem i2 {n k : ℕ} (T : Fin n) (r : Fin k) : (ix2 T r : (⟨2, ![n, k]⟩ : Shape).Idx) = ValueIdx.ix2 T r := by
  funext a; match a with
  | 0 => rfl
  | 1 => rfl
theorem i3 {n l k : ℕ} (T : Fin n) (s : Fin l) (r : Fin k) : (ix3 T s r : (⟨3, ![n, l, k]⟩ : Shape).Idx) = ValueIdx.ix3 T s r := by
  funext a; match a with
  | 0 => rfl
  | 1 => rfl
  | 2 => rfl

section
variable {m : (ℓ : Loc nD τ sig) → Buf (Elt F) ℓ} {c : Dev nD} (hx : Ranged m c)
include hx

theorem tile_word (T : Fin 42) : (V m c main_v45 (ix1 T) : BitVec 32) = BitVec.ofNat 32 (Dispatch.tileE (pairE m c) T.val) :=
  (congrArg (V m c main_v45) (i1 T)).trans (h_v45 hx T)
theorem tile_lt (T : Fin 42) : Dispatch.tileE (pairE m c) T.val < 8 := Dispatch.tileE_lt (Dispatch.nval_pos (sorted hx)) _
theorem tile_nat (T : Fin 42) : (V m c main_v45 (ix1 T) : BitVec 32).toNat = Dispatch.tileE (pairE m c) T.val := by
  have := tile_lt hx T
  rw [tile_word hx T]; exact ofNat_toNat (by omega)
theorem valid_word : (V m c main_v112 (ix1 (0 : Fin 1)) : BitVec 32) = BitVec.ofNat 32 (Dispatch.nval (pairE m c)) :=
  (congrArg (V m c main_v112) (i1 (0 : Fin 1))).trans (v112_at hx)
theorem src_nat (T : Fin 42) (r : Fin 512) : (V m c main_v113 (ix3 T 0 r) : BitVec 32).toNat = Dispatch.src (pairE m c) (order m c) (T.val * 512 + r.val) := by
  have := Dispatch.src_lt (sorted hx) (T.val * 512 + r.val)
  rw [show (V m c main_v113 (ix3 T 0 r) : BitVec 32) = _ from (congrArg (V m c main_v113) (i3 T (0 : Fin 1) r)).trans (v113_at hx T r)]
  exact (BitVec.toNat_ofNat _ _).trans (Nat.mod_eq_of_lt (lt_trans this (by decide)))
theorem dst_nat (T : Fin 42) (r : Fin 512) : (V m c main_v114 (ix3 T 0 r) : BitVec 32).toNat = Dispatch.dst (pairE m c) (order m c) (T.val * 512 + r.val) := by
  have := Dispatch.dst_lt (sorted hx) (T.val * 512 + r.val) (by omega)
  rw [show (V m c main_v114 (ix3 T 0 r) : BitVec 32) = _ from (congrArg (V m c main_v114) (i3 T (0 : Fin 1) r)).trans (v114_at hx T r)]
  exact (BitVec.toNat_ofNat _ _).trans (Nat.mod_eq_of_lt (lt_trans this (by decide)))
end

/-- Numbers of experts in range give what the run and the value need. -/
theorem good_of (m : (ℓ : Loc nD τ sig) → Buf (Elt F) ℓ) (h : ∀ c, Routed m c = fun _ => 1#1) : Good m where
  ok := ok_of _ fun T => by
    have h1 := tile_nat (ranged_of m 0 (h 0)) T
    have h2 := tile_lt (ranged_of m 0 (h 0)) T
    show (V m 0 main_v45 (ix1 T) : BitVec 32).toNat < 8
    omega
  src c T r := by
    rw [tix_eq, src_nat (ranged_of m c (h c))]
    exact Dispatch.src_lt (sorted (ranged_of m c (h c))) _
  dst c T r := by
    rw [tix_eq, dst_nat (ranged_of m c (h c))]
    exact Dispatch.dst_lt (sorted (ranged_of m c (h c))) _ (by omega)
  inj c T T' r r' e := by
    rw [tix_eq, tix_eq, dst_nat (ranged_of m c (h c)), dst_nat (ranged_of m c (h c))] at e
    have e' := Dispatch.dst_inj (sorted (ranged_of m c (h c))) _ _ e
    exact ⟨Fin.ext (by omega), Fin.ext (by omega)⟩

end Cert.KernelE.Rows

end
-- ==== Proof.Experts.lean ====
/-
  The reference of the experts' kernel read at an index: row `8704 * k + t` of the result is the weight of token `t`'s `k`-th
  expert times that expert's gated units of the token, and the rows past the pairs are zero.
-/
module

public import proofs.«01_k».proof.Proof.Gen.ReferenceEIdeal.Run
public import Idealize.ShloMosaic.Lib.Pointwise

@[expose] public section

set_option maxRecDepth 16384

noncomputable section

namespace Cert.ReferenceEIdeal.Experts

open Cert.ReferenceEIdeal Cert.ReferenceEIdeal.Gen Idealize.ShloMosaic Idealize.ShloMosaic.TcCoe

/-- The experts' numbers, one-hot. -/
def hot (E : IVec S8704x2 32) : FVec Ideal S8704x2x8 .f32 :=
  uitofp .f32 (cmpi .eq (broadcastInDim S8704x2x8 ![0, 1, 2] bcast_S8704x2x1_S8704x2x8_0_1_2 (broadcastInDim S8704x2x1 ![0, 1] bcast_S8704x2_S8704x2x1_0_1 E))
    (broadcastInDim S8704x2x8 ![0, 1, 2] bcast_S1x1x8_S8704x2x8_0_1_2 (iotaInDim S1x1x8 32 2)))

/-- The gates. -/
def gate (E : IVec S8704x2 32) (W : FVec Ideal S8704x2 .f32) : FVec Ideal S8704x2x8 .f32 :=
  mulf (hot E) (broadcastInDim S8704x2x8 ![0, 1, 2] bcast_S8704x2x1_S8704x2x8_0_1_2 (broadcastInDim S8704x2x1 ![0, 1] bcast_S8704x2_S8704x2x1_0_1 W))

/-- The tokens' rows times every expert's matrix of input weights (the gate's, or the other factor's). -/
def hidden (H : FVec Ideal S8704x2048 .f32) (W : FVec Ideal S2x8x2048x4096 .f32) : FVec Ideal S8x8704x4096 .f32 :=
  transpose S8x8704x4096 [0, 2, 1] (Host.dotGeneral dot_S8x2048x4096_S8704x2048_S8x4096x8704_1_1_02_0_n_n none
    (shapeCast S8x2048x4096 (extractStridedSlice S1x8x2048x4096 ![0, 0, 0, 0] W slices_S2x8x2048x4096_S1x8x2048x4096_0_0_0_0) shapeCasts_S1x8x2048x4096_S8x2048x4096) H)
    transposes_S8x4096x8704_S8x8704x4096_0_2_1

/-- Every expert's gated units of the tokens' rows, times its output weights. -/
def expert (H : FVec Ideal S8704x2048 .f32) (W1 W3 : FVec Ideal S2x8x2048x4096 .f32) (W2 : FVec Ideal S2x8x4096x2048 .f32) : FVec Ideal S8x8704x2048 .f32 :=
  Host.dotGeneral dot_S8x8704x4096_S8x4096x2048_S8x8704x2048_2_1_1_2_0_0 none
    (mulf (mulf (hidden H W1) (Host.divf (broadcastInDim S8x8704x4096 ![] bcast_S_S8x8704x4096 (constant S_ .f32 0x3F800000#32))
      (addf (broadcastInDim S8x8704x4096 ![] bcast_S_S8x8704x4096 (constant S_ .f32 0x3F800000#32)) (Host.exp (Host.negf (hidden H W1)))))) (hidden H W3))
    (shapeCast S8x4096x2048 (extractStridedSlice S1x8x4096x2048 ![0, 0, 0, 0] W2 slices_S2x8x4096x2048_S1x8x4096x2048_0_0_0_0) shapeCasts_S1x8x4096x2048_S8x4096x2048)

/-- The gated sum over the experts. -/
def mixed (G : FVec Ideal S8704x2x8 .f32) (Y : FVec Ideal S8x8704x2048 .f32) : FVec Ideal S2x8704x2048 .f32 :=
  Host.reduceAdd (mulf (broadcastInDim S2x8x8704x2048 ![0, 1, 2, 3] bcast_S2x8x8704x1_S2x8x8704x2048_0_1_2_3
    (broadcastInDim S2x8x8704x1 ![0, 1, 2] bcast_S2x8x8704_S2x8x8704x1_0_1_2 (transpose S2x8x8704 [1, 2, 0] G transposes_S8704x2x8_S2x8x8704_1_2_0)))
    (broadcastInDim S2x8x8704x2048 ![0, 1, 2, 3] bcast_S1x8x8704x2048_S2x8x8704x2048_0_1_2_3 (broadcastInDim S1x8x8704x2048 ![1, 2, 3] bcast_S8x8704x2048_S1x8x8704x2048_1_2_3 Y)))
    (constant S_ .f32 0x00000000#32) reducesTo_S2x8x8704x2048_S2x8704x2048_d1 h_S_

/-- The first experts' rows, the second experts' rows, and rows of zeros. -/
def stacked (M : FVec Ideal S2x8704x2048 .f32) : FVec Ideal S21504x2048 .f32 :=
  concatenate S21504x2048 0 [⟨S8704x2048, (shapeCast S8704x2048 (extractStridedSlice S1x8704x2048 ![0, 0, 0] M slices_S2x8704x2048_S1x8704x2048_0_0_0) shapeCasts_S1x8704x2048_S8704x2048)⟩,
    ⟨S8704x2048, (shapeCast S8704x2048 (extractStridedSlice S1x8704x2048 ![1, 0, 0] M slices_S2x8704x2048_S1x8704x2048_1_0_0) shapeCasts_S1x8704x2048_S8704x2048)⟩,
    ⟨S4096x2048, (broadcastInDim S4096x2048 ![] bcast_S_S4096x2048 (constant S_ .f32 0x00000000#32))⟩] concatenates_S8704x2048_S8704x2048_S4096x2048_S21504x2048_d0

/-- The reference's term, over its six arguments. -/
def REF (E : IVec S8704x2 32) (W : FVec Ideal S8704x2 .f32) (H : FVec Ideal S8704x2048 .f32)
    (W1 W3 : FVec Ideal S2x8x2048x4096 .f32) (W2 : FVec Ideal S2x8x4096x2048 .f32) : FVec Ideal S21504x2048 .f32 :=
  stacked (mixed (gate E W) (expert H W1 W3 W2))

/-- It is what the reference leaves in its result. -/
theorem res_eq (m : (ℓ : Loc nD τ sig) → Buf (Elt Ideal) ℓ) (c : Dev nD) : Value.res_main_v29 m c
    = REF (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := rfl

/-- A bit read as a number. -/
theorem bit (a b : BitVec 32) : (FloatOps.uitofp FTy.f32 (IntOp.cmpi CmpIPredicate.eq a b) : Ideal .f32) = if a = b then (1 : EReal) else 0 := by
  by_cases h : a = b
  · subst h
    rw [if_pos rfl, show IntOp.cmpi CmpIPredicate.eq a a = 1#1 by simp [IntOp.cmpi]]
    show (((1#1 : BitVec 1).toNat : ℝ) : EReal) = 1
    simp
  · rw [if_neg h, show IntOp.cmpi CmpIPredicate.eq a b = 0#1 by
      simp only [IntOp.cmpi, show (a == b) = false from beq_eq_false_iff_ne.2 h]; rfl]
    show (((0#1 : BitVec 1).toNat : ℝ) : EReal) = 0
    simp

theorem hot_at (E : IVec S8704x2 32) (t : Fin 8704) (k : Fin 2) (e : Fin 8) :
    hot E (ix3 t k e) = if E (ix2 t k) = BitVec.ofNat 32 e.val then (1 : EReal) else 0 := by
  pointwise [hot]
  exact bit _ _
theorem gate_at (E : IVec S8704x2 32) (W : FVec Ideal S8704x2 .f32) (t : Fin 8704) (k : Fin 2) (e : Fin 8) :
    gate E W (ix3 t k e) = hot E (ix3 t k e) * W (ix2 t k) := by
  pointwise [gate]
theorem hidden_at (H : FVec Ideal S8704x2048 .f32) (W : FVec Ideal S2x8x2048x4096 .f32) (e : Fin 8) (t : Fin 8704) (f : Fin 4096) :
    hidden H W (ix3 e t f) = ∑ i : Fin 2048, W (ix4 0 e i f) * H (ix2 t i) := by
  pointwise [hidden]

/-- What a hidden unit contributes: `s` times the logistic function of `s`, times `u`. -/
def unit (s u : EReal) : EReal := s * Ideal.logistic s * u

theorem expert_at (H : FVec Ideal S8704x2048 .f32) (W1 W3 : FVec Ideal S2x8x2048x4096 .f32) (W2 : FVec Ideal S2x8x4096x2048 .f32)
    (e : Fin 8) (t : Fin 8704) (k : Fin 2048) :
    expert H W1 W3 W2 (ix3 e t k) = ∑ f : Fin 4096, unit (hidden H W1 (ix3 e t f)) (hidden H W3 (ix3 e t f)) * W2 (ix4 0 e f k) := by
  pointwise [expert, unit]
  rfl
theorem mixed_at (G : FVec Ideal S8704x2x8 .f32) (Y : FVec Ideal S8x8704x2048 .f32) (k : Fin 2) (t : Fin 8704) (j : Fin 2048) :
    mixed G Y (ix3 k t j) = ∑ e : Fin 8, G (ix3 t k e) * Y (ix3 e t j) := by
  pointwise [mixed]

theorem stacked_first (M : FVec Ideal S2x8704x2048 .f32) (R : Fin 21504) (j : Fin 2048) (h : R.val < 8704) :
    stacked M (ix2 R j) = M (ix3 0 ⟨R.val, h⟩ j) := by
  pointwise [stacked]
  rw [dif_pos h]
theorem stacked_second (M : FVec Ideal S2x8704x2048 .f32) (R : Fin 21504) (j : Fin 2048) (h : ¬ R.val < 8704) (h' : R.val - 8704 < 8704) :
    stacked M (ix2 R j) = M (ix3 1 ⟨R.val - 8704, h'⟩ j) := by
  pointwise [stacked]
  rw [dif_neg h, dif_pos h']
theorem stacked_rest (M : FVec Ideal S2x8704x2048 .f32) (R : Fin 21504) (j : Fin 2048) (h : ¬ R.val < 8704) (h' : ¬ R.val - 8704 < 8704) :
    stacked M (ix2 R j) = (0 : EReal) := by
  pointwise [stacked]
  rw [dif_neg h, dif_neg h']

/-- The result's row of a token's `κ`-th expert is that expert's row. -/
theorem stacked_pair (M : FVec Ideal S2x8704x2048 .f32) (R : Fin 21504) (j : Fin 2048) (t : Fin 8704) (κ : Fin 2) (h : R.val = κ.val * 8704 + t.val) :
    stacked M (ix2 R j) = M (ix3 κ t j) := by
  have hκ : κ = 0 ∨ κ = 1 := by
    rcases Nat.lt_or_ge κ.val 1 with h | h
    · exact Or.inl (Fin.ext (Nat.lt_one_iff.1 h))
    · exact Or.inr (Fin.ext (Nat.le_antisymm (Nat.le_of_lt_succ κ.isLt) h))
  have ht := t.isLt
  rcases hκ with rfl | rfl
  · have e : R.val = t.val := h.trans ((congrArg (· + t.val) (Nat.zero_mul 8704)).trans (Nat.zero_add t.val))
    rw [stacked_first M R j (by omega)]
    exact congrArg (fun n : Fin 8704 => M (ix3 0 n j)) (Fin.ext e)
  · have e : R.val = 8704 + t.val := h.trans (congrArg (· + t.val) (Nat.one_mul 8704))
    rw [stacked_second M R j (by omega) (by omega)]
    exact congrArg (fun n : Fin 8704 => M (ix3 1 n j)) (Fin.ext (Nat.sub_eq_of_eq_add (e.trans (Nat.add_comm _ _))))

section
variable (E : IVec S8704x2 32) (W : FVec Ideal S8704x2 .f32) (H : FVec Ideal S8704x2048 .f32)
  (W1 W3 : FVec Ideal S2x8x2048x4096 .f32) (W2 : FVec Ideal S2x8x4096x2048 .f32)

/-- THE REFERENCE AT A PAIR'S ROW. -/
theorem REF_pair (R : Fin 21504) (j : Fin 2048) (t : Fin 8704) (κ : Fin 2) (h : R.val = κ.val * 8704 + t.val) (e : Fin 8)
    (he : (E (ix2 t κ)).toNat = e.val) :
    REF E W H W1 W3 W2 (ix2 R j) = W (ix2 t κ) * ∑ f : Fin 4096,
      unit (∑ i : Fin 2048, H (ix2 t i) * W1 (ix4 0 e i f)) (∑ i : Fin 2048, H (ix2 t i) * W3 (ix4 0 e i f)) * W2 (ix4 0 e f j) := by
  have hw : ∀ a : Fin 8, E (ix2 t κ) = BitVec.ofNat 32 a.val ↔ a = e := fun a => by
    constructor
    · intro h
      rw [h, BitVec.toNat_ofNat, Nat.mod_eq_of_lt (by omega)] at he
      exact Fin.ext he
    · intro h
      apply BitVec.eq_of_toNat_eq
      rw [he, BitVec.toNat_ofNat, Nat.mod_eq_of_lt (by omega), h]
  unfold REF
  rw [stacked_pair _ R j t κ h, mixed_at, Finset.sum_eq_single e]
  · rw [gate_at, hot_at, if_pos ((hw e).2 rfl), one_mul, expert_at]
    refine congrArg _ (Finset.sum_congr rfl fun f _ => ?_)
    rw [hidden_at, hidden_at]
    simp only [mul_comm]
  · intro a _ ha
    rw [gate_at, hot_at, if_neg (fun h => ha ((hw a).1 h)), zero_mul, zero_mul]
  · intro h; exact absurd (Finset.mem_univ _) h

/-- The rows past the pairs. -/
theorem REF_rest (R : Fin 21504) (j : Fin 2048) (h : 17408 ≤ R.val) : REF E W H W1 W3 W2 (ix2 R j) = (0 : EReal) := by
  unfold REF
  exact stacked_rest _ R j (by omega) (by omega)
end

end Cert.ReferenceEIdeal.Experts

end
-- ==== Proof.Tiles.lean ====
/-
  The value of a tile of the experts' kernel: its accumulator, built block of 512 hidden units by block, is the sum over
  all 4096 hidden units of the tile's expert.
-/
module

public import proofs.«01_k».proof.Proof.Routed
public import proofs.«01_k».proof.Proof.Experts
public import Idealize.ShloMosaic.Lib.Pipeline.ValueKit
public import Idealize.ShloMosaic.Lib.Pointwise

@[expose] public section

set_option maxRecDepth 16384

noncomputable section

namespace Cert.KernelE.Rows

open Idealize.ShloMosaic Idealize.ShloMosaic.TcCoe Idealize.ShloMosaic.Pipeline
open Gen
open Cert.ReferenceEIdeal.Experts (unit)

theorem rix_eq {n : ℕ} (j : Fin n) (k : Fin 2048) : rix j k = ix2 j k := by
  funext a; match a with
  | 0 => rfl
  | 1 => rfl

/-! ## The payloads at an index -/

theorem pay1_at (x : Vec Ideal S512x2048 .f32) (j) : k0_pay1 (F := Ideal) x j = x j := by pointwise [k0_pay1]

theorem pay2_at (j) : k0_pay2 (F := Ideal) j = 0 := by pointwise [k0_pay2]

/-- What one block of 512 hidden units adds to an entry of a tile's accumulator. -/
def part (x : Vec Ideal S512x2048 .bf16) (w1 w3 : Vec Ideal S1x1x2048x512 .f32) (w2 : Vec Ideal S1x1x512x2048 .f32)
    (r : Fin 512) (k : Fin 2048) : EReal :=
  ∑ f : Fin 512, unit (∑ i : Fin 2048, x (ix2 r i) * w1 (ix4 0 0 i f)) (∑ i : Fin 2048, x (ix2 r i) * w3 (ix4 0 0 i f))
    * w2 (ix4 0 0 f k)

theorem pay3_at (x : Vec Ideal S512x2048 .bf16) (w1 w3 : Vec Ideal S1x1x2048x512 .f32) (acc : Vec Ideal S512x2048 .f32)
    (w2 : Vec Ideal S1x1x512x2048 .f32) (r : Fin 512) (k : Fin 2048) :
    k0_pay3 (F := Ideal) x w1 w3 acc w2 (ix2 r k) = acc (ix2 r k) + part x w1 w3 w2 r k := by
  pointwise [k0_pay3, unit, part]

theorem pay4_at (i : grid0.Coords) (v0 : BitVec 32) (acc : Vec Ideal S512x2048 .f32) (w : Vec Ideal S512x1 .f32) (r : Fin 512) (k : Fin 2048) :
    k0_pay4 (F := Ideal) i v0 acc w (ix2 r k)
      = if Scalar.cmpi .slt (BitVec.ofNat 32 (i 0).val) v0 = 1#1 then acc (ix2 r k) * w (ix2 r 0) else (0 : EReal) := by
  unfold k0_pay4
  dsimp only
  unfold Scalar.select
  split_ifs with h h' h'
  · pointwise []
  · exact absurd h h'
  · exact absurd h' h
  · pointwise []

variable (m : (ℓ : Loc nD τ sig) → Buf (Elt Ideal) ℓ) (g : Good m)

/-! ## The blocks -/

/-- A tile's expert. -/
abbrev ex (T : Fin 42) : BitVec 32 := te m (ix1 T)

theorem pe_pt (T : Fin 42) (j : Fin 8) : pe (tbl m) (grid0.coords (pt m g T j)) = ex m T := by
  unfold pe; rw [pt0]; rfl

theorem pb_pt (T : Fin 42) (j : Fin 8) (hv : vT m T = 1#1) : (pb (tbl m) (grid0.coords (pt m g T j))).toNat = j.val := by
  have hj : j.val < 8 := j.isLt
  unfold pb Scalar.select
  rw [pt0, pt1, if_pos (show Scalar.cmpi .slt (BitVec.ofNat 32 T.val) (nval (tbl m 1)) = 1 from hv), ofNat_toNat (lt_trans hj (by decide))]

theorem ex_lt (g : Good m) (T : Fin 42) : (ex m T).toNat < 8 := by
  have h := of_ok (tbl m) g.ok (grid0.coords (pt m g T 0))
  rw [pe_pt m g] at h
  exact h

/-- Where an entry of a block of input weights stands among all of them, and of output weights. -/
theorem emb_in (e j : ℕ) (he : e < 8) (hj : j < 8) (i : Fin 2048) (f : Fin 512) (a : Fin 4) :
    (![0, e, 0, j] : Fin 4 → ℕ) a * S1x1x2048x512.size a + ((ix4 0 0 i f : S1x1x2048x512.Idx) a).val
      = ((ix4 0 ⟨e, he⟩ i ⟨j * 512 + f.val, by omega⟩ : S2x8x2048x4096.Idx) a).val := by
  match a with
  | 0 => rfl
  | 1 => exact Nat.mul_one _
  | 2 => exact Nat.zero_add _
  | 3 => rfl
theorem emb_out (e j : ℕ) (he : e < 8) (hj : j < 8) (f : Fin 512) (k : Fin 2048) (a : Fin 4) :
    (![0, e, j, 0] : Fin 4 → ℕ) a * S1x1x512x2048.size a + ((ix4 0 0 f k : S1x1x512x2048.Idx) a).val
      = ((ix4 0 ⟨e, he⟩ ⟨j * 512 + f.val, by omega⟩ k : S2x8x4096x2048.Idx) a).val := by
  match a with
  | 0 => rfl
  | 1 => exact Nat.mul_one _
  | 2 => rfl
  | 3 => exact Nat.zero_add _

theorem b1_at (c : Dev nD) (T : Fin 42) (j : Fin 8) (hv : vT m T = 1#1) (i : Fin 2048) (f : Fin 512) :
    b1 m g c (pt m g T j) (ix4 0 0 i f) = V m c main_arg3 (ix4 0 ⟨(ex m T).toNat, ex_lt m g T⟩ i ⟨j.val * 512 + f.val, by omega⟩) := by
  show V m c main_arg3 ((((cf m g).win 3).rect (pt m g T j)).emb (ix4 0 0 i f)) = _
  have key : ∀ a : Fin 4, ((((cf m g).win 3).rect (pt m g T j)).emb (ix4 0 0 i f) a).val
      = ((ix4 0 ⟨(ex m T).toNat, ex_lt m g T⟩ i ⟨j.val * 512 + f.val, by omega⟩ : S2x8x2048x4096.Idx) a).val := fun a => by
    refine (Window.rect_emb_val ((cf m g).win 3) (pt m g T j) (ix4 0 0 i f) a).trans ?_
    show cc0_transform_4 k0_off1_inb numel1_S1 inb_S1_S1_0 (tbl m) (grid0.coords (pt m g T j)) a * _ + _ = _
    rw [map4, pe_pt m g, pb_pt m g T j hv]
    exact emb_in (ex m T).toNat j.val (ex_lt m g T) j.isLt i f a
  exact congrArg _ (funext fun a => Fin.ext (key a))

theorem b3_at (c : Dev nD) (T : Fin 42) (j : Fin 8) (hv : vT m T = 1#1) (i : Fin 2048) (f : Fin 512) :
    b3 m g c (pt m g T j) (ix4 0 0 i f) = V m c main_arg4 (ix4 0 ⟨(ex m T).toNat, ex_lt m g T⟩ i ⟨j.val * 512 + f.val, by omega⟩) := by
  show V m c main_arg4 ((((cf m g).win 4).rect (pt m g T j)).emb (ix4 0 0 i f)) = _
  have key : ∀ a : Fin 4, ((((cf m g).win 4).rect (pt m g T j)).emb (ix4 0 0 i f) a).val
      = ((ix4 0 ⟨(ex m T).toNat, ex_lt m g T⟩ i ⟨j.val * 512 + f.val, by omega⟩ : S2x8x2048x4096.Idx) a).val := fun a => by
    refine (Window.rect_emb_val ((cf m g).win 4) (pt m g T j) (ix4 0 0 i f) a).trans ?_
    show cc0_transform_5 k0_off1_inb numel1_S1 inb_S1_S1_0 (tbl m) (grid0.coords (pt m g T j)) a * _ + _ = _
    rw [map5, pe_pt m g, pb_pt m g T j hv]
    exact emb_in (ex m T).toNat j.val (ex_lt m g T) j.isLt i f a
  exact congrArg _ (funext fun a => Fin.ext (key a))

theorem b2_at (c : Dev nD) (T : Fin 42) (j : Fin 8) (hv : vT m T = 1#1) (f : Fin 512) (k : Fin 2048) :
    b2 m g c (pt m g T j) (ix4 0 0 f k) = V m c main_arg5 (ix4 0 ⟨(ex m T).toNat, ex_lt m g T⟩ ⟨j.val * 512 + f.val, by omega⟩ k) := by
  show V m c main_arg5 ((((cf m g).win 5).rect (pt m g T j)).emb (ix4 0 0 f k)) = _
  have key : ∀ a : Fin 4, ((((cf m g).win 5).rect (pt m g T j)).emb (ix4 0 0 f k) a).val
      = ((ix4 0 ⟨(ex m T).toNat, ex_lt m g T⟩ ⟨j.val * 512 + f.val, by omega⟩ k : S2x8x4096x2048.Idx) a).val := fun a => by
    refine (Window.rect_emb_val ((cf m g).win 5) (pt m g T j) (ix4 0 0 f k) a).trans ?_
    show cc0_transform_6 k0_off1_inb numel1_S1 inb_S1_S1_0 (tbl m) (grid0.coords (pt m g T j)) a * _ + _ = _
    rw [map6, pe_pt m g, pb_pt m g T j hv]
    exact emb_out (ex m T).toNat j.val (ex_lt m g T) j.isLt f k a
  exact congrArg _ (funext fun a => Fin.ext (key a))

theorem bW_at (c : Dev nD) (T : Fin 42) (r : Fin 512) :
    bW m g c (pt m g T 7) (ix2 r 0) = V m c main_v115 (ix2 ⟨T.val * 512 + r.val, by omega⟩ 0) := by
  have hT : T.val < 42 := T.isLt
  show V m c main_v115 ((((cf m g).win 2).rect (pt m g T 7)).emb (ix2 r 0)) = _
  have key : ∀ a : Fin 2, ((((cf m g).win 2).rect (pt m g T 7)).emb (ix2 r 0) a).val
      = ((ix2 ⟨T.val * 512 + r.val, by omega⟩ 0 : S21504x1.Idx) a).val := fun a => by
    refine (Window.rect_emb_val ((cf m g).win 2) (pt m g T 7) (ix2 r 0) a).trans ?_
    show cc0_transform_2 (grid0.coords (pt m g T 7)) a * _ + _ = _
    unfold cc0_transform_2
    dsimp only
    rw [pt0, ofNat_toNat (lt_trans hT (by decide))]
    match a with
    | 0 => rfl
    | 1 => rfl
  exact congrArg _ (funext fun a => Fin.ext (key a))

/-- A gathered row is the row of the activations that the word names. -/
theorem xb_at (c : Dev nD) (T : Fin 42) (r : Fin 512) (i : Fin 2048) :
    xb m g c T (ix2 r i) = hh m c (ix2 ⟨(V m c main_v113 (ix3 T 0 r) : BitVec 32).toNat, by rw [← tix_eq]; exact g.src c T r⟩ i) := by
  unfold xb
  rw [pay1_at]
  show hh m c (rix ⟨(word (bS m g c (pt m g T 0)) r).toNat % 8704, Nat.mod_lt _ (by decide)⟩ i) = _
  rw [rix_eq]
  have e : word (bS m g c (pt m g T 0)) r = V m c main_v113 (ix3 T 0 r) := by rw [bS_word, pt0, tix_eq]
  have hs := g.src c T r
  rw [tix_eq] at hs
  refine congrArg (fun n : Fin 8704 => hh m c (ix2 n i)) (Fin.ext ?_)
  show (word (bS m g c (pt m g T 0)) r).toNat % 8704 = _
  rw [e]
  exact Nat.mod_eq_of_lt hs

/-! ## A tile's accumulator -/

/-- What hidden unit `f` of the tile's expert contributes to an entry of the tile. -/
def hid (c : Dev nD) (T : Fin 42) (r : Fin 512) (k : Fin 2048) (f : Fin 4096) : EReal :=
  unit (∑ i : Fin 2048, xb m g c T (ix2 r i) * V m c main_arg3 (ix4 0 ⟨(ex m T).toNat, ex_lt m g T⟩ i f))
      (∑ i : Fin 2048, xb m g c T (ix2 r i) * V m c main_arg4 (ix4 0 ⟨(ex m T).toNat, ex_lt m g T⟩ i f))
    * V m c main_arg5 (ix4 0 ⟨(ex m T).toNat, ex_lt m g T⟩ f k)

/-- A valid tile's accumulator after `n` steps: the sum over the first `n` blocks of hidden units. -/
theorem accT_sum (c : Dev nD) (T : Fin 42) (hv : vT m T = 1#1) (r : Fin 512) (k : Fin 2048) : ∀ n (hn : n ≤ 8),
    (accT m g c T n (ix2 r k) : EReal) = ∑ j : Fin n, ∑ f : Fin 512, hid m g c T r k ⟨j.val * 512 + f.val, by omega⟩
  | 0, _ => by
    rw [accT, pay2_at]; rfl
  | n + 1, hn => by
    rw [accT, dif_pos (show n < 8 by omega), pay3_at, accT_sum c T hv r k n (by omega), Fin.sum_univ_castSucc]
    refine congrArg₂ (· + ·) rfl (Finset.sum_congr rfl fun f _ => ?_)
    rw [b2_at m g c T _ hv]
    simp only [b1_at m g c T _ hv, b3_at m g c T _ hv]
    rfl

theorem accT_all (c : Dev nD) (T : Fin 42) (hv : vT m T = 1#1) (r : Fin 512) (k : Fin 2048) :
    (accT m g c T 8 (ix2 r k) : EReal) = ∑ f : Fin 4096, hid m g c T r k f := by
  rw [accT_sum m g c T hv r k 8 (le_refl 8)]
  exact Fin.sum_mul_add_congr fun s f hl => rfl

end Cert.KernelE.Rows

end
-- ==== Proof.Result.lean ====
/-
  The result of the experts' kernel: with the tables as the host code makes them, every row of a pair is the reference's,
  and every other row is zero.
-/
module

public import proofs.«01_k».proof.Proof.Tiles

@[expose] public section

set_option maxRecDepth 16384

noncomputable section

namespace Cert.KernelE.Rows

open Idealize.ShloMosaic Idealize.ShloMosaic.TcCoe Idealize.ShloMosaic.Pipeline
open Gen
open Cert.ReferenceEIdeal.Experts (unit REF REF_pair REF_rest)

variable (m : (ℓ : Loc nD τ sig) → Buf (Elt Ideal) ℓ)

/-- The weight of a slot, in the index the result is read at. -/
theorem wgt_at (hx : Ranged m 0) (s : Fin 21504) : (V m 0 main_v115 (ix2 s 0) : EReal)
    = if Dispatch.real (pairE m 0) s.val then
        (m (((0 : Dev nD) : Thread nD τ).loc main_arg1) : S8704x2.Idx → EReal)
          (ix2 ⟨Dispatch.pr (pairE m 0) (order m 0) s.val % 8704, Nat.mod_lt _ (by decide)⟩
            ⟨Dispatch.pr (pairE m 0) (order m 0) s.val / 8704, by have := Dispatch.pr_lt (sorted hx) s.val; omega⟩)
      else (0 : EReal) := by
  refine ((congrArg (V m 0 main_v115) (i2 s (0 : Fin 1))).trans (v115_at hx s)).trans (if_congr Iff.rfl ?_ ?_)
  · exact congrArg (m (((0 : Dev nD) : Thread nD τ).loc main_arg1) : S8704x2.Idx → EReal) (i2 _ _).symm
  · exact Ideal.ofBits_zero_f32

/-- A slot of a pair: its tile is valid, its tile's expert is the pair's, and it reads the pair's token. -/
theorem slot_pair (hx : Ranged m 0) (T : Fin 42) (r : Fin 512) (t : Fin 8704) (κ : Fin 2) (hr : Dispatch.real (pairE m 0) (T.val * 512 + r.val))
    (hp : Dispatch.pr (pairE m 0) (order m 0) (T.val * 512 + r.val) = κ.val * 8704 + t.val) :
    vT m T = 1#1 ∧ ((m (((0 : Dev nD) : Thread nD τ).loc main_arg0) : S8704x2.Idx → BitVec 32) (ix2 t κ)).toNat = (ex m T).toNat
      ∧ (V m 0 main_v113 (ix3 T 0 r) : BitVec 32).toNat = t.val := by
  obtain ⟨hv, he⟩ := Dispatch.real_tile (sorted hx) _ hr
  have hd : (T.val * 512 + r.val) / 512 = T.val := by omega
  rw [hd] at hv he
  refine ⟨?_, ?_, ?_⟩
  · have en : nv m = V m 0 main_v112 (ix1 0) := congrArg (V m 0 main_v112) (show (_ : S1.Idx) = ix1 0 from funext fun (a : Fin 1) => by rw [Subsingleton.elim a 0]; rfl)
    have hn := nval_le (m := m) (c := 0)
    unfold vT
    rw [en, valid_word hx]
    exact (WordCmp.cmpi_slt_ofNat (by omega) (by omega)).trans (by rw [decide_eq_true hv]; rfl)
  · rw [show (ex m T).toNat = _ from tile_nat hx T, he, hp]
    exact ((congrArg (fun i => ((m (((0 : Dev nD) : Thread nD τ).loc main_arg0) : S8704x2.Idx → BitVec 32) i).toNat) (i2 t κ)).trans (pairE_at m 0 t κ).symm)
  · rw [src_nat hx]
    unfold Dispatch.src
    rw [if_pos hr, hp]
    omega

/-- THE RESULT of the kernel is the reference's term of its arguments. -/
theorem fin_eq (h : ∀ c, Routed m c = fun _ => 1#1) (c : Dev nD) : fin m (good_of m h) c = REF (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  obtain rfl : c = 0 := Subsingleton.elim _ _
  have hx := ranged_of m 0 (h 0)
  generalize good_of m h = g
  funext y
  obtain ⟨T, r, hR⟩ := drow_surj m g 0 (y 0)
  obtain ⟨k, ey⟩ : ∃ k : Fin 2048, y = rix (drow m g 0 T r) k := ⟨y 1, by
    rw [hR]; funext a; match a with
    | 0 => rfl
    | 1 => rfl⟩
  have hT := T.isLt
  have hr := r.isLt
  have eD : (drow m g 0 T r).val = Dispatch.dst (pairE m 0) (order m 0) (T.val * 512 + r.val) := by
    show (V m 0 main_v114 (tix T r) : BitVec 32).toNat = _
    rw [tix_eq, dst_nat hx]
  rw [ey, fin_row, rix_eq, rix_eq]
  unfold outT
  rw [pay4_at, pt0, bW_at, wgt_at m hx]
  by_cases hlt : (drow m g 0 T r).val < 17408
  · obtain ⟨hreal, hpr⟩ := Dispatch.row_real (sorted hx) (T.val * 512 + r.val) (eD ▸ hlt)
    rw [← eD] at hpr
    obtain ⟨hv, he, hs⟩ := slot_pair m hx T r ⟨(drow m g 0 T r).val % 8704, Nat.mod_lt _ (by decide)⟩ ⟨(drow m g 0 T r).val / 8704, by omega⟩ hreal
      (by rw [hpr]; show (drow m g 0 T r).val = (drow m g 0 T r).val / 8704 * 8704 + (drow m g 0 T r).val % 8704; omega)
    rw [REF_pair _ _ _ _ _ _ (drow m g 0 T r) k ⟨(drow m g 0 T r).val % 8704, Nat.mod_lt _ (by decide)⟩ ⟨(drow m g 0 T r).val / 8704, by omega⟩
      (by show (drow m g 0 T r).val = (drow m g 0 T r).val / 8704 * 8704 + (drow m g 0 T r).val % 8704; omega) ⟨(ex m T).toNat, ex_lt m g T⟩ he,
      if_pos (show Scalar.cmpi .slt (BitVec.ofNat 32 T.val) (nv m) = 1#1 from hv), if_pos hreal, accT_all m g 0 T hv, mul_comm]
    refine congrArg₂ _ ?_ (Finset.sum_congr rfl fun f _ => ?_)
    · simp only [hpr]
    · unfold hid
      have es : (⟨(V m 0 main_v113 (ix3 T 0 r) : BitVec 32).toNat, by rw [← tix_eq]; exact g.src 0 T r⟩ : Fin 8704) = ⟨(drow m g 0 T r).val % 8704, Nat.mod_lt _ (by decide)⟩ := Fin.ext hs
      simp only [xb_at]
      rw [es]
      simp only [hh, V_arg m 0 main_arg2 (by decide), V_arg m 0 main_arg3 (by decide), V_arg m 0 main_arg4 (by decide), V_arg m 0 main_arg5 (by decide)]
  · rw [REF_rest _ _ _ _ _ _ (drow m g 0 T r) k (by omega), if_neg (Dispatch.row_pad (sorted hx) (T.val * 512 + r.val) (by omega))]
    exact (if_congr Iff.rfl (mul_zero (_ : EReal)) rfl).trans (ite_self _)

end Cert.KernelE.Rows

end
-- ==== Proof.Same.lean ====
/-
  The experts' kernel and its idealization are one text: at the extended reals their definitions agree, so what is proved of
  a run of the one holds of the other.
-/
module

public import proofs.«01_k».proof.Proof.Run
public import proofs.«01_k».proof.Proof.Result
public import proofs.«01_k».proof.Proof.Gen.KernelEIdeal.Launch
public import Idealize.ShloMosaic.PureOps.Ideal

@[expose] public section

set_option maxRecDepth 100000
set_option maxHeartbeats 4000000

noncomputable section

namespace Cert.KernelEIdeal.Same

open Idealize.ShloMosaic Idealize.SL.Sem

/-! The host operations before the launch, stretch by stretch. -/

theorem e_hostOps0 : Cert.KernelEIdeal.Gen.hostOps0 (F := Ideal) = Cert.KernelE.Gen.hostOps0 (F := Ideal) := rfl
theorem e_hostOps0_1 : Cert.KernelEIdeal.Gen.hostOps0_1 (F := Ideal) = Cert.KernelE.Gen.hostOps0_1 (F := Ideal) := rfl
theorem e_hostOps0_2 : Cert.KernelEIdeal.Gen.hostOps0_2 (F := Ideal) = Cert.KernelE.Gen.hostOps0_2 (F := Ideal) := rfl
theorem e_hostOps0_3 : Cert.KernelEIdeal.Gen.hostOps0_3 (F := Ideal) = Cert.KernelE.Gen.hostOps0_3 (F := Ideal) := rfl
theorem e_hostOps0_4 : Cert.KernelEIdeal.Gen.hostOps0_4 (F := Ideal) = Cert.KernelE.Gen.hostOps0_4 (F := Ideal) := rfl
theorem e_hostOps0_5 : Cert.KernelEIdeal.Gen.hostOps0_5 (F := Ideal) = Cert.KernelE.Gen.hostOps0_5 (F := Ideal) := rfl
theorem e_hostOps0_6 : Cert.KernelEIdeal.Gen.hostOps0_6 (F := Ideal) = Cert.KernelE.Gen.hostOps0_6 (F := Ideal) := rfl
theorem e_hostOps0_7 : Cert.KernelEIdeal.Gen.hostOps0_7 (F := Ideal) = Cert.KernelE.Gen.hostOps0_7 (F := Ideal) := rfl
theorem e_hostOps0_8 : Cert.KernelEIdeal.Gen.hostOps0_8 (F := Ideal) = Cert.KernelE.Gen.hostOps0_8 (F := Ideal) := rfl
theorem e_hostOps0_9 : Cert.KernelEIdeal.Gen.hostOps0_9 (F := Ideal) = Cert.KernelE.Gen.hostOps0_9 (F := Ideal) := rfl
theorem e_hostOps0_10 : Cert.KernelEIdeal.Gen.hostOps0_10 (F := Ideal) = Cert.KernelE.Gen.hostOps0_10 (F := Ideal) := rfl
theorem e_hostOps0_11 : Cert.KernelEIdeal.Gen.hostOps0_11 (F := Ideal) = Cert.KernelE.Gen.hostOps0_11 (F := Ideal) := rfl
theorem e_hostOps0_12 : Cert.KernelEIdeal.Gen.hostOps0_12 (F := Ideal) = Cert.KernelE.Gen.hostOps0_12 (F := Ideal) := rfl
theorem e_hostOps0_13 : Cert.KernelEIdeal.Gen.hostOps0_13 (F := Ideal) = Cert.KernelE.Gen.hostOps0_13 (F := Ideal) := rfl
theorem e_hostOps0_14 : Cert.KernelEIdeal.Gen.hostOps0_14 (F := Ideal) = Cert.KernelE.Gen.hostOps0_14 (F := Ideal) := rfl
theorem e_hostOps0_15 : Cert.KernelEIdeal.Gen.hostOps0_15 (F := Ideal) = Cert.KernelE.Gen.hostOps0_15 (F := Ideal) := rfl
theorem e_hostOps0_16 : Cert.KernelEIdeal.Gen.hostOps0_16 (F := Ideal) = Cert.KernelE.Gen.hostOps0_16 (F := Ideal) := rfl
theorem e_hostOps0_17 : Cert.KernelEIdeal.Gen.hostOps0_17 (F := Ideal) = Cert.KernelE.Gen.hostOps0_17 (F := Ideal) := rfl
theorem e_hostOps0_18 : Cert.KernelEIdeal.Gen.hostOps0_18 (F := Ideal) = Cert.KernelE.Gen.hostOps0_18 (F := Ideal) := rfl
theorem e_hostOps0_19 : Cert.KernelEIdeal.Gen.hostOps0_19 (F := Ideal) = Cert.KernelE.Gen.hostOps0_19 (F := Ideal) := rfl
theorem e_hostOps0_20 : Cert.KernelEIdeal.Gen.hostOps0_20 (F := Ideal) = Cert.KernelE.Gen.hostOps0_20 (F := Ideal) := rfl
theorem e_hostOps0_21 : Cert.KernelEIdeal.Gen.hostOps0_21 (F := Ideal) = Cert.KernelE.Gen.hostOps0_21 (F := Ideal) := rfl

theorem stretches : ([Cert.KernelEIdeal.Gen.hostOps0 (F := Ideal), Cert.KernelEIdeal.Gen.hostOps0_1 (F := Ideal), Cert.KernelEIdeal.Gen.hostOps0_2 (F := Ideal), Cert.KernelEIdeal.Gen.hostOps0_3 (F := Ideal), Cert.KernelEIdeal.Gen.hostOps0_4 (F := Ideal), Cert.KernelEIdeal.Gen.hostOps0_5 (F := Ideal), Cert.KernelEIdeal.Gen.hostOps0_6 (F := Ideal), Cert.KernelEIdeal.Gen.hostOps0_7 (F := Ideal), Cert.KernelEIdeal.Gen.hostOps0_8 (F := Ideal), Cert.KernelEIdeal.Gen.hostOps0_9 (F := Ideal), Cert.KernelEIdeal.Gen.hostOps0_10 (F := Ideal), Cert.KernelEIdeal.Gen.hostOps0_11 (F := Ideal), Cert.KernelEIdeal.Gen.hostOps0_12 (F := Ideal), Cert.KernelEIdeal.Gen.hostOps0_13 (F := Ideal), Cert.KernelEIdeal.Gen.hostOps0_14 (F := Ideal), Cert.KernelEIdeal.Gen.hostOps0_15 (F := Ideal), Cert.KernelEIdeal.Gen.hostOps0_16 (F := Ideal), Cert.KernelEIdeal.Gen.hostOps0_17 (F := Ideal), Cert.KernelEIdeal.Gen.hostOps0_18 (F := Ideal), Cert.KernelEIdeal.Gen.hostOps0_19 (F := Ideal), Cert.KernelEIdeal.Gen.hostOps0_20 (F := Ideal), Cert.KernelEIdeal.Gen.hostOps0_21 (F := Ideal)] : List (List (HloOp Cert.KernelEIdeal.τ Cert.KernelEIdeal.sig (Elt Ideal))))
    = [Cert.KernelE.Gen.hostOps0 (F := Ideal), Cert.KernelE.Gen.hostOps0_1 (F := Ideal), Cert.KernelE.Gen.hostOps0_2 (F := Ideal), Cert.KernelE.Gen.hostOps0_3 (F := Ideal), Cert.KernelE.Gen.hostOps0_4 (F := Ideal), Cert.KernelE.Gen.hostOps0_5 (F := Ideal), Cert.KernelE.Gen.hostOps0_6 (F := Ideal), Cert.KernelE.Gen.hostOps0_7 (F := Ideal), Cert.KernelE.Gen.hostOps0_8 (F := Ideal), Cert.KernelE.Gen.hostOps0_9 (F := Ideal), Cert.KernelE.Gen.hostOps0_10 (F := Ideal), Cert.KernelE.Gen.hostOps0_11 (F := Ideal), Cert.KernelE.Gen.hostOps0_12 (F := Ideal), Cert.KernelE.Gen.hostOps0_13 (F := Ideal), Cert.KernelE.Gen.hostOps0_14 (F := Ideal), Cert.KernelE.Gen.hostOps0_15 (F := Ideal), Cert.KernelE.Gen.hostOps0_16 (F := Ideal), Cert.KernelE.Gen.hostOps0_17 (F := Ideal), Cert.KernelE.Gen.hostOps0_18 (F := Ideal), Cert.KernelE.Gen.hostOps0_19 (F := Ideal), Cert.KernelE.Gen.hostOps0_20 (F := Ideal), Cert.KernelE.Gen.hostOps0_21 (F := Ideal)] :=
  congrArg₂ List.cons e_hostOps0 (congrArg₂ List.cons e_hostOps0_1 (congrArg₂ List.cons e_hostOps0_2 (congrArg₂ List.cons e_hostOps0_3 (congrArg₂ List.cons e_hostOps0_4 (congrArg₂ List.cons e_hostOps0_5 (congrArg₂ List.cons e_hostOps0_6 (congrArg₂ List.cons e_hostOps0_7 (congrArg₂ List.cons e_hostOps0_8 (congrArg₂ List.cons e_hostOps0_9 (congrArg₂ List.cons e_hostOps0_10 (congrArg₂ List.cons e_hostOps0_11 (congrArg₂ List.cons e_hostOps0_12 (congrArg₂ List.cons e_hostOps0_13 (congrArg₂ List.cons e_hostOps0_14 (congrArg₂ List.cons e_hostOps0_15 (congrArg₂ List.cons e_hostOps0_16 (congrArg₂ List.cons e_hostOps0_17 (congrArg₂ List.cons e_hostOps0_18 (congrArg₂ List.cons e_hostOps0_19 (congrArg₂ List.cons e_hostOps0_20 (congrArg₂ List.cons e_hostOps0_21 (rfl))))))))))))))))))))))

/-- The stretches in a row, and the launch. -/
def whole (L : List (List (HloOp Cert.KernelEIdeal.τ Cert.KernelEIdeal.sig (Elt Ideal)))) :
    Prog (TpuEff Cert.KernelEIdeal.nD Cert.KernelEIdeal.τ Cert.KernelEIdeal.sig (Elt Ideal)
      (Pipeline.Sig Cert.KernelEIdeal.Λ₀ (Fin 1) fun p => (Cert.KernelEIdeal.pcfgs (F := Ideal) p).Adm) .tc) PUnit :=
  Pipeline.chain (L.map StableHlo.seq ++ [Prog.lift (.customCall (Pipeline.entry 0) ())])

theorem main_eq : Cert.KernelEIdeal.main (F := Ideal) = Cert.KernelE.main (F := Ideal) := by
  funext c
  refine (Cert.KernelEIdeal.Gen.main_chain c).trans (Eq.trans ?_ (Cert.KernelE.Gen.main_chain c).symm)
  exact congrArg whole stretches

section
variable [h : Cert.KernelE.Facts] [h' : Cert.KernelEIdeal.Facts]

theorem defs0_eq : Cert.KernelEIdeal.defs₀ (F := Ideal) = Cert.KernelE.defs₀ (F := Ideal) := by
  unfold Cert.KernelEIdeal.defs₀ Cert.KernelE.defs₀
  congr 1
  funext l a
  match l, a with
  | 0, (t, s) => rfl

theorem defs_eq : Cert.KernelEIdeal.defs (F := Ideal) = Cert.KernelE.defs (F := Ideal) := by
  unfold Cert.KernelEIdeal.defs Cert.KernelE.defs
  exact congrArg (Idealize.ShloMosaic.Pipeline.defs _) defs0_eq
end

open Cert.KernelEIdeal Cert.KernelEIdeal.Gen

variable (m : (ℓ : Loc nD τ sig) → Buf (Elt Ideal) ℓ) (ρ : Dev nD → PrngReg)
  (g : ∀ c, Cert.KernelE.Rows.Routed (F := Ideal) m c = fun _ => 1#1)

include g in
/-- The idealization's run: the arguments unchanged, the result the reference's term of them, the semaphores at zero. -/
theorem run : θ_run (defs (F := Ideal)) (onTc (τ := τ) (main (F := Ideal))) ⟨m, fun _ => 0, ρ⟩ (fun r => (∀ c : Dev nD,
      r.2.mem ((c.tc : Thread nD τ).loc main_v116) = Cert.ReferenceEIdeal.Experts.REF (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [main_eq, defs_eq]
  exact (θ_run _ _ _).mono (fun r h => ⟨fun c => ⟨(h.1 c).1.trans (Cert.KernelE.Rows.fin_eq m g c), (h.1 c).2⟩, h.2⟩)
    (Cert.KernelE.Rows.run m ρ (Cert.KernelE.Rows.good_of m g))

end Cert.KernelEIdeal.Same

end
-- ==== Proof.lean ====
/- The proof of the claims (Defs.lean). Each frame is the program's generated run; each algebraic claim puts the
   kernel's run, its result array read by the value modules beside this one, next to the reference's run. -/
module

public import proofs.«01_k».proof.Defs
public import proofs.«01_k».proof.Proof.Gen.Kernel.Frame
public import proofs.«01_k».proof.Proof.Gen.KernelB.Frame
public import proofs.«01_k».proof.Proof.Gen.KernelBIdeal.Value
public import proofs.«01_k».proof.Proof.Gen.KernelD.Frame
public import proofs.«01_k».proof.Proof.Gen.KernelDIdeal.Value
public import proofs.«01_k».proof.Proof.Gen.KernelIdeal.Value
public import proofs.«01_k».proof.Proof.InProj
public import proofs.«01_k».proof.Proof.InProjB
public import proofs.«01_k».proof.Proof.InProjD
public import proofs.«01_k».proof.Proof.Gen.ReferenceBIdeal.Run
public import proofs.«01_k».proof.Proof.Gen.ReferenceDIdeal.Run
public import proofs.«01_k».proof.Proof.Gen.ReferenceIdeal.Run
public import proofs.«01_k».proof.Proof.Branch
public import proofs.«01_k».proof.Proof.Gen.KernelM.Frame
public import proofs.«01_k».proof.Proof.Gen.KernelMIdeal.Value
public import proofs.«01_k».proof.Proof.Gen.ReferenceMIdeal.Run
public import proofs.«01_k».proof.Proof.OutProj
public import proofs.«01_k».proof.Proof.Gen.KernelO.Frame
public import proofs.«01_k».proof.Proof.Gen.KernelOIdeal.Value
public import proofs.«01_k».proof.Proof.Gen.ReferenceOIdeal.Run
public import proofs.«01_k».proof.Proof.DenseFfn
public import proofs.«01_k».proof.Proof.Gen.KernelF.Frame
public import proofs.«01_k».proof.Proof.Gen.KernelFIdeal.Value
public import proofs.«01_k».proof.Proof.Gen.ReferenceFIdeal.Run
public import proofs.«01_k».proof.Proof.Run
public import proofs.«01_k».proof.Proof.Routed
public import proofs.«01_k».proof.Proof.Tiles
public import proofs.«01_k».proof.Proof.Same
public import proofs.«01_k».proof.Proof.Gen.KernelEIdeal.Launch
public import proofs.«01_k».proof.Proof.Gen.ReferenceEIdeal.Run
public import proofs.«01_k».proof.Proof.Gen.Pre_routed
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceBIdeal : quiescent_ReferenceBIdeal := fun m ρ _ =>
  (θ_run Cert.ReferenceBIdeal.defs _ _).mono (fun r h => ⟨fun c => (h c).2, sem_eq_zero_of_no_sems (by decide) r.2⟩)
    (Cert.ReferenceBIdeal.Value.run (F := Ideal) m ρ)

theorem quiescent_ReferenceDIdeal : quiescent_ReferenceDIdeal := fun m ρ _ =>
  (θ_run Cert.ReferenceDIdeal.defs _ _).mono (fun r h => ⟨fun c => (h c).2, sem_eq_zero_of_no_sems (by decide) r.2⟩)
    (Cert.ReferenceDIdeal.Value.run (F := Ideal) m ρ)

theorem quiescent_ReferenceMIdeal : quiescent_ReferenceMIdeal := fun m ρ _ =>
  (θ_run Cert.ReferenceMIdeal.defs _ _).mono (fun r h => ⟨fun c => (h c).2, sem_eq_zero_of_no_sems (by decide) r.2⟩)
    (Cert.ReferenceMIdeal.Value.run (F := Ideal) m ρ)

theorem quiescent_ReferenceOIdeal : quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

theorem quiescent_ReferenceFIdeal : quiescent_ReferenceFIdeal := fun m ρ _ =>
  (θ_run Cert.ReferenceFIdeal.defs _ _).mono (fun r h => ⟨fun c => (h c).2, sem_eq_zero_of_no_sems (by decide) r.2⟩)
    (Cert.ReferenceFIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2]
  exact ((Cert.KernelIdeal.Value.final2 m c).symm.trans (Cert.KernelIdeal.InProj.final m c)).symm

theorem algebraic_KernelBIdeal_ReferenceBIdeal : algebraic_KernelBIdeal_ReferenceBIdeal := by
  intro m ρ m' ρ' _ hagree
  refine ⟨_, Cert.KernelBIdeal.Value.run (F := Ideal) m ρ, ?_⟩
  refine (θ_run Cert.ReferenceBIdeal.defs _ _).mono (fun _ h c => ⟨?_, (h c).2⟩) (Cert.ReferenceBIdeal.Value.run (F := Ideal) m' ρ')
  rw [(h c).1, (hagree c).1, (hagree c).2.1, (hagree c).2.2]
  exact ((Cert.KernelBIdeal.Value.final2 m c).symm.trans (Cert.KernelBIdeal.InProj.final m c)).symm

theorem algebraic_KernelDIdeal_ReferenceDIdeal : algebraic_KernelDIdeal_ReferenceDIdeal := by
  intro m ρ m' ρ' _ hagree
  refine ⟨_, Cert.KernelDIdeal.Value.run (F := Ideal) m ρ, ?_⟩
  refine (θ_run Cert.ReferenceDIdeal.defs _ _).mono (fun _ h c => ⟨?_, (h c).2⟩) (Cert.ReferenceDIdeal.Value.run (F := Ideal) m' ρ')
  rw [(h c).1, (hagree c).1, (hagree c).2.1, (hagree c).2.2]
  exact ((Cert.KernelDIdeal.Value.final2 m c).symm.trans (Cert.KernelDIdeal.InProj.final m c)).symm

theorem algebraic_KernelMIdeal_ReferenceMIdeal : algebraic_KernelMIdeal_ReferenceMIdeal := by
  intro m ρ m' ρ' _ hagree
  refine ⟨_, Cert.KernelMIdeal.Value.run_blocks (F := Ideal) m ρ, ?_⟩
  refine (θ_run Cert.ReferenceMIdeal.defs _ _).mono (fun _ h c => ⟨?_, (h c).2⟩) (Cert.ReferenceMIdeal.Value.run (F := Ideal) m' ρ')
  rw [(h c).1, (hagree c).1, (hagree c).2.1, (hagree c).2.2.1, (hagree c).2.2.2.1, (hagree c).2.2.2.2]
  exact (Cert.KernelMIdeal.Branch.final m c).symm

theorem algebraic_KernelOIdeal_ReferenceOIdeal : algebraic_KernelOIdeal_ReferenceOIdeal := by
  intro m ρ m' ρ' _ hagree
  refine ⟨_, Cert.KernelOIdeal.Value.run (F := Ideal) m ρ, ?_⟩
  refine (θ_run Cert.ReferenceOIdeal.defs _ _).mono (fun _ h c => ⟨?_, (h c).2⟩) (Cert.ReferenceOIdeal.Value.run (F := Ideal) m' ρ')
  rw [(h c).1, (hagree c).1, (hagree c).2]
  exact ((Cert.KernelOIdeal.Value.final2 m c).symm.trans (Cert.KernelOIdeal.OutProj.final m c)).symm

theorem algebraic_KernelFIdeal_ReferenceFIdeal : algebraic_KernelFIdeal_ReferenceFIdeal := by
  intro m ρ m' ρ' _ hagree
  refine ⟨_, Cert.KernelFIdeal.Value.run (F := Ideal) m ρ, ?_⟩
  refine (θ_run Cert.ReferenceFIdeal.defs _ _).mono (fun _ h c => ⟨?_, (h c).2⟩) (Cert.ReferenceFIdeal.Value.run (F := Ideal) m' ρ')
  rw [(h c).1, (hagree c).1, (hagree c).2.1, (hagree c).2.2.1, (hagree c).2.2.2]
  exact ((Cert.KernelFIdeal.Value.final4 m c).symm.trans (Cert.KernelFIdeal.DenseFfn.final m c)).symm

theorem quiescent_KernelE : quiescent_KernelE := fun m ρ h =>
  (θ_run Cert.KernelE.defs _ _).mono (fun r h => ⟨fun c => (h.1 c).2, h.2⟩) (Cert.KernelE.Rows.run (F := Bits) m ρ (Cert.KernelE.Rows.good_of m h))

theorem quiescent_KernelEIdeal : quiescent_KernelEIdeal := fun m ρ h =>
  (θ_run Cert.KernelEIdeal.defs _ _).mono (fun r h => ⟨fun c => (h.1 c).2, h.2⟩)
    (Cert.KernelEIdeal.Same.run m ρ h)

theorem quiescent_ReferenceEIdeal : quiescent_ReferenceEIdeal := fun m ρ _ =>
  (θ_run Cert.ReferenceEIdeal.defs _ _).mono (fun r h => ⟨fun c => (h c).2, sem_eq_zero_of_no_sems (by decide) r.2⟩)
    (Cert.ReferenceEIdeal.Value.run (F := Ideal) m ρ)

theorem algebraic_KernelEIdeal_ReferenceEIdeal : algebraic_KernelEIdeal_ReferenceEIdeal := by
  intro m ρ m' ρ' h hagree
  refine ⟨_, (θ_run Cert.KernelEIdeal.defs _ _).mono (fun r h => h.1) (Cert.KernelEIdeal.Same.run m ρ h), ?_⟩
  refine (θ_run Cert.ReferenceEIdeal.defs _ _).mono (fun _ h c => ⟨?_, (h c).2⟩) (Cert.ReferenceEIdeal.Value.run (F := Ideal) m' ρ')
  obtain ⟨h0, h1, h2, h3, h4, h5⟩ := hagree c
  rw [(h c).1, Cert.ReferenceEIdeal.Experts.res_eq, h0, h1, h2, h3, h4, h5]

theorem claim : Cert.Claim := ⟨Cert.Kernel.Gen.facts, Cert.KernelIdeal.Gen.facts, Cert.ReferenceIdeal.Gen.facts, Cert.KernelB.Gen.facts, Cert.KernelBIdeal.Gen.facts, Cert.ReferenceBIdeal.Gen.facts, Cert.KernelD.Gen.facts, Cert.KernelDIdeal.Gen.facts, Cert.ReferenceDIdeal.Gen.facts, Cert.KernelM.Gen.facts, Cert.KernelMIdeal.Gen.facts, Cert.ReferenceMIdeal.Gen.facts, Cert.KernelO.Gen.facts, Cert.KernelOIdeal.Gen.facts, Cert.ReferenceOIdeal.Gen.facts, Cert.KernelF.Gen.facts, Cert.KernelFIdeal.Gen.facts, Cert.ReferenceFIdeal.Gen.facts, Cert.KernelE.Gen.facts, Cert.KernelEIdeal.Gen.facts, Cert.ReferenceEIdeal.Gen.facts, Cert.Pre_routed.Gen.facts,
  fun m ρ _ => Cert.Kernel.Gen.frame m ρ, fun m ρ _ => Cert.KernelIdeal.Gen.frame m ρ, quiescent_ReferenceIdeal, fun m ρ _ => Cert.KernelB.Gen.frame m ρ, fun m ρ _ => Cert.KernelBIdeal.Gen.frame m ρ, quiescent_ReferenceBIdeal, fun m ρ _ => Cert.KernelD.Gen.frame m ρ, fun m ρ _ => Cert.KernelDIdeal.Gen.frame m ρ, quiescent_ReferenceDIdeal, fun m ρ _ => Cert.KernelM.Gen.frame m ρ, fun m ρ _ => Cert.KernelMIdeal.Gen.frame m ρ, quiescent_ReferenceMIdeal, fun m ρ _ => Cert.KernelO.Gen.frame m ρ, fun m ρ _ => Cert.KernelOIdeal.Gen.frame m ρ, quiescent_ReferenceOIdeal, fun m ρ _ => Cert.KernelF.Gen.frame m ρ, fun m ρ _ => Cert.KernelFIdeal.Gen.frame m ρ, quiescent_ReferenceFIdeal, quiescent_KernelE, quiescent_KernelEIdeal, quiescent_ReferenceEIdeal, fun m ρ _ => quiescent_ReferenceEIdeal m ρ trivial, (trivial : preserves_Kernel_KernelIdeal), algebraic_KernelIdeal_ReferenceIdeal, (trivial : preserves_KernelB_KernelBIdeal), algebraic_KernelBIdeal_ReferenceBIdeal, (trivial : preserves_KernelD_KernelDIdeal), algebraic_KernelDIdeal_ReferenceDIdeal, (trivial : preserves_KernelM_KernelMIdeal), algebraic_KernelMIdeal_ReferenceMIdeal, (trivial : preserves_KernelO_KernelOIdeal), algebraic_KernelOIdeal_ReferenceOIdeal, (trivial : preserves_KernelF_KernelFIdeal), algebraic_KernelFIdeal_ReferenceFIdeal, (trivial : preserves_KernelE_KernelEIdeal), algebraic_KernelEIdeal_ReferenceEIdeal⟩

end Cert.Proof

end
